-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![32768, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S2x1024x128 : Shape := ⟨3, ![2, 1024, 128]⟩
abbrev S15x2x1024x128 : Shape := ⟨4, ![15, 2, 1024, 128]⟩
abbrev S15x2x2 : Shape := ⟨3, ![15, 2, 2]⟩
abbrev S_ : Shape := ⟨0, ![]⟩
abbrev S256x128 : Shape := ⟨2, ![256, 128]⟩
abbrev S1x256x128 : Shape := ⟨3, ![1, 256, 128]⟩
abbrev S128x2x1x128 : Shape := ⟨4, ![128, 2, 1, 128]⟩
abbrev S128x1x1x128 : Shape := ⟨4, ![128, 1, 1, 128]⟩
abbrev S128x1x128 : Shape := ⟨3, ![128, 1, 128]⟩
abbrev S128x1x1 : Shape := ⟨3, ![128, 1, 1]⟩
abbrev S64x2x2x128 : Shape := ⟨4, ![64, 2, 2, 128]⟩
abbrev S64x1x2x128 : Shape := ⟨4, ![64, 1, 2, 128]⟩
abbrev S64x2x128 : Shape := ⟨3, ![64, 2, 128]⟩
abbrev S64x1x1 : Shape := ⟨3, ![64, 1, 1]⟩
abbrev S32x2x4x128 : Shape := ⟨4, ![32, 2, 4, 128]⟩
abbrev S32x1x4x128 : Shape := ⟨4, ![32, 1, 4, 128]⟩
abbrev S32x4x128 : Shape := ⟨3, ![32, 4, 128]⟩
abbrev S32x1x1 : Shape := ⟨3, ![32, 1, 1]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x1x1 : Shape := ⟨3, ![16, 1, 1]⟩
abbrev S1x16x128 : Shape := ⟨3, ![1, 16, 128]⟩
abbrev S16x128 : Shape := ⟨2, ![16, 128]⟩
abbrev S1x32x128 : Shape := ⟨3, ![1, 32, 128]⟩
abbrev S32x128 : Shape := ⟨2, ![32, 128]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S1x1x1 : Shape := ⟨3, ![1, 1, 1]⟩
abbrev S1x1x512x128 : Shape := ⟨4, ![1, 1, 512, 128]⟩
abbrev S512x128 : Shape := ⟨2, ![512, 128]⟩
abbrev S1x512x128 : Shape := ⟨3, ![1, 512, 128]⟩
abbrev S256x1 : Shape := ⟨2, ![256, 1]⟩
abbrev S248x128 : Shape := ⟨2, ![248, 128]⟩
abbrev S8x128 : Shape := ⟨2, ![8, 128]⟩
abbrev S252x128 : Shape := ⟨2, ![252, 128]⟩
abbrev S4x128 : Shape := ⟨2, ![4, 128]⟩
abbrev S254x128 : Shape := ⟨2, ![254, 128]⟩
abbrev S2x128 : Shape := ⟨2, ![2, 128]⟩
abbrev S255x128 : Shape := ⟨2, ![255, 128]⟩
abbrev S1x128 : Shape := ⟨2, ![1, 128]⟩

abbrev nBuf : Space → Nat
  | .hbm => 2
  | .vmem => 4
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S2x1024x128, .bf16⟩
  | .local _ .vmem, ⟨3, _⟩ => ⟨S15x2x1024x128, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 2 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.xori v2 c1_i32_0
  let c1_i32_2 : BitVec 32 := 1#32
  let v6 : BitVec 32 := Scalar.muli v5 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.xori v2 c2_i32
  let c1_i32_4 : BitVec 32 := 1#32
  let v9 : BitVec 32 := Scalar.muli v8 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v11 : BitVec 32 := Scalar.xori v2 c4_i32
  let c1_i32_7 : BitVec 32 := 1#32
  let v12 : BitVec 32 := Scalar.muli v11 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.xori v2 c8_i32
  let c1_i32_10 : BitVec 32 := 1#32
  let v15 : BitVec 32 := Scalar.muli v14 c1_i32_10
  let v16 : BitVec 32 := Scalar.addi c0_i32_11 v15
  v16.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v17 : BitVec 32 := Scalar.xori v2 c16_i32
  let c1_i32_13 : BitVec 32 := 1#32
  let v18 : BitVec 32 := Scalar.muli v17 c1_i32_13
  let v19 : BitVec 32 := Scalar.addi c0_i32_14 v18
  v19.toNat
@[reducible] def k0_t1_loop : Scf.Loop 32 :=
  let c0_i32_31 : BitVec 32 := 0#32
  let c4_i32_32 : BitVec 32 := 4#32
  let v44 : BitVec 32 := Scalar.addi c0_i32_31 c4_i32_32
  let c1_i32_33 : BitVec 32 := 1#32
  ⟨c0_i32_31, v44, c1_i32_33⟩
def k0_off1 (k0_t1 : Fin k0_t1_loop.trips) : Fin 3 → Nat :=
  let c0_5325 : Index := 0#32
  let c0_i32_31 : BitVec 32 := 0#32
  let c1_i32_33 : BitVec 32 := 1#32
  let arg6 : BitVec 32 := Scf.iv c0_i32_31 c1_i32_33 k0_t1
  let c256_i32 : BitVec 32 := 256#32
  let v10740 : BitVec 32 := Scalar.muli arg6 c256_i32
  let v10741 : Index := Scalar.indexCast v10740
  let c0_5326 : Index := 0#32
  ![0, v10741.toNat, 0]
@[reducible] def k0_t2_loop : Scf.Loop 32 :=
  let c0_i32_35 : BitVec 32 := 0#32
  let c4_i32_36 : BitVec 32 := 4#32
  let v45 : BitVec 32 := Scalar.addi c0_i32_35 c4_i32_36
  let c1_i32_37 : BitVec 32 := 1#32
  ⟨c0_i32_35, v45, c1_i32_37⟩
def k0_off2 (k0_t2 : Fin k0_t2_loop.trips) : Fin 3 → Nat :=
  let c0_5325 : Index := 0#32
  let c0_i32_35 : BitVec 32 := 0#32
  let c1_i32_37 : BitVec 32 := 1#32
  let arg6 : BitVec 32 := Scf.iv c0_i32_35 c1_i32_37 k0_t2
  let c256_i32 : BitVec 32 := 256#32
  let v10740 : BitVec 32 := Scalar.muli arg6 c256_i32
  let v10741 : Index := Scalar.indexCast v10740
  let c0_5326 : Index := 0#32
  ![0, v10741.toNat, 0]
@[reducible] def k0_t3_loop : Scf.Loop 32 :=
  let c0_i32_39 : BitVec 32 := 0#32
  let c4_i32_40 : BitVec 32 := 4#32
  let v46 : BitVec 32 := Scalar.addi c0_i32_39 c4_i32_40
  let c1_i32_41 : BitVec 32 := 1#32
  ⟨c0_i32_39, v46, c1_i32_41⟩
def k0_off3 (k0_t3 : Fin k0_t3_loop.trips) : Fin 3 → Nat :=
  let c0_5325 : Index := 0#32
  let c0_i32_39 : BitVec 32 := 0#32
  let c1_i32_41 : BitVec 32 := 1#32
  let arg6 : BitVec 32 := Scf.iv c0_i32_39 c1_i32_41 k0_t3
  let c256_i32 : BitVec 32 := 256#32
  let v10740 : BitVec 32 := Scalar.muli arg6 c256_i32
  let v10741 : Index := Scalar.indexCast v10740
  let c0_5326 : Index := 0#32
  ![0, v10741.toNat, 0]
@[reducible] def k0_t4_loop : Scf.Loop 32 :=
  let c0_i32_43 : BitVec 32 := 0#32
  let c4_i32_44 : BitVec 32 := 4#32
  let v47 : BitVec 32 := Scalar.addi c0_i32_43 c4_i32_44
  let c1_i32_45 : BitVec 32 := 1#32
  ⟨c0_i32_43, v47, c1_i32_45⟩
def k0_off4 (k0_t4 : Fin k0_t4_loop.trips) : Fin 3 → Nat :=
  let c0_5325 : Index := 0#32
  let c0_i32_43 : BitVec 32 := 0#32
  let c1_i32_45 : BitVec 32 := 1#32
  let arg6 : BitVec 32 := Scf.iv c0_i32_43 c1_i32_45 k0_t4
  let c256_i32 : BitVec 32 := 256#32
  let v10740 : BitVec 32 := Scalar.muli arg6 c256_i32
  let v10741 : Index := Scalar.indexCast v10740
  let c0_5326 : Index := 0#32
  ![0, v10741.toNat, 0]
@[reducible] def k0_t5_loop : Scf.Loop 32 :=
  let c0_i32_47 : BitVec 32 := 0#32
  let c4_i32_48 : BitVec 32 := 4#32
  let v48 : BitVec 32 := Scalar.addi c0_i32_47 c4_i32_48
  let c1_i32_49 : BitVec 32 := 1#32
  ⟨c0_i32_47, v48, c1_i32_49⟩
def k0_off5 (k0_t5 : Fin k0_t5_loop.trips) : Fin 3 → Nat :=
  let c0_5325 : Index := 0#32
  let c0_i32_47 : BitVec 32 := 0#32
  let c1_i32_49 : BitVec 32 := 1#32
  let arg6 : BitVec 32 := Scf.iv c0_i32_47 c1_i32_49 k0_t5
  let c256_i32 : BitVec 32 := 256#32
  let v10740 : BitVec 32 := Scalar.muli arg6 c256_i32
  let v10741 : Index := Scalar.indexCast v10740
  let c0_5326 : Index := 0#32
  ![0, v10741.toNat, 0]
@[reducible] def k0_t6_loop : Scf.Loop 32 :=
  let c0_i32_51 : BitVec 32 := 0#32
  let c4_i32_52 : BitVec 32 := 4#32
  let v49 : BitVec 32 := Scalar.addi c0_i32_51 c4_i32_52
  let c1_i32_53 : BitVec 32 := 1#32
  ⟨c0_i32_51, v49, c1_i32_53⟩
def k0_off6 (k0_t6 : Fin k0_t6_loop.trips) : Fin 3 → Nat :=
  let c0_5325 : Index := 0#32
  let c0_i32_51 : BitVec 32 := 0#32
  let c1_i32_53 : BitVec 32 := 1#32
  let arg6 : BitVec 32 := Scf.iv c0_i32_51 c1_i32_53 k0_t6
  let c256_i32 : BitVec 32 := 256#32
  let v10740 : BitVec 32 := Scalar.muli arg6 c256_i32
  let v10741 : Index := Scalar.indexCast v10740
  let c0_5326 : Index := 0#32
  ![0, v10741.toNat, 0]
@[reducible] def k0_t7_loop : Scf.Loop 32 :=
  let c0_i32_55 : BitVec 32 := 0#32
  let c4_i32_56 : BitVec 32 := 4#32
  let v50 : BitVec 32 := Scalar.addi c0_i32_55 c4_i32_56
  let c1_i32_57 : BitVec 32 := 1#32
  ⟨c0_i32_55, v50, c1_i32_57⟩
def k0_off7 (k0_t7 : Fin k0_t7_loop.trips) : Fin 3 → Nat :=
  let c0_5325 : Index := 0#32
  let c0_i32_55 : BitVec 32 := 0#32
  let c1_i32_57 : BitVec 32 := 1#32
  let arg6 : BitVec 32 := Scf.iv c0_i32_55 c1_i32_57 k0_t7
  let c256_i32 : BitVec 32 := 256#32
  let v10740 : BitVec 32 := Scalar.muli arg6 c256_i32
  let v10741 : Index := Scalar.indexCast v10740
  let c0_5326 : Index := 0#32
  ![0, v10741.toNat, 0]
@[reducible] def k0_t8_loop : Scf.Loop 32 :=
  let c0_i32_59 : BitVec 32 := 0#32
  let c4_i32_60 : BitVec 32 := 4#32
  let v51 : BitVec 32 := Scalar.addi c0_i32_59 c4_i32_60
  let c1_i32_61 : BitVec 32 := 1#32
  ⟨c0_i32_59, v51, c1_i32_61⟩
def k0_off8 (k0_t8 : Fin k0_t8_loop.trips) : Fin 3 → Nat :=
  let c0_5325 : Index := 0#32
  let c0_i32_59 : BitVec 32 := 0#32
  let c1_i32_61 : BitVec 32 := 1#32
  let arg6 : BitVec 32 := Scf.iv c0_i32_59 c1_i32_61 k0_t8
  let c256_i32 : BitVec 32 := 256#32
  let v10740 : BitVec 32 := Scalar.muli arg6 c256_i32
  let v10741 : Index := Scalar.indexCast v10740
  let c0_5326 : Index := 0#32
  ![0, v10741.toNat, 0]
@[reducible] def k0_t9_loop : Scf.Loop 32 :=
  let c0_i32_63 : BitVec 32 := 0#32
  let c4_i32_64 : BitVec 32 := 4#32
  let v52 : BitVec 32 := Scalar.addi c0_i32_63 c4_i32_64
  let c1_i32_65 : BitVec 32 := 1#32
  ⟨c0_i32_63, v52, c1_i32_65⟩
def k0_off9 (k0_t9 : Fin k0_t9_loop.trips) : Fin 3 → Nat :=
  let c0_5325 : Index := 0#32
  let c0_i32_63 : BitVec 32 := 0#32
  let c1_i32_65 : BitVec 32 := 1#32
  let arg6 : BitVec 32 := Scf.iv c0_i32_63 c1_i32_65 k0_t9
  let c256_i32 : BitVec 32 := 256#32
  let v10740 : BitVec 32 := Scalar.muli arg6 c256_i32
  let v10741 : Index := Scalar.indexCast v10740
  let c0_5326 : Index := 0#32
  ![0, v10741.toNat, 0]
@[reducible] def k0_t10_loop : Scf.Loop 32 :=
  let c0_i32_67 : BitVec 32 := 0#32
  let c4_i32_68 : BitVec 32 := 4#32
  let v53 : BitVec 32 := Scalar.addi c0_i32_67 c4_i32_68
  let c1_i32_69 : BitVec 32 := 1#32
  ⟨c0_i32_67, v53, c1_i32_69⟩
def k0_off10 (k0_t10 : Fin k0_t10_loop.trips) : Fin 3 → Nat :=
  let c0_5325 : Index := 0#32
  let c0_i32_67 : BitVec 32 := 0#32
  let c1_i32_69 : BitVec 32 := 1#32
  let arg6 : BitVec 32 := Scf.iv c0_i32_67 c1_i32_69 k0_t10
  let c256_i32 : BitVec 32 := 256#32
  let v10740 : BitVec 32 := Scalar.muli arg6 c256_i32
  let v10741 : Index := Scalar.indexCast v10740
  let c0_5326 : Index := 0#32
  ![0, v10741.toNat, 0]
@[reducible] def k0_t11_loop : Scf.Loop 32 :=
  let c0_i32_71 : BitVec 32 := 0#32
  let c32_i32_72 : BitVec 32 := 32#32
  let v54 : BitVec 32 := Scalar.addi c0_i32_71 c32_i32_72
  let c1_i32_73 : BitVec 32 := 1#32
  ⟨c0_i32_71, v54, c1_i32_73⟩
def k0_off11 (k0_t11 : Fin k0_t11_loop.trips) : Fin 3 → Nat :=
  let c0_5340 : Index := 0#32
  let c0_i32_71 : BitVec 32 := 0#32
  let c1_i32_73 : BitVec 32 := 1#32
  let arg6 : BitVec 32 := Scf.iv c0_i32_71 c1_i32_73 k0_t11
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![0, v10770.toNat, 0]
def k0_off12 (k0_t11 : Fin k0_t11_loop.trips) : Fin 3 → Nat :=
  let c0_5343 : Index := 0#32
  let c0_i32_71 : BitVec 32 := 0#32
  let c1_i32_73 : BitVec 32 := 1#32
  let arg6 : BitVec 32 := Scf.iv c0_i32_71 c1_i32_73 k0_t11
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![0, v10774.toNat, 0]
@[reducible] def k0_t12_loop : Scf.Loop 32 :=
  let c0_i32_75 : BitVec 32 := 0#32
  let c4_i32_76 : BitVec 32 := 4#32
  let v55 : BitVec 32 := Scalar.addi c0_i32_75 c4_i32_76
  let c1_i32_77 : BitVec 32 := 1#32
  ⟨c0_i32_75, v55, c1_i32_77⟩
def k0_off13 (k0_t12 : Fin k0_t12_loop.trips) : Fin 3 → Nat :=
  let c0_5325 : Index := 0#32
  let c0_i32_75 : BitVec 32 := 0#32
  let c1_i32_77 : BitVec 32 := 1#32
  let arg6 : BitVec 32 := Scf.iv c0_i32_75 c1_i32_77 k0_t12
  let c256_i32 : BitVec 32 := 256#32
  let v10740 : BitVec 32 := Scalar.muli arg6 c256_i32
  let v10741 : Index := Scalar.indexCast v10740
  let c0_5326 : Index := 0#32
  ![0, v10741.toNat, 0]
@[reducible] def k0_t13_loop : Scf.Loop 32 :=
  let c0_i32_79 : BitVec 32 := 0#32
  let c4_i32_80 : BitVec 32 := 4#32
  let v56 : BitVec 32 := Scalar.addi c0_i32_79 c4_i32_80
  let c1_i32_81 : BitVec 32 := 1#32
  ⟨c0_i32_79, v56, c1_i32_81⟩
def k0_off14 (k0_t13 : Fin k0_t13_loop.trips) : Fin 3 → Nat :=
  let c0_5325 : Index := 0#32
  let c0_i32_79 : BitVec 32 := 0#32
  let c1_i32_81 : BitVec 32 := 1#32
  let arg6 : BitVec 32 := Scf.iv c0_i32_79 c1_i32_81 k0_t13
  let c256_i32 : BitVec 32 := 256#32
  let v10740 : BitVec 32 := Scalar.muli arg6 c256_i32
  let v10741 : Index := Scalar.indexCast v10740
  let c0_5326 : Index := 0#32
  ![0, v10741.toNat, 0]
@[reducible] def k0_t14_loop : Scf.Loop 32 :=
  let c0_i32_83 : BitVec 32 := 0#32
  let c4_i32_84 : BitVec 32 := 4#32
  let v57 : BitVec 32 := Scalar.addi c0_i32_83 c4_i32_84
  let c1_i32_85 : BitVec 32 := 1#32
  ⟨c0_i32_83, v57, c1_i32_85⟩
def k0_off15 (k0_t14 : Fin k0_t14_loop.trips) : Fin 3 → Nat :=
  let c0_5325 : Index := 0#32
  let c0_i32_83 : BitVec 32 := 0#32
  let c1_i32_85 : BitVec 32 := 1#32
  let arg6 : BitVec 32 := Scf.iv c0_i32_83 c1_i32_85 k0_t14
  let c256_i32 : BitVec 32 := 256#32
  let v10740 : BitVec 32 := Scalar.muli arg6 c256_i32
  let v10741 : Index := Scalar.indexCast v10740
  let c0_5326 : Index := 0#32
  ![0, v10741.toNat, 0]
@[reducible] def k0_t15_loop : Scf.Loop 32 :=
  let c0_i32_87 : BitVec 32 := 0#32
  let c4_i32_88 : BitVec 32 := 4#32
  let v58 : BitVec 32 := Scalar.addi c0_i32_87 c4_i32_88
  let c1_i32_89 : BitVec 32 := 1#32
  ⟨c0_i32_87, v58, c1_i32_89⟩
def k0_off16 (k0_t15 : Fin k0_t15_loop.trips) : Fin 3 → Nat :=
  let c0_5325 : Index := 0#32
  let c0_i32_87 : BitVec 32 := 0#32
  let c1_i32_89 : BitVec 32 := 1#32
  let arg6 : BitVec 32 := Scf.iv c0_i32_87 c1_i32_89 k0_t15
  let c256_i32 : BitVec 32 := 256#32
  let v10740 : BitVec 32 := Scalar.muli arg6 c256_i32
  let v10741 : Index := Scalar.indexCast v10740
  let c0_5326 : Index := 0#32
  ![0, v10741.toNat, 0]
@[reducible] def k0_t16_loop : Scf.Loop 32 :=
  let c0_i32_91 : BitVec 32 := 0#32
  let c16_i32_92 : BitVec 32 := 16#32
  let v59 : BitVec 32 := Scalar.addi c0_i32_91 c16_i32_92
  let c1_i32_93 : BitVec 32 := 1#32
  ⟨c0_i32_91, v59, c1_i32_93⟩
def k0_off17 (k0_t16 : Fin k0_t16_loop.trips) : Fin 3 → Nat :=
  let c0_5339 : Index := 0#32
  let c0_i32_91 : BitVec 32 := 0#32
  let c1_i32_93 : BitVec 32 := 1#32
  let arg6 : BitVec 32 := Scf.iv c0_i32_91 c1_i32_93 k0_t16
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![0, v10770.toNat, 0]
def k0_off18 (k0_t16 : Fin k0_t16_loop.trips) : Fin 3 → Nat :=
  let c0_5342 : Index := 0#32
  let c0_i32_91 : BitVec 32 := 0#32
  let c1_i32_93 : BitVec 32 := 1#32
  let arg6 : BitVec 32 := Scf.iv c0_i32_91 c1_i32_93 k0_t16
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![0, v10774.toNat, 0]
@[reducible] def k0_t17_loop : Scf.Loop 32 :=
  let c0_i32_95 : BitVec 32 := 0#32
  let c32_i32_96 : BitVec 32 := 32#32
  let v60 : BitVec 32 := Scalar.addi c0_i32_95 c32_i32_96
  let c1_i32_97 : BitVec 32 := 1#32
  ⟨c0_i32_95, v60, c1_i32_97⟩
def k0_off19 (k0_t17 : Fin k0_t17_loop.trips) : Fin 3 → Nat :=
  let c0_5340 : Index := 0#32
  let c0_i32_95 : BitVec 32 := 0#32
  let c1_i32_97 : BitVec 32 := 1#32
  let arg6 : BitVec 32 := Scf.iv c0_i32_95 c1_i32_97 k0_t17
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![0, v10770.toNat, 0]
def k0_off20 (k0_t17 : Fin k0_t17_loop.trips) : Fin 3 → Nat :=
  let c0_5343 : Index := 0#32
  let c0_i32_95 : BitVec 32 := 0#32
  let c1_i32_97 : BitVec 32 := 1#32
  let arg6 : BitVec 32 := Scf.iv c0_i32_95 c1_i32_97 k0_t17
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![0, v10774.toNat, 0]
@[reducible] def k0_t18_loop : Scf.Loop 32 :=
  let c0_i32_99 : BitVec 32 := 0#32
  let c4_i32_100 : BitVec 32 := 4#32
  let v61 : BitVec 32 := Scalar.addi c0_i32_99 c4_i32_100
  let c1_i32_101 : BitVec 32 := 1#32
  ⟨c0_i32_99, v61, c1_i32_101⟩
def k0_off21 (k0_t18 : Fin k0_t18_loop.trips) : Fin 3 → Nat :=
  let c0_5325 : Index := 0#32
  let c0_i32_99 : BitVec 32 := 0#32
  let c1_i32_101 : BitVec 32 := 1#32
  let arg6 : BitVec 32 := Scf.iv c0_i32_99 c1_i32_101 k0_t18
  let c256_i32 : BitVec 32 := 256#32
  let v10740 : BitVec 32 := Scalar.muli arg6 c256_i32
  let v10741 : Index := Scalar.indexCast v10740
  let c0_5326 : Index := 0#32
  ![0, v10741.toNat, 0]
@[reducible] def k0_t19_loop : Scf.Loop 32 :=
  let c0_i32_103 : BitVec 32 := 0#32
  let c4_i32_104 : BitVec 32 := 4#32
  let v62 : BitVec 32 := Scalar.addi c0_i32_103 c4_i32_104
  let c1_i32_105 : BitVec 32 := 1#32
  ⟨c0_i32_103, v62, c1_i32_105⟩
def k0_off22 (k0_t19 : Fin k0_t19_loop.trips) : Fin 3 → Nat :=
  let c0_5325 : Index := 0#32
  let c0_i32_103 : BitVec 32 := 0#32
  let c1_i32_105 : BitVec 32 := 1#32
  let arg6 : BitVec 32 := Scf.iv c0_i32_103 c1_i32_105 k0_t19
  let c256_i32 : BitVec 32 := 256#32
  let v10740 : BitVec 32 := Scalar.muli arg6 c256_i32
  let v10741 : Index := Scalar.indexCast v10740
  let c0_5326 : Index := 0#32
  ![0, v10741.toNat, 0]
@[reducible] def k0_t20_loop : Scf.Loop 32 :=
  let c0_i32_107 : BitVec 32 := 0#32
  let c4_i32_108 : BitVec 32 := 4#32
  let v63 : BitVec 32 := Scalar.addi c0_i32_107 c4_i32_108
  let c1_i32_109 : BitVec 32 := 1#32
  ⟨c0_i32_107, v63, c1_i32_109⟩
def k0_off23 (k0_t20 : Fin k0_t20_loop.trips) : Fin 3 → Nat :=
  let c0_5325 : Index := 0#32
  let c0_i32_107 : BitVec 32 := 0#32
  let c1_i32_109 : BitVec 32 := 1#32
  let arg6 : BitVec 32 := Scf.iv c0_i32_107 c1_i32_109 k0_t20
  let c256_i32 : BitVec 32 := 256#32
  let v10740 : BitVec 32 := Scalar.muli arg6 c256_i32
  let v10741 : Index := Scalar.indexCast v10740
  let c0_5326 : Index := 0#32
  ![0, v10741.toNat, 0]
@[reducible] def k0_t21_loop : Scf.Loop 32 :=
  let c0_i32_111 : BitVec 32 := 0#32
  let c4_i32_112 : BitVec 32 := 4#32
  let v64 : BitVec 32 := Scalar.addi c0_i32_111 c4_i32_112
  let c1_i32_113 : BitVec 32 := 1#32
  ⟨c0_i32_111, v64, c1_i32_113⟩
def k0_off24 (k0_t21 : Fin k0_t21_loop.trips) : Fin 3 → Nat :=
  let c0_5325 : Index := 0#32
  let c0_i32_111 : BitVec 32 := 0#32
  let c1_i32_113 : BitVec 32 := 1#32
  let arg6 : BitVec 32 := Scf.iv c0_i32_111 c1_i32_113 k0_t21
  let c256_i32 : BitVec 32 := 256#32
  let v10740 : BitVec 32 := Scalar.muli arg6 c256_i32
  let v10741 : Index := Scalar.indexCast v10740
  let c0_5326 : Index := 0#32
  ![0, v10741.toNat, 0]
@[reducible] def k0_t22_loop : Scf.Loop 32 :=
  let c0_i32_115 : BitVec 32 := 0#32
  let c8_i32_116 : BitVec 32 := 8#32
  let v65 : BitVec 32 := Scalar.addi c0_i32_115 c8_i32_116
  let c1_i32_117 : BitVec 32 := 1#32
  ⟨c0_i32_115, v65, c1_i32_117⟩
def k0_off25 (k0_t22 : Fin k0_t22_loop.trips) : Fin 3 → Nat :=
  let c0_5338 : Index := 0#32
  let c0_i32_115 : BitVec 32 := 0#32
  let c1_i32_117 : BitVec 32 := 1#32
  let arg6 : BitVec 32 := Scf.iv c0_i32_115 c1_i32_117 k0_t22
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![0, v10770.toNat, 0]
def k0_off26 (k0_t22 : Fin k0_t22_loop.trips) : Fin 3 → Nat :=
  let c0_5341 : Index := 0#32
  let c0_i32_115 : BitVec 32 := 0#32
  let c1_i32_117 : BitVec 32 := 1#32
  let arg6 : BitVec 32 := Scf.iv c0_i32_115 c1_i32_117 k0_t22
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![0, v10774.toNat, 0]
@[reducible] def k0_t23_loop : Scf.Loop 32 :=
  let c0_i32_119 : BitVec 32 := 0#32
  let c16_i32_120 : BitVec 32 := 16#32
  let v66 : BitVec 32 := Scalar.addi c0_i32_119 c16_i32_120
  let c1_i32_121 : BitVec 32 := 1#32
  ⟨c0_i32_119, v66, c1_i32_121⟩
def k0_off27 (k0_t23 : Fin k0_t23_loop.trips) : Fin 3 → Nat :=
  let c0_5339 : Index := 0#32
  let c0_i32_119 : BitVec 32 := 0#32
  let c1_i32_121 : BitVec 32 := 1#32
  let arg6 : BitVec 32 := Scf.iv c0_i32_119 c1_i32_121 k0_t23
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![0, v10770.toNat, 0]
def k0_off28 (k0_t23 : Fin k0_t23_loop.trips) : Fin 3 → Nat :=
  let c0_5342 : Index := 0#32
  let c0_i32_119 : BitVec 32 := 0#32
  let c1_i32_121 : BitVec 32 := 1#32
  let arg6 : BitVec 32 := Scf.iv c0_i32_119 c1_i32_121 k0_t23
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![0, v10774.toNat, 0]
@[reducible] def k0_t24_loop : Scf.Loop 32 :=
  let c0_i32_123 : BitVec 32 := 0#32
  let c32_i32_124 : BitVec 32 := 32#32
  let v67 : BitVec 32 := Scalar.addi c0_i32_123 c32_i32_124
  let c1_i32_125 : BitVec 32 := 1#32
  ⟨c0_i32_123, v67, c1_i32_125⟩
def k0_off29 (k0_t24 : Fin k0_t24_loop.trips) : Fin 3 → Nat :=
  let c0_5340 : Index := 0#32
  let c0_i32_123 : BitVec 32 := 0#32
  let c1_i32_125 : BitVec 32 := 1#32
  let arg6 : BitVec 32 := Scf.iv c0_i32_123 c1_i32_125 k0_t24
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![0, v10770.toNat, 0]
def k0_off30 (k0_t24 : Fin k0_t24_loop.trips) : Fin 3 → Nat :=
  let c0_5343 : Index := 0#32
  let c0_i32_123 : BitVec 32 := 0#32
  let c1_i32_125 : BitVec 32 := 1#32
  let arg6 : BitVec 32 := Scf.iv c0_i32_123 c1_i32_125 k0_t24
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![0, v10774.toNat, 0]
@[reducible] def k0_t25_loop : Scf.Loop 32 :=
  let c0_i32_127 : BitVec 32 := 0#32
  let c4_i32_128 : BitVec 32 := 4#32
  let v68 : BitVec 32 := Scalar.addi c0_i32_127 c4_i32_128
  let c1_i32_129 : BitVec 32 := 1#32
  ⟨c0_i32_127, v68, c1_i32_129⟩
def k0_off31 (k0_t25 : Fin k0_t25_loop.trips) : Fin 3 → Nat :=
  let c0_5325 : Index := 0#32
  let c0_i32_127 : BitVec 32 := 0#32
  let c1_i32_129 : BitVec 32 := 1#32
  let arg6 : BitVec 32 := Scf.iv c0_i32_127 c1_i32_129 k0_t25
  let c256_i32 : BitVec 32 := 256#32
  let v10740 : BitVec 32 := Scalar.muli arg6 c256_i32
  let v10741 : Index := Scalar.indexCast v10740
  let c0_5326 : Index := 0#32
  ![0, v10741.toNat, 0]
@[reducible] def k0_t26_loop : Scf.Loop 32 :=
  let c0_i32_131 : BitVec 32 := 0#32
  let c4_i32_132 : BitVec 32 := 4#32
  let v69 : BitVec 32 := Scalar.addi c0_i32_131 c4_i32_132
  let c1_i32_133 : BitVec 32 := 1#32
  ⟨c0_i32_131, v69, c1_i32_133⟩
def k0_off32 (k0_t26 : Fin k0_t26_loop.trips) : Fin 3 → Nat :=
  let c0_5325 : Index := 0#32
  let c0_i32_131 : BitVec 32 := 0#32
  let c1_i32_133 : BitVec 32 := 1#32
  let arg6 : BitVec 32 := Scf.iv c0_i32_131 c1_i32_133 k0_t26
  let c256_i32 : BitVec 32 := 256#32
  let v10740 : BitVec 32 := Scalar.muli arg6 c256_i32
  let v10741 : Index := Scalar.indexCast v10740
  let c0_5326 : Index := 0#32
  ![0, v10741.toNat, 0]
@[reducible] def k0_t27_loop : Scf.Loop 32 :=
  let c0_i32_135 : BitVec 32 := 0#32
  let c4_i32_136 : BitVec 32 := 4#32
  let v70 : BitVec 32 := Scalar.addi c0_i32_135 c4_i32_136
  let c1_i32_137 : BitVec 32 := 1#32
  ⟨c0_i32_135, v70, c1_i32_137⟩
def k0_off33 (k0_t27 : Fin k0_t27_loop.trips) : Fin 3 → Nat :=
  let c0_5325 : Index := 0#32
  let c0_i32_135 : BitVec 32 := 0#32
  let c1_i32_137 : BitVec 32 := 1#32
  let arg6 : BitVec 32 := Scf.iv c0_i32_135 c1_i32_137 k0_t27
  let c256_i32 : BitVec 32 := 256#32
  let v10740 : BitVec 32 := Scalar.muli arg6 c256_i32
  let v10741 : Index := Scalar.indexCast v10740
  let c0_5326 : Index := 0#32
  ![0, v10741.toNat, 0]
@[reducible] def k0_t28_loop : Scf.Loop 32 :=
  let c0_i32_139 : BitVec 32 := 0#32
  let c4_i32_140 : BitVec 32 := 4#32
  let v71 : BitVec 32 := Scalar.addi c0_i32_139 c4_i32_140
  let c1_i32_141 : BitVec 32 := 1#32
  ⟨c0_i32_139, v71, c1_i32_141⟩
def k0_off34 (k0_t28 : Fin k0_t28_loop.trips) : Fin 3 → Nat :=
  let c0_5325 : Index := 0#32
  let c0_i32_139 : BitVec 32 := 0#32
  let c1_i32_141 : BitVec 32 := 1#32
  let arg6 : BitVec 32 := Scf.iv c0_i32_139 c1_i32_141 k0_t28
  let c256_i32 : BitVec 32 := 256#32
  let v10740 : BitVec 32 := Scalar.muli arg6 c256_i32
  let v10741 : Index := Scalar.indexCast v10740
  let c0_5326 : Index := 0#32
  ![0, v10741.toNat, 0]
@[reducible] def k0_t29_loop : Scf.Loop 32 :=
  let c0_i32_143 : BitVec 32 := 0#32
  let c4_i32_144 : BitVec 32 := 4#32
  let v72 : BitVec 32 := Scalar.addi c0_i32_143 c4_i32_144
  let c1_i32_145 : BitVec 32 := 1#32
  ⟨c0_i32_143, v72, c1_i32_145⟩
def k0_off35 (k0_t29 : Fin k0_t29_loop.trips) : Fin 3 → Nat :=
  let c0_5338 : Index := 0#32
  let c0_i32_143 : BitVec 32 := 0#32
  let c1_i32_145 : BitVec 32 := 1#32
  let arg6 : BitVec 32 := Scf.iv c0_i32_143 c1_i32_145 k0_t29
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let v10770 : Index := Scalar.indexCast v10769
  let c0_5339 : Index := 0#32
  ![0, v10770.toNat, 0]
def k0_off36 (k0_t29 : Fin k0_t29_loop.trips) : Fin 3 → Nat :=
  let c0_5341 : Index := 0#32
  let c0_i32_143 : BitVec 32 := 0#32
  let c1_i32_145 : BitVec 32 := 1#32
  let arg6 : BitVec 32 := Scf.iv c0_i32_143 c1_i32_145 k0_t29
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let c128_i32_5340 : BitVec 32 := 128#32
  let v10773 : BitVec 32 := Scalar.addi v10769 c128_i32_5340
  let v10774 : Index := Scalar.indexCast v10773
  let c0_5342 : Index := 0#32
  ![0, v10774.toNat, 0]
@[reducible] def k0_t30_loop : Scf.Loop 32 :=
  let c0_i32_147 : BitVec 32 := 0#32
  let c8_i32_148 : BitVec 32 := 8#32
  let v73 : BitVec 32 := Scalar.addi c0_i32_147 c8_i32_148
  let c1_i32_149 : BitVec 32 := 1#32
  ⟨c0_i32_147, v73, c1_i32_149⟩
def k0_off37 (k0_t30 : Fin k0_t30_loop.trips) : Fin 3 → Nat :=
  let c0_5338 : Index := 0#32
  let c0_i32_147 : BitVec 32 := 0#32
  let c1_i32_149 : BitVec 32 := 1#32
  let arg6 : BitVec 32 := Scf.iv c0_i32_147 c1_i32_149 k0_t30
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![0, v10770.toNat, 0]
def k0_off38 (k0_t30 : Fin k0_t30_loop.trips) : Fin 3 → Nat :=
  let c0_5341 : Index := 0#32
  let c0_i32_147 : BitVec 32 := 0#32
  let c1_i32_149 : BitVec 32 := 1#32
  let arg6 : BitVec 32 := Scf.iv c0_i32_147 c1_i32_149 k0_t30
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![0, v10774.toNat, 0]
@[reducible] def k0_t31_loop : Scf.Loop 32 :=
  let c0_i32_151 : BitVec 32 := 0#32
  let c16_i32_152 : BitVec 32 := 16#32
  let v74 : BitVec 32 := Scalar.addi c0_i32_151 c16_i32_152
  let c1_i32_153 : BitVec 32 := 1#32
  ⟨c0_i32_151, v74, c1_i32_153⟩
def k0_off39 (k0_t31 : Fin k0_t31_loop.trips) : Fin 3 → Nat :=
  let c0_5339 : Index := 0#32
  let c0_i32_151 : BitVec 32 := 0#32
  let c1_i32_153 : BitVec 32 := 1#32
  let arg6 : BitVec 32 := Scf.iv c0_i32_151 c1_i32_153 k0_t31
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![0, v10770.toNat, 0]
def k0_off40 (k0_t31 : Fin k0_t31_loop.trips) : Fin 3 → Nat :=
  let c0_5342 : Index := 0#32
  let c0_i32_151 : BitVec 32 := 0#32
  let c1_i32_153 : BitVec 32 := 1#32
  let arg6 : BitVec 32 := Scf.iv c0_i32_151 c1_i32_153 k0_t31
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![0, v10774.toNat, 0]
@[reducible] def k0_t32_loop : Scf.Loop 32 :=
  let c0_i32_155 : BitVec 32 := 0#32
  let c32_i32_156 : BitVec 32 := 32#32
  let v75 : BitVec 32 := Scalar.addi c0_i32_155 c32_i32_156
  let c1_i32_157 : BitVec 32 := 1#32
  ⟨c0_i32_155, v75, c1_i32_157⟩
def k0_off41 (k0_t32 : Fin k0_t32_loop.trips) : Fin 3 → Nat :=
  let c0_5340 : Index := 0#32
  let c0_i32_155 : BitVec 32 := 0#32
  let c1_i32_157 : BitVec 32 := 1#32
  let arg6 : BitVec 32 := Scf.iv c0_i32_155 c1_i32_157 k0_t32
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![0, v10770.toNat, 0]
def k0_off42 (k0_t32 : Fin k0_t32_loop.trips) : Fin 3 → Nat :=
  let c0_5343 : Index := 0#32
  let c0_i32_155 : BitVec 32 := 0#32
  let c1_i32_157 : BitVec 32 := 1#32
  let arg6 : BitVec 32 := Scf.iv c0_i32_155 c1_i32_157 k0_t32
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![0, v10774.toNat, 0]
@[reducible] def k0_t33_loop : Scf.Loop 32 :=
  let c0_i32_159 : BitVec 32 := 0#32
  let c4_i32_160 : BitVec 32 := 4#32
  let v76 : BitVec 32 := Scalar.addi c0_i32_159 c4_i32_160
  let c1_i32_161 : BitVec 32 := 1#32
  ⟨c0_i32_159, v76, c1_i32_161⟩
def k0_off43 (k0_t33 : Fin k0_t33_loop.trips) : Fin 3 → Nat :=
  let c0_5325 : Index := 0#32
  let c0_i32_159 : BitVec 32 := 0#32
  let c1_i32_161 : BitVec 32 := 1#32
  let arg6 : BitVec 32 := Scf.iv c0_i32_159 c1_i32_161 k0_t33
  let c256_i32 : BitVec 32 := 256#32
  let v10740 : BitVec 32 := Scalar.muli arg6 c256_i32
  let v10741 : Index := Scalar.indexCast v10740
  let c0_5326 : Index := 0#32
  ![0, v10741.toNat, 0]
@[reducible] def k0_t34_loop : Scf.Loop 32 :=
  let c0_i32_163 : BitVec 32 := 0#32
  let c4_i32_164 : BitVec 32 := 4#32
  let v77 : BitVec 32 := Scalar.addi c0_i32_163 c4_i32_164
  let c1_i32_165 : BitVec 32 := 1#32
  ⟨c0_i32_163, v77, c1_i32_165⟩
def k0_off44 (k0_t34 : Fin k0_t34_loop.trips) : Fin 3 → Nat :=
  let c0_5325 : Index := 0#32
  let c0_i32_163 : BitVec 32 := 0#32
  let c1_i32_165 : BitVec 32 := 1#32
  let arg6 : BitVec 32 := Scf.iv c0_i32_163 c1_i32_165 k0_t34
  let c256_i32 : BitVec 32 := 256#32
  let v10740 : BitVec 32 := Scalar.muli arg6 c256_i32
  let v10741 : Index := Scalar.indexCast v10740
  let c0_5326 : Index := 0#32
  ![0, v10741.toNat, 0]
@[reducible] def k0_t35_loop : Scf.Loop 32 :=
  let c0_i32_167 : BitVec 32 := 0#32
  let c4_i32_168 : BitVec 32 := 4#32
  let v78 : BitVec 32 := Scalar.addi c0_i32_167 c4_i32_168
  let c1_i32_169 : BitVec 32 := 1#32
  ⟨c0_i32_167, v78, c1_i32_169⟩
def k0_off45 (k0_t35 : Fin k0_t35_loop.trips) : Fin 3 → Nat :=
  let c0_5325 : Index := 0#32
  let c0_i32_167 : BitVec 32 := 0#32
  let c1_i32_169 : BitVec 32 := 1#32
  let arg6 : BitVec 32 := Scf.iv c0_i32_167 c1_i32_169 k0_t35
  let c256_i32 : BitVec 32 := 256#32
  let v10740 : BitVec 32 := Scalar.muli arg6 c256_i32
  let v10741 : Index := Scalar.indexCast v10740
  let c0_5326 : Index := 0#32
  ![0, v10741.toNat, 0]
@[reducible] def k0_t36_loop : Scf.Loop 32 :=
  let c0_i32_171 : BitVec 32 := 0#32
  let c4_i32_172 : BitVec 32 := 4#32
  let v79 : BitVec 32 := Scalar.addi c0_i32_171 c4_i32_172
  let c1_i32_173 : BitVec 32 := 1#32
  ⟨c0_i32_171, v79, c1_i32_173⟩
def k0_off46 (k0_t36 : Fin k0_t36_loop.trips) : Fin 3 → Nat :=
  let c0_5325 : Index := 0#32
  let c0_i32_171 : BitVec 32 := 0#32
  let c1_i32_173 : BitVec 32 := 1#32
  let arg6 : BitVec 32 := Scf.iv c0_i32_171 c1_i32_173 k0_t36
  let c256_i32 : BitVec 32 := 256#32
  let v10740 : BitVec 32 := Scalar.muli arg6 c256_i32
  let v10741 : Index := Scalar.indexCast v10740
  let c0_5326 : Index := 0#32
  ![0, v10741.toNat, 0]
@[reducible] def k0_t37_loop : Scf.Loop 32 :=
  let c0_i32_175 : BitVec 32 := 0#32
  let c2_i32_176 : BitVec 32 := 2#32
  let v80 : BitVec 32 := Scalar.addi c0_i32_175 c2_i32_176
  let c1_i32_177 : BitVec 32 := 1#32
  ⟨c0_i32_175, v80, c1_i32_177⟩
def k0_off47 (k0_t37 : Fin k0_t37_loop.trips) : Fin 3 → Nat :=
  let c0_5339 : Index := 0#32
  let c0_i32_175 : BitVec 32 := 0#32
  let c1_i32_177 : BitVec 32 := 1#32
  let arg6 : BitVec 32 := Scf.iv c0_i32_175 c1_i32_177 k0_t37
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let v10770 : Index := Scalar.indexCast v10769
  let c0_5340 : Index := 0#32
  ![0, v10770.toNat, 0]
def k0_off48 (k0_t37 : Fin k0_t37_loop.trips) : Fin 3 → Nat :=
  let c0_5342 : Index := 0#32
  let c0_i32_175 : BitVec 32 := 0#32
  let c1_i32_177 : BitVec 32 := 1#32
  let arg6 : BitVec 32 := Scf.iv c0_i32_175 c1_i32_177 k0_t37
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let c256_i32_5341 : BitVec 32 := 256#32
  let v10773 : BitVec 32 := Scalar.addi v10769 c256_i32_5341
  let v10774 : Index := Scalar.indexCast v10773
  let c0_5343 : Index := 0#32
  ![0, v10774.toNat, 0]
@[reducible] def k0_t38_loop : Scf.Loop 32 :=
  let c0_i32_179 : BitVec 32 := 0#32
  let c4_i32_180 : BitVec 32 := 4#32
  let v81 : BitVec 32 := Scalar.addi c0_i32_179 c4_i32_180
  let c1_i32_181 : BitVec 32 := 1#32
  ⟨c0_i32_179, v81, c1_i32_181⟩
def k0_off49 (k0_t38 : Fin k0_t38_loop.trips) : Fin 3 → Nat :=
  let c0_5338 : Index := 0#32
  let c0_i32_179 : BitVec 32 := 0#32
  let c1_i32_181 : BitVec 32 := 1#32
  let arg6 : BitVec 32 := Scf.iv c0_i32_179 c1_i32_181 k0_t38
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let v10770 : Index := Scalar.indexCast v10769
  let c0_5339 : Index := 0#32
  ![0, v10770.toNat, 0]
def k0_off50 (k0_t38 : Fin k0_t38_loop.trips) : Fin 3 → Nat :=
  let c0_5341 : Index := 0#32
  let c0_i32_179 : BitVec 32 := 0#32
  let c1_i32_181 : BitVec 32 := 1#32
  let arg6 : BitVec 32 := Scf.iv c0_i32_179 c1_i32_181 k0_t38
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let c128_i32_5340 : BitVec 32 := 128#32
  let v10773 : BitVec 32 := Scalar.addi v10769 c128_i32_5340
  let v10774 : Index := Scalar.indexCast v10773
  let c0_5342 : Index := 0#32
  ![0, v10774.toNat, 0]
@[reducible] def k0_t39_loop : Scf.Loop 32 :=
  let c0_i32_183 : BitVec 32 := 0#32
  let c8_i32_184 : BitVec 32 := 8#32
  let v82 : BitVec 32 := Scalar.addi c0_i32_183 c8_i32_184
  let c1_i32_185 : BitVec 32 := 1#32
  ⟨c0_i32_183, v82, c1_i32_185⟩
def k0_off51 (k0_t39 : Fin k0_t39_loop.trips) : Fin 3 → Nat :=
  let c0_5338 : Index := 0#32
  let c0_i32_183 : BitVec 32 := 0#32
  let c1_i32_185 : BitVec 32 := 1#32
  let arg6 : BitVec 32 := Scf.iv c0_i32_183 c1_i32_185 k0_t39
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![0, v10770.toNat, 0]
def k0_off52 (k0_t39 : Fin k0_t39_loop.trips) : Fin 3 → Nat :=
  let c0_5341 : Index := 0#32
  let c0_i32_183 : BitVec 32 := 0#32
  let c1_i32_185 : BitVec 32 := 1#32
  let arg6 : BitVec 32 := Scf.iv c0_i32_183 c1_i32_185 k0_t39
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![0, v10774.toNat, 0]
@[reducible] def k0_t40_loop : Scf.Loop 32 :=
  let c0_i32_187 : BitVec 32 := 0#32
  let c16_i32_188 : BitVec 32 := 16#32
  let v83 : BitVec 32 := Scalar.addi c0_i32_187 c16_i32_188
  let c1_i32_189 : BitVec 32 := 1#32
  ⟨c0_i32_187, v83, c1_i32_189⟩
def k0_off53 (k0_t40 : Fin k0_t40_loop.trips) : Fin 3 → Nat :=
  let c0_5339 : Index := 0#32
  let c0_i32_187 : BitVec 32 := 0#32
  let c1_i32_189 : BitVec 32 := 1#32
  let arg6 : BitVec 32 := Scf.iv c0_i32_187 c1_i32_189 k0_t40
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![0, v10770.toNat, 0]
def k0_off54 (k0_t40 : Fin k0_t40_loop.trips) : Fin 3 → Nat :=
  let c0_5342 : Index := 0#32
  let c0_i32_187 : BitVec 32 := 0#32
  let c1_i32_189 : BitVec 32 := 1#32
  let arg6 : BitVec 32 := Scf.iv c0_i32_187 c1_i32_189 k0_t40
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![0, v10774.toNat, 0]
@[reducible] def k0_t41_loop : Scf.Loop 32 :=
  let c0_i32_191 : BitVec 32 := 0#32
  let c32_i32_192 : BitVec 32 := 32#32
  let v84 : BitVec 32 := Scalar.addi c0_i32_191 c32_i32_192
  let c1_i32_193 : BitVec 32 := 1#32
  ⟨c0_i32_191, v84, c1_i32_193⟩
def k0_off55 (k0_t41 : Fin k0_t41_loop.trips) : Fin 3 → Nat :=
  let c0_5340 : Index := 0#32
  let c0_i32_191 : BitVec 32 := 0#32
  let c1_i32_193 : BitVec 32 := 1#32
  let arg6 : BitVec 32 := Scf.iv c0_i32_191 c1_i32_193 k0_t41
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![0, v10770.toNat, 0]
def k0_off56 (k0_t41 : Fin k0_t41_loop.trips) : Fin 3 → Nat :=
  let c0_5343 : Index := 0#32
  let c0_i32_191 : BitVec 32 := 0#32
  let c1_i32_193 : BitVec 32 := 1#32
  let arg6 : BitVec 32 := Scf.iv c0_i32_191 c1_i32_193 k0_t41
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![0, v10774.toNat, 0]
@[reducible] def k0_t42_loop : Scf.Loop 32 :=
  let c0_i32_195 : BitVec 32 := 0#32
  let c4_i32_196 : BitVec 32 := 4#32
  let v85 : BitVec 32 := Scalar.addi c0_i32_195 c4_i32_196
  let c1_i32_197 : BitVec 32 := 1#32
  ⟨c0_i32_195, v85, c1_i32_197⟩
def k0_off57 (k0_t42 : Fin k0_t42_loop.trips) : Fin 3 → Nat :=
  let c0_5325 : Index := 0#32
  let c0_i32_195 : BitVec 32 := 0#32
  let c1_i32_197 : BitVec 32 := 1#32
  let arg6 : BitVec 32 := Scf.iv c0_i32_195 c1_i32_197 k0_t42
  let c256_i32 : BitVec 32 := 256#32
  let v10740 : BitVec 32 := Scalar.muli arg6 c256_i32
  let v10741 : Index := Scalar.indexCast v10740
  let c0_5326 : Index := 0#32
  ![0, v10741.toNat, 0]
@[reducible] def k0_t43_loop : Scf.Loop 32 :=
  let c0_i32_199 : BitVec 32 := 0#32
  let c4_i32_200 : BitVec 32 := 4#32
  let v86 : BitVec 32 := Scalar.addi c0_i32_199 c4_i32_200
  let c1_i32_201 : BitVec 32 := 1#32
  ⟨c0_i32_199, v86, c1_i32_201⟩
def k0_off58 (k0_t43 : Fin k0_t43_loop.trips) : Fin 3 → Nat :=
  let c0_5325 : Index := 0#32
  let c0_i32_199 : BitVec 32 := 0#32
  let c1_i32_201 : BitVec 32 := 1#32
  let arg6 : BitVec 32 := Scf.iv c0_i32_199 c1_i32_201 k0_t43
  let c256_i32 : BitVec 32 := 256#32
  let v10740 : BitVec 32 := Scalar.muli arg6 c256_i32
  let v10741 : Index := Scalar.indexCast v10740
  let c0_5326 : Index := 0#32
  ![0, v10741.toNat, 0]
@[reducible] def k0_t44_loop : Scf.Loop 32 :=
  let c0_i32_203 : BitVec 32 := 0#32
  let c4_i32_204 : BitVec 32 := 4#32
  let v87 : BitVec 32 := Scalar.addi c0_i32_203 c4_i32_204
  let c1_i32_205 : BitVec 32 := 1#32
  ⟨c0_i32_203, v87, c1_i32_205⟩
def k0_off59 (k0_t44 : Fin k0_t44_loop.trips) : Fin 3 → Nat :=
  let c0_5325 : Index := 0#32
  let c0_i32_203 : BitVec 32 := 0#32
  let c1_i32_205 : BitVec 32 := 1#32
  let arg6 : BitVec 32 := Scf.iv c0_i32_203 c1_i32_205 k0_t44
  let c256_i32 : BitVec 32 := 256#32
  let v10740 : BitVec 32 := Scalar.muli arg6 c256_i32
  let v10741 : Index := Scalar.indexCast v10740
  let c0_5326 : Index := 0#32
  ![0, v10741.toNat, 0]
@[reducible] def k0_t45_loop : Scf.Loop 32 :=
  let c0_i32_207 : BitVec 32 := 0#32
  let c4_i32_208 : BitVec 32 := 4#32
  let v88 : BitVec 32 := Scalar.addi c0_i32_207 c4_i32_208
  let c1_i32_209 : BitVec 32 := 1#32
  ⟨c0_i32_207, v88, c1_i32_209⟩
def k0_off60 (k0_t45 : Fin k0_t45_loop.trips) : Fin 3 → Nat :=
  let c0_5325 : Index := 0#32
  let c0_i32_207 : BitVec 32 := 0#32
  let c1_i32_209 : BitVec 32 := 1#32
  let arg6 : BitVec 32 := Scf.iv c0_i32_207 c1_i32_209 k0_t45
  let c256_i32 : BitVec 32 := 256#32
  let v10740 : BitVec 32 := Scalar.muli arg6 c256_i32
  let v10741 : Index := Scalar.indexCast v10740
  let c0_5326 : Index := 0#32
  ![0, v10741.toNat, 0]
@[reducible] def k0_t46_loop : Scf.Loop 32 :=
  let c0_i32_211 : BitVec 32 := 0#32
  let c2_i32_212 : BitVec 32 := 2#32
  let v89 : BitVec 32 := Scalar.addi c0_i32_211 c2_i32_212
  let c1_i32_213 : BitVec 32 := 1#32
  ⟨c0_i32_211, v89, c1_i32_213⟩
def k0_off61 (k0_t46 : Fin k0_t46_loop.trips) : Fin 3 → Nat :=
  let c0_5339 : Index := 0#32
  let c0_i32_211 : BitVec 32 := 0#32
  let c1_i32_213 : BitVec 32 := 1#32
  let arg6 : BitVec 32 := Scf.iv c0_i32_211 c1_i32_213 k0_t46
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c2_i32_5325 : BitVec 32 := 2#32
  let c0_i32_5328 : BitVec 32 := 0#32
  let v10746 : BitVec 1 := Scalar.cmpi .sgt c2_i32_5325 c0_i32_5328
  let v10747 : BitVec 32 := Scalar.extui v10746
  let c0_i32_5329 : BitVec 32 := 0#32
  let v10748 : BitVec 1 := Scalar.cmpi .slt c2_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c2_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c2_i32_5325
  let c1_i32_5331 : BitVec 32 := 1#32
  let v10755 : BitVec 32 := Scalar.subi v10740 c1_i32_5331
  let v10756 : BitVec 32 := Scalar.select v10754 v10755 v10740
  let c1024_i32_5338 : BitVec 32 := 1024#32
  let v10767 : BitVec 32 := Scalar.muli v10756 c1024_i32_5338
  let c2_i32_5332 : BitVec 32 := 2#32
  let c0_i32_5333 : BitVec 32 := 0#32
  let v10757 : BitVec 1 := Scalar.cmpi .eq c2_i32_5332 c0_i32_5333
  let c1_i32_5334 : BitVec 32 := 1#32
  let v10758 : BitVec 32 := Scalar.select v10757 c1_i32_5334 c2_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let v10770 : Index := Scalar.indexCast v10769
  let c0_5340 : Index := 0#32
  ![0, v10770.toNat, 0]
def k0_off62 (k0_t46 : Fin k0_t46_loop.trips) : Fin 3 → Nat :=
  let c0_5342 : Index := 0#32
  let c0_i32_211 : BitVec 32 := 0#32
  let c1_i32_213 : BitVec 32 := 1#32
  let arg6 : BitVec 32 := Scf.iv c0_i32_211 c1_i32_213 k0_t46
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c2_i32_5325 : BitVec 32 := 2#32
  let c0_i32_5328 : BitVec 32 := 0#32
  let v10746 : BitVec 1 := Scalar.cmpi .sgt c2_i32_5325 c0_i32_5328
  let v10747 : BitVec 32 := Scalar.extui v10746
  let c0_i32_5329 : BitVec 32 := 0#32
  let v10748 : BitVec 1 := Scalar.cmpi .slt c2_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c2_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c2_i32_5325
  let c1_i32_5331 : BitVec 32 := 1#32
  let v10755 : BitVec 32 := Scalar.subi v10740 c1_i32_5331
  let v10756 : BitVec 32 := Scalar.select v10754 v10755 v10740
  let c1024_i32_5338 : BitVec 32 := 1024#32
  let v10767 : BitVec 32 := Scalar.muli v10756 c1024_i32_5338
  let c2_i32_5332 : BitVec 32 := 2#32
  let c0_i32_5333 : BitVec 32 := 0#32
  let v10757 : BitVec 1 := Scalar.cmpi .eq c2_i32_5332 c0_i32_5333
  let c1_i32_5334 : BitVec 32 := 1#32
  let v10758 : BitVec 32 := Scalar.select v10757 c1_i32_5334 c2_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let c512_i32_5341 : BitVec 32 := 512#32
  let v10773 : BitVec 32 := Scalar.addi v10769 c512_i32_5341
  let v10774 : Index := Scalar.indexCast v10773
  let c0_5343 : Index := 0#32
  ![0, v10774.toNat, 0]
@[reducible] def k0_t47_loop : Scf.Loop 32 :=
  let c0_i32_215 : BitVec 32 := 0#32
  let c2_i32_216 : BitVec 32 := 2#32
  let v90 : BitVec 32 := Scalar.addi c0_i32_215 c2_i32_216
  let c1_i32_217 : BitVec 32 := 1#32
  ⟨c0_i32_215, v90, c1_i32_217⟩
def k0_off63 (k0_t47 : Fin k0_t47_loop.trips) : Fin 3 → Nat :=
  let c0_5339 : Index := 0#32
  let c0_i32_215 : BitVec 32 := 0#32
  let c1_i32_217 : BitVec 32 := 1#32
  let arg6 : BitVec 32 := Scf.iv c0_i32_215 c1_i32_217 k0_t47
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let v10770 : Index := Scalar.indexCast v10769
  let c0_5340 : Index := 0#32
  ![0, v10770.toNat, 0]
def k0_off64 (k0_t47 : Fin k0_t47_loop.trips) : Fin 3 → Nat :=
  let c0_5342 : Index := 0#32
  let c0_i32_215 : BitVec 32 := 0#32
  let c1_i32_217 : BitVec 32 := 1#32
  let arg6 : BitVec 32 := Scf.iv c0_i32_215 c1_i32_217 k0_t47
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let c256_i32_5341 : BitVec 32 := 256#32
  let v10773 : BitVec 32 := Scalar.addi v10769 c256_i32_5341
  let v10774 : Index := Scalar.indexCast v10773
  let c0_5343 : Index := 0#32
  ![0, v10774.toNat, 0]
@[reducible] def k0_t48_loop : Scf.Loop 32 :=
  let c0_i32_219 : BitVec 32 := 0#32
  let c4_i32_220 : BitVec 32 := 4#32
  let v91 : BitVec 32 := Scalar.addi c0_i32_219 c4_i32_220
  let c1_i32_221 : BitVec 32 := 1#32
  ⟨c0_i32_219, v91, c1_i32_221⟩
def k0_off65 (k0_t48 : Fin k0_t48_loop.trips) : Fin 3 → Nat :=
  let c0_5338 : Index := 0#32
  let c0_i32_219 : BitVec 32 := 0#32
  let c1_i32_221 : BitVec 32 := 1#32
  let arg6 : BitVec 32 := Scf.iv c0_i32_219 c1_i32_221 k0_t48
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let v10770 : Index := Scalar.indexCast v10769
  let c0_5339 : Index := 0#32
  ![0, v10770.toNat, 0]
def k0_off66 (k0_t48 : Fin k0_t48_loop.trips) : Fin 3 → Nat :=
  let c0_5341 : Index := 0#32
  let c0_i32_219 : BitVec 32 := 0#32
  let c1_i32_221 : BitVec 32 := 1#32
  let arg6 : BitVec 32 := Scf.iv c0_i32_219 c1_i32_221 k0_t48
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let c128_i32_5340 : BitVec 32 := 128#32
  let v10773 : BitVec 32 := Scalar.addi v10769 c128_i32_5340
  let v10774 : Index := Scalar.indexCast v10773
  let c0_5342 : Index := 0#32
  ![0, v10774.toNat, 0]
@[reducible] def k0_t49_loop : Scf.Loop 32 :=
  let c0_i32_223 : BitVec 32 := 0#32
  let c8_i32_224 : BitVec 32 := 8#32
  let v92 : BitVec 32 := Scalar.addi c0_i32_223 c8_i32_224
  let c1_i32_225 : BitVec 32 := 1#32
  ⟨c0_i32_223, v92, c1_i32_225⟩
def k0_off67 (k0_t49 : Fin k0_t49_loop.trips) : Fin 3 → Nat :=
  let c0_5338 : Index := 0#32
  let c0_i32_223 : BitVec 32 := 0#32
  let c1_i32_225 : BitVec 32 := 1#32
  let arg6 : BitVec 32 := Scf.iv c0_i32_223 c1_i32_225 k0_t49
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![0, v10770.toNat, 0]
def k0_off68 (k0_t49 : Fin k0_t49_loop.trips) : Fin 3 → Nat :=
  let c0_5341 : Index := 0#32
  let c0_i32_223 : BitVec 32 := 0#32
  let c1_i32_225 : BitVec 32 := 1#32
  let arg6 : BitVec 32 := Scf.iv c0_i32_223 c1_i32_225 k0_t49
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![0, v10774.toNat, 0]
@[reducible] def k0_t50_loop : Scf.Loop 32 :=
  let c0_i32_227 : BitVec 32 := 0#32
  let c16_i32_228 : BitVec 32 := 16#32
  let v93 : BitVec 32 := Scalar.addi c0_i32_227 c16_i32_228
  let c1_i32_229 : BitVec 32 := 1#32
  ⟨c0_i32_227, v93, c1_i32_229⟩
def k0_off69 (k0_t50 : Fin k0_t50_loop.trips) : Fin 3 → Nat :=
  let c0_5339 : Index := 0#32
  let c0_i32_227 : BitVec 32 := 0#32
  let c1_i32_229 : BitVec 32 := 1#32
  let arg6 : BitVec 32 := Scf.iv c0_i32_227 c1_i32_229 k0_t50
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![0, v10770.toNat, 0]
def k0_off70 (k0_t50 : Fin k0_t50_loop.trips) : Fin 3 → Nat :=
  let c0_5342 : Index := 0#32
  let c0_i32_227 : BitVec 32 := 0#32
  let c1_i32_229 : BitVec 32 := 1#32
  let arg6 : BitVec 32 := Scf.iv c0_i32_227 c1_i32_229 k0_t50
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![0, v10774.toNat, 0]
@[reducible] def k0_t51_loop : Scf.Loop 32 :=
  let c0_i32_231 : BitVec 32 := 0#32
  let c32_i32_232 : BitVec 32 := 32#32
  let v94 : BitVec 32 := Scalar.addi c0_i32_231 c32_i32_232
  let c1_i32_233 : BitVec 32 := 1#32
  ⟨c0_i32_231, v94, c1_i32_233⟩
def k0_off71 (k0_t51 : Fin k0_t51_loop.trips) : Fin 3 → Nat :=
  let c0_5340 : Index := 0#32
  let c0_i32_231 : BitVec 32 := 0#32
  let c1_i32_233 : BitVec 32 := 1#32
  let arg6 : BitVec 32 := Scf.iv c0_i32_231 c1_i32_233 k0_t51
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![0, v10770.toNat, 0]
def k0_off72 (k0_t51 : Fin k0_t51_loop.trips) : Fin 3 → Nat :=
  let c0_5343 : Index := 0#32
  let c0_i32_231 : BitVec 32 := 0#32
  let c1_i32_233 : BitVec 32 := 1#32
  let arg6 : BitVec 32 := Scf.iv c0_i32_231 c1_i32_233 k0_t51
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![0, v10774.toNat, 0]
@[reducible] def k0_t52_loop : Scf.Loop 32 :=
  let c0_i32_235 : BitVec 32 := 0#32
  let c4_i32_236 : BitVec 32 := 4#32
  let v95 : BitVec 32 := Scalar.addi c0_i32_235 c4_i32_236
  let c1_i32_237 : BitVec 32 := 1#32
  ⟨c0_i32_235, v95, c1_i32_237⟩
def k0_off73 (k0_t52 : Fin k0_t52_loop.trips) : Fin 3 → Nat :=
  let c0_5325 : Index := 0#32
  let c0_i32_235 : BitVec 32 := 0#32
  let c1_i32_237 : BitVec 32 := 1#32
  let arg6 : BitVec 32 := Scf.iv c0_i32_235 c1_i32_237 k0_t52
  let c256_i32 : BitVec 32 := 256#32
  let v10740 : BitVec 32 := Scalar.muli arg6 c256_i32
  let v10741 : Index := Scalar.indexCast v10740
  let c0_5326 : Index := 0#32
  ![0, v10741.toNat, 0]
@[reducible] def k0_t53_loop : Scf.Loop 32 :=
  let c0_i32_239 : BitVec 32 := 0#32
  let c4_i32_240 : BitVec 32 := 4#32
  let v96 : BitVec 32 := Scalar.addi c0_i32_239 c4_i32_240
  let c1_i32_241 : BitVec 32 := 1#32
  ⟨c0_i32_239, v96, c1_i32_241⟩
def k0_off74 (k0_t53 : Fin k0_t53_loop.trips) : Fin 3 → Nat :=
  let c0_5325 : Index := 0#32
  let c0_i32_239 : BitVec 32 := 0#32
  let c1_i32_241 : BitVec 32 := 1#32
  let arg6 : BitVec 32 := Scf.iv c0_i32_239 c1_i32_241 k0_t53
  let c256_i32 : BitVec 32 := 256#32
  let v10740 : BitVec 32 := Scalar.muli arg6 c256_i32
  let v10741 : Index := Scalar.indexCast v10740
  let c0_5326 : Index := 0#32
  ![0, v10741.toNat, 0]
@[reducible] def k0_t54_loop : Scf.Loop 32 :=
  let c0_i32_243 : BitVec 32 := 0#32
  let c4_i32_244 : BitVec 32 := 4#32
  let v97 : BitVec 32 := Scalar.addi c0_i32_243 c4_i32_244
  let c1_i32_245 : BitVec 32 := 1#32
  ⟨c0_i32_243, v97, c1_i32_245⟩
def k0_off75 (k0_t54 : Fin k0_t54_loop.trips) : Fin 3 → Nat :=
  let c0_5325 : Index := 0#32
  let c0_i32_243 : BitVec 32 := 0#32
  let c1_i32_245 : BitVec 32 := 1#32
  let arg6 : BitVec 32 := Scf.iv c0_i32_243 c1_i32_245 k0_t54
  let c256_i32 : BitVec 32 := 256#32
  let v10740 : BitVec 32 := Scalar.muli arg6 c256_i32
  let v10741 : Index := Scalar.indexCast v10740
  let c0_5326 : Index := 0#32
  ![0, v10741.toNat, 0]
@[reducible] def k0_t55_loop : Scf.Loop 32 :=
  let c0_i32_247 : BitVec 32 := 0#32
  let c4_i32_248 : BitVec 32 := 4#32
  let v98 : BitVec 32 := Scalar.addi c0_i32_247 c4_i32_248
  let c1_i32_249 : BitVec 32 := 1#32
  ⟨c0_i32_247, v98, c1_i32_249⟩
def k0_off76 (k0_t55 : Fin k0_t55_loop.trips) : Fin 3 → Nat :=
  let c0_5325 : Index := 0#32
  let c0_i32_247 : BitVec 32 := 0#32
  let c1_i32_249 : BitVec 32 := 1#32
  let arg6 : BitVec 32 := Scf.iv c0_i32_247 c1_i32_249 k0_t55
  let c256_i32 : BitVec 32 := 256#32
  let v10740 : BitVec 32 := Scalar.muli arg6 c256_i32
  let v10741 : Index := Scalar.indexCast v10740
  let c0_5326 : Index := 0#32
  ![0, v10741.toNat, 0]
def k0_dev6 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_251 : BitVec 32 := 1#32
  let v99 : BitVec 32 := Scalar.xori v2 c1_i32_251
  let c1_i32_262 : BitVec 32 := 1#32
  let v101 : BitVec 32 := Scalar.muli v99 c1_i32_262
  let v102 : BitVec 32 := Scalar.addi c0_i32_263 v101
  v102.toNat
def k0_dev7 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_252 : BitVec 32 := 1#32
  let v100 : BitVec 32 := Scalar.xori v2 c1_i32_252
  let c1_i32_277 : BitVec 32 := 1#32
  let v111 : BitVec 32 := Scalar.muli v100 c1_i32_277
  let v112 : BitVec 32 := Scalar.addi c0_i32_278 v111
  v112.toNat
@[reducible] def k0_t56_loop : Scf.Loop 32 :=
  let c0_i32_300 : BitVec 32 := 0#32
  let c4_i32_301 : BitVec 32 := 4#32
  let v145 : BitVec 32 := Scalar.addi c0_i32_300 c4_i32_301
  let c1_i32_302 : BitVec 32 := 1#32
  ⟨c0_i32_300, v145, c1_i32_302⟩
def k0_off77 (k0_t56 : Fin k0_t56_loop.trips) : Fin 3 → Nat :=
  let c1_5325 : Index := 1#32
  let c0_i32_300 : BitVec 32 := 0#32
  let c1_i32_302 : BitVec 32 := 1#32
  let arg6 : BitVec 32 := Scf.iv c0_i32_300 c1_i32_302 k0_t56
  let c256_i32 : BitVec 32 := 256#32
  let v10740 : BitVec 32 := Scalar.muli arg6 c256_i32
  let v10741 : Index := Scalar.indexCast v10740
  let c0_5326 : Index := 0#32
  ![1, v10741.toNat, 0]
@[reducible] def k0_t57_loop : Scf.Loop 32 :=
  let c0_i32_304 : BitVec 32 := 0#32
  let c4_i32_305 : BitVec 32 := 4#32
  let v146 : BitVec 32 := Scalar.addi c0_i32_304 c4_i32_305
  let c1_i32_306 : BitVec 32 := 1#32
  ⟨c0_i32_304, v146, c1_i32_306⟩
def k0_off78 (k0_t57 : Fin k0_t57_loop.trips) : Fin 3 → Nat :=
  let c1_5325 : Index := 1#32
  let c0_i32_304 : BitVec 32 := 0#32
  let c1_i32_306 : BitVec 32 := 1#32
  let arg6 : BitVec 32 := Scf.iv c0_i32_304 c1_i32_306 k0_t57
  let c256_i32 : BitVec 32 := 256#32
  let v10740 : BitVec 32 := Scalar.muli arg6 c256_i32
  let v10741 : Index := Scalar.indexCast v10740
  let c0_5326 : Index := 0#32
  ![1, v10741.toNat, 0]
@[reducible] def k0_t58_loop : Scf.Loop 32 :=
  let c0_i32_308 : BitVec 32 := 0#32
  let c4_i32_309 : BitVec 32 := 4#32
  let v147 : BitVec 32 := Scalar.addi c0_i32_308 c4_i32_309
  let c1_i32_310 : BitVec 32 := 1#32
  ⟨c0_i32_308, v147, c1_i32_310⟩
def k0_off79 (k0_t58 : Fin k0_t58_loop.trips) : Fin 3 → Nat :=
  let c1_5325 : Index := 1#32
  let c0_i32_308 : BitVec 32 := 0#32
  let c1_i32_310 : BitVec 32 := 1#32
  let arg6 : BitVec 32 := Scf.iv c0_i32_308 c1_i32_310 k0_t58
  let c256_i32 : BitVec 32 := 256#32
  let v10740 : BitVec 32 := Scalar.muli arg6 c256_i32
  let v10741 : Index := Scalar.indexCast v10740
  let c0_5326 : Index := 0#32
  ![1, v10741.toNat, 0]
@[reducible] def k0_t59_loop : Scf.Loop 32 :=
  let c0_i32_312 : BitVec 32 := 0#32
  let c4_i32_313 : BitVec 32 := 4#32
  let v148 : BitVec 32 := Scalar.addi c0_i32_312 c4_i32_313
  let c1_i32_314 : BitVec 32 := 1#32
  ⟨c0_i32_312, v148, c1_i32_314⟩
def k0_off80 (k0_t59 : Fin k0_t59_loop.trips) : Fin 3 → Nat :=
  let c1_5325 : Index := 1#32
  let c0_i32_312 : BitVec 32 := 0#32
  let c1_i32_314 : BitVec 32 := 1#32
  let arg6 : BitVec 32 := Scf.iv c0_i32_312 c1_i32_314 k0_t59
  let c256_i32 : BitVec 32 := 256#32
  let v10740 : BitVec 32 := Scalar.muli arg6 c256_i32
  let v10741 : Index := Scalar.indexCast v10740
  let c0_5326 : Index := 0#32
  ![1, v10741.toNat, 0]
@[reducible] def k0_t60_loop : Scf.Loop 32 :=
  let c0_i32_316 : BitVec 32 := 0#32
  let c4_i32_317 : BitVec 32 := 4#32
  let v149 : BitVec 32 := Scalar.addi c0_i32_316 c4_i32_317
  let c1_i32_318 : BitVec 32 := 1#32
  ⟨c0_i32_316, v149, c1_i32_318⟩
def k0_off81 (k0_t60 : Fin k0_t60_loop.trips) : Fin 3 → Nat :=
  let c1_5325 : Index := 1#32
  let c0_i32_316 : BitVec 32 := 0#32
  let c1_i32_318 : BitVec 32 := 1#32
  let arg6 : BitVec 32 := Scf.iv c0_i32_316 c1_i32_318 k0_t60
  let c256_i32 : BitVec 32 := 256#32
  let v10740 : BitVec 32 := Scalar.muli arg6 c256_i32
  let v10741 : Index := Scalar.indexCast v10740
  let c0_5326 : Index := 0#32
  ![1, v10741.toNat, 0]
@[reducible] def k0_t61_loop : Scf.Loop 32 :=
  let c0_i32_320 : BitVec 32 := 0#32
  let c4_i32_321 : BitVec 32 := 4#32
  let v150 : BitVec 32 := Scalar.addi c0_i32_320 c4_i32_321
  let c1_i32_322 : BitVec 32 := 1#32
  ⟨c0_i32_320, v150, c1_i32_322⟩
def k0_off82 (k0_t61 : Fin k0_t61_loop.trips) : Fin 3 → Nat :=
  let c1_5325 : Index := 1#32
  let c0_i32_320 : BitVec 32 := 0#32
  let c1_i32_322 : BitVec 32 := 1#32
  let arg6 : BitVec 32 := Scf.iv c0_i32_320 c1_i32_322 k0_t61
  let c256_i32 : BitVec 32 := 256#32
  let v10740 : BitVec 32 := Scalar.muli arg6 c256_i32
  let v10741 : Index := Scalar.indexCast v10740
  let c0_5326 : Index := 0#32
  ![1, v10741.toNat, 0]
@[reducible] def k0_t62_loop : Scf.Loop 32 :=
  let c0_i32_324 : BitVec 32 := 0#32
  let c4_i32_325 : BitVec 32 := 4#32
  let v151 : BitVec 32 := Scalar.addi c0_i32_324 c4_i32_325
  let c1_i32_326 : BitVec 32 := 1#32
  ⟨c0_i32_324, v151, c1_i32_326⟩
def k0_off83 (k0_t62 : Fin k0_t62_loop.trips) : Fin 3 → Nat :=
  let c1_5325 : Index := 1#32
  let c0_i32_324 : BitVec 32 := 0#32
  let c1_i32_326 : BitVec 32 := 1#32
  let arg6 : BitVec 32 := Scf.iv c0_i32_324 c1_i32_326 k0_t62
  let c256_i32 : BitVec 32 := 256#32
  let v10740 : BitVec 32 := Scalar.muli arg6 c256_i32
  let v10741 : Index := Scalar.indexCast v10740
  let c0_5326 : Index := 0#32
  ![1, v10741.toNat, 0]
@[reducible] def k0_t63_loop : Scf.Loop 32 :=
  let c0_i32_328 : BitVec 32 := 0#32
  let c4_i32_329 : BitVec 32 := 4#32
  let v152 : BitVec 32 := Scalar.addi c0_i32_328 c4_i32_329
  let c1_i32_330 : BitVec 32 := 1#32
  ⟨c0_i32_328, v152, c1_i32_330⟩
def k0_off84 (k0_t63 : Fin k0_t63_loop.trips) : Fin 3 → Nat :=
  let c1_5325 : Index := 1#32
  let c0_i32_328 : BitVec 32 := 0#32
  let c1_i32_330 : BitVec 32 := 1#32
  let arg6 : BitVec 32 := Scf.iv c0_i32_328 c1_i32_330 k0_t63
  let c256_i32 : BitVec 32 := 256#32
  let v10740 : BitVec 32 := Scalar.muli arg6 c256_i32
  let v10741 : Index := Scalar.indexCast v10740
  let c0_5326 : Index := 0#32
  ![1, v10741.toNat, 0]
@[reducible] def k0_t64_loop : Scf.Loop 32 :=
  let c0_i32_332 : BitVec 32 := 0#32
  let c4_i32_333 : BitVec 32 := 4#32
  let v153 : BitVec 32 := Scalar.addi c0_i32_332 c4_i32_333
  let c1_i32_334 : BitVec 32 := 1#32
  ⟨c0_i32_332, v153, c1_i32_334⟩
def k0_off85 (k0_t64 : Fin k0_t64_loop.trips) : Fin 3 → Nat :=
  let c1_5325 : Index := 1#32
  let c0_i32_332 : BitVec 32 := 0#32
  let c1_i32_334 : BitVec 32 := 1#32
  let arg6 : BitVec 32 := Scf.iv c0_i32_332 c1_i32_334 k0_t64
  let c256_i32 : BitVec 32 := 256#32
  let v10740 : BitVec 32 := Scalar.muli arg6 c256_i32
  let v10741 : Index := Scalar.indexCast v10740
  let c0_5326 : Index := 0#32
  ![1, v10741.toNat, 0]
@[reducible] def k0_t65_loop : Scf.Loop 32 :=
  let c0_i32_336 : BitVec 32 := 0#32
  let c4_i32_337 : BitVec 32 := 4#32
  let v154 : BitVec 32 := Scalar.addi c0_i32_336 c4_i32_337
  let c1_i32_338 : BitVec 32 := 1#32
  ⟨c0_i32_336, v154, c1_i32_338⟩
def k0_off86 (k0_t65 : Fin k0_t65_loop.trips) : Fin 3 → Nat :=
  let c1_5325 : Index := 1#32
  let c0_i32_336 : BitVec 32 := 0#32
  let c1_i32_338 : BitVec 32 := 1#32
  let arg6 : BitVec 32 := Scf.iv c0_i32_336 c1_i32_338 k0_t65
  let c256_i32 : BitVec 32 := 256#32
  let v10740 : BitVec 32 := Scalar.muli arg6 c256_i32
  let v10741 : Index := Scalar.indexCast v10740
  let c0_5326 : Index := 0#32
  ![1, v10741.toNat, 0]
@[reducible] def k0_t66_loop : Scf.Loop 32 :=
  let c0_i32_340 : BitVec 32 := 0#32
  let c32_i32_341 : BitVec 32 := 32#32
  let v155 : BitVec 32 := Scalar.addi c0_i32_340 c32_i32_341
  let c1_i32_342 : BitVec 32 := 1#32
  ⟨c0_i32_340, v155, c1_i32_342⟩
def k0_off87 (k0_t66 : Fin k0_t66_loop.trips) : Fin 3 → Nat :=
  let c1_5340 : Index := 1#32
  let c0_i32_340 : BitVec 32 := 0#32
  let c1_i32_342 : BitVec 32 := 1#32
  let arg6 : BitVec 32 := Scf.iv c0_i32_340 c1_i32_342 k0_t66
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![1, v10770.toNat, 0]
def k0_off88 (k0_t66 : Fin k0_t66_loop.trips) : Fin 3 → Nat :=
  let c1_5343 : Index := 1#32
  let c0_i32_340 : BitVec 32 := 0#32
  let c1_i32_342 : BitVec 32 := 1#32
  let arg6 : BitVec 32 := Scf.iv c0_i32_340 c1_i32_342 k0_t66
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![1, v10774.toNat, 0]
@[reducible] def k0_t67_loop : Scf.Loop 32 :=
  let c0_i32_344 : BitVec 32 := 0#32
  let c4_i32_345 : BitVec 32 := 4#32
  let v156 : BitVec 32 := Scalar.addi c0_i32_344 c4_i32_345
  let c1_i32_346 : BitVec 32 := 1#32
  ⟨c0_i32_344, v156, c1_i32_346⟩
def k0_off89 (k0_t67 : Fin k0_t67_loop.trips) : Fin 3 → Nat :=
  let c1_5325 : Index := 1#32
  let c0_i32_344 : BitVec 32 := 0#32
  let c1_i32_346 : BitVec 32 := 1#32
  let arg6 : BitVec 32 := Scf.iv c0_i32_344 c1_i32_346 k0_t67
  let c256_i32 : BitVec 32 := 256#32
  let v10740 : BitVec 32 := Scalar.muli arg6 c256_i32
  let v10741 : Index := Scalar.indexCast v10740
  let c0_5326 : Index := 0#32
  ![1, v10741.toNat, 0]
@[reducible] def k0_t68_loop : Scf.Loop 32 :=
  let c0_i32_348 : BitVec 32 := 0#32
  let c4_i32_349 : BitVec 32 := 4#32
  let v157 : BitVec 32 := Scalar.addi c0_i32_348 c4_i32_349
  let c1_i32_350 : BitVec 32 := 1#32
  ⟨c0_i32_348, v157, c1_i32_350⟩
def k0_off90 (k0_t68 : Fin k0_t68_loop.trips) : Fin 3 → Nat :=
  let c1_5325 : Index := 1#32
  let c0_i32_348 : BitVec 32 := 0#32
  let c1_i32_350 : BitVec 32 := 1#32
  let arg6 : BitVec 32 := Scf.iv c0_i32_348 c1_i32_350 k0_t68
  let c256_i32 : BitVec 32 := 256#32
  let v10740 : BitVec 32 := Scalar.muli arg6 c256_i32
  let v10741 : Index := Scalar.indexCast v10740
  let c0_5326 : Index := 0#32
  ![1, v10741.toNat, 0]
@[reducible] def k0_t69_loop : Scf.Loop 32 :=
  let c0_i32_352 : BitVec 32 := 0#32
  let c4_i32_353 : BitVec 32 := 4#32
  let v158 : BitVec 32 := Scalar.addi c0_i32_352 c4_i32_353
  let c1_i32_354 : BitVec 32 := 1#32
  ⟨c0_i32_352, v158, c1_i32_354⟩
def k0_off91 (k0_t69 : Fin k0_t69_loop.trips) : Fin 3 → Nat :=
  let c1_5325 : Index := 1#32
  let c0_i32_352 : BitVec 32 := 0#32
  let c1_i32_354 : BitVec 32 := 1#32
  let arg6 : BitVec 32 := Scf.iv c0_i32_352 c1_i32_354 k0_t69
  let c256_i32 : BitVec 32 := 256#32
  let v10740 : BitVec 32 := Scalar.muli arg6 c256_i32
  let v10741 : Index := Scalar.indexCast v10740
  let c0_5326 : Index := 0#32
  ![1, v10741.toNat, 0]
@[reducible] def k0_t70_loop : Scf.Loop 32 :=
  let c0_i32_356 : BitVec 32 := 0#32
  let c4_i32_357 : BitVec 32 := 4#32
  let v159 : BitVec 32 := Scalar.addi c0_i32_356 c4_i32_357
  let c1_i32_358 : BitVec 32 := 1#32
  ⟨c0_i32_356, v159, c1_i32_358⟩
def k0_off92 (k0_t70 : Fin k0_t70_loop.trips) : Fin 3 → Nat :=
  let c1_5325 : Index := 1#32
  let c0_i32_356 : BitVec 32 := 0#32
  let c1_i32_358 : BitVec 32 := 1#32
  let arg6 : BitVec 32 := Scf.iv c0_i32_356 c1_i32_358 k0_t70
  let c256_i32 : BitVec 32 := 256#32
  let v10740 : BitVec 32 := Scalar.muli arg6 c256_i32
  let v10741 : Index := Scalar.indexCast v10740
  let c0_5326 : Index := 0#32
  ![1, v10741.toNat, 0]
@[reducible] def k0_t71_loop : Scf.Loop 32 :=
  let c0_i32_360 : BitVec 32 := 0#32
  let c16_i32_361 : BitVec 32 := 16#32
  let v160 : BitVec 32 := Scalar.addi c0_i32_360 c16_i32_361
  let c1_i32_362 : BitVec 32 := 1#32
  ⟨c0_i32_360, v160, c1_i32_362⟩
def k0_off93 (k0_t71 : Fin k0_t71_loop.trips) : Fin 3 → Nat :=
  let c1_5339 : Index := 1#32
  let c0_i32_360 : BitVec 32 := 0#32
  let c1_i32_362 : BitVec 32 := 1#32
  let arg6 : BitVec 32 := Scf.iv c0_i32_360 c1_i32_362 k0_t71
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![1, v10770.toNat, 0]
def k0_off94 (k0_t71 : Fin k0_t71_loop.trips) : Fin 3 → Nat :=
  let c1_5342 : Index := 1#32
  let c0_i32_360 : BitVec 32 := 0#32
  let c1_i32_362 : BitVec 32 := 1#32
  let arg6 : BitVec 32 := Scf.iv c0_i32_360 c1_i32_362 k0_t71
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![1, v10774.toNat, 0]
@[reducible] def k0_t72_loop : Scf.Loop 32 :=
  let c0_i32_364 : BitVec 32 := 0#32
  let c32_i32_365 : BitVec 32 := 32#32
  let v161 : BitVec 32 := Scalar.addi c0_i32_364 c32_i32_365
  let c1_i32_366 : BitVec 32 := 1#32
  ⟨c0_i32_364, v161, c1_i32_366⟩
def k0_off95 (k0_t72 : Fin k0_t72_loop.trips) : Fin 3 → Nat :=
  let c1_5340 : Index := 1#32
  let c0_i32_364 : BitVec 32 := 0#32
  let c1_i32_366 : BitVec 32 := 1#32
  let arg6 : BitVec 32 := Scf.iv c0_i32_364 c1_i32_366 k0_t72
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![1, v10770.toNat, 0]
def k0_off96 (k0_t72 : Fin k0_t72_loop.trips) : Fin 3 → Nat :=
  let c1_5343 : Index := 1#32
  let c0_i32_364 : BitVec 32 := 0#32
  let c1_i32_366 : BitVec 32 := 1#32
  let arg6 : BitVec 32 := Scf.iv c0_i32_364 c1_i32_366 k0_t72
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![1, v10774.toNat, 0]
@[reducible] def k0_t73_loop : Scf.Loop 32 :=
  let c0_i32_368 : BitVec 32 := 0#32
  let c4_i32_369 : BitVec 32 := 4#32
  let v162 : BitVec 32 := Scalar.addi c0_i32_368 c4_i32_369
  let c1_i32_370 : BitVec 32 := 1#32
  ⟨c0_i32_368, v162, c1_i32_370⟩
def k0_off97 (k0_t73 : Fin k0_t73_loop.trips) : Fin 3 → Nat :=
  let c1_5325 : Index := 1#32
  let c0_i32_368 : BitVec 32 := 0#32
  let c1_i32_370 : BitVec 32 := 1#32
  let arg6 : BitVec 32 := Scf.iv c0_i32_368 c1_i32_370 k0_t73
  let c256_i32 : BitVec 32 := 256#32
  let v10740 : BitVec 32 := Scalar.muli arg6 c256_i32
  let v10741 : Index := Scalar.indexCast v10740
  let c0_5326 : Index := 0#32
  ![1, v10741.toNat, 0]
@[reducible] def k0_t74_loop : Scf.Loop 32 :=
  let c0_i32_372 : BitVec 32 := 0#32
  let c4_i32_373 : BitVec 32 := 4#32
  let v163 : BitVec 32 := Scalar.addi c0_i32_372 c4_i32_373
  let c1_i32_374 : BitVec 32 := 1#32
  ⟨c0_i32_372, v163, c1_i32_374⟩
def k0_off98 (k0_t74 : Fin k0_t74_loop.trips) : Fin 3 → Nat :=
  let c1_5325 : Index := 1#32
  let c0_i32_372 : BitVec 32 := 0#32
  let c1_i32_374 : BitVec 32 := 1#32
  let arg6 : BitVec 32 := Scf.iv c0_i32_372 c1_i32_374 k0_t74
  let c256_i32 : BitVec 32 := 256#32
  let v10740 : BitVec 32 := Scalar.muli arg6 c256_i32
  let v10741 : Index := Scalar.indexCast v10740
  let c0_5326 : Index := 0#32
  ![1, v10741.toNat, 0]
@[reducible] def k0_t75_loop : Scf.Loop 32 :=
  let c0_i32_376 : BitVec 32 := 0#32
  let c4_i32_377 : BitVec 32 := 4#32
  let v164 : BitVec 32 := Scalar.addi c0_i32_376 c4_i32_377
  let c1_i32_378 : BitVec 32 := 1#32
  ⟨c0_i32_376, v164, c1_i32_378⟩
def k0_off99 (k0_t75 : Fin k0_t75_loop.trips) : Fin 3 → Nat :=
  let c1_5325 : Index := 1#32
  let c0_i32_376 : BitVec 32 := 0#32
  let c1_i32_378 : BitVec 32 := 1#32
  let arg6 : BitVec 32 := Scf.iv c0_i32_376 c1_i32_378 k0_t75
  let c256_i32 : BitVec 32 := 256#32
  let v10740 : BitVec 32 := Scalar.muli arg6 c256_i32
  let v10741 : Index := Scalar.indexCast v10740
  let c0_5326 : Index := 0#32
  ![1, v10741.toNat, 0]
@[reducible] def k0_t76_loop : Scf.Loop 32 :=
  let c0_i32_380 : BitVec 32 := 0#32
  let c4_i32_381 : BitVec 32 := 4#32
  let v165 : BitVec 32 := Scalar.addi c0_i32_380 c4_i32_381
  let c1_i32_382 : BitVec 32 := 1#32
  ⟨c0_i32_380, v165, c1_i32_382⟩
def k0_off100 (k0_t76 : Fin k0_t76_loop.trips) : Fin 3 → Nat :=
  let c1_5325 : Index := 1#32
  let c0_i32_380 : BitVec 32 := 0#32
  let c1_i32_382 : BitVec 32 := 1#32
  let arg6 : BitVec 32 := Scf.iv c0_i32_380 c1_i32_382 k0_t76
  let c256_i32 : BitVec 32 := 256#32
  let v10740 : BitVec 32 := Scalar.muli arg6 c256_i32
  let v10741 : Index := Scalar.indexCast v10740
  let c0_5326 : Index := 0#32
  ![1, v10741.toNat, 0]
@[reducible] def k0_t77_loop : Scf.Loop 32 :=
  let c0_i32_384 : BitVec 32 := 0#32
  let c8_i32_385 : BitVec 32 := 8#32
  let v166 : BitVec 32 := Scalar.addi c0_i32_384 c8_i32_385
  let c1_i32_386 : BitVec 32 := 1#32
  ⟨c0_i32_384, v166, c1_i32_386⟩
def k0_off101 (k0_t77 : Fin k0_t77_loop.trips) : Fin 3 → Nat :=
  let c1_5338 : Index := 1#32
  let c0_i32_384 : BitVec 32 := 0#32
  let c1_i32_386 : BitVec 32 := 1#32
  let arg6 : BitVec 32 := Scf.iv c0_i32_384 c1_i32_386 k0_t77
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![1, v10770.toNat, 0]
def k0_off102 (k0_t77 : Fin k0_t77_loop.trips) : Fin 3 → Nat :=
  let c1_5341 : Index := 1#32
  let c0_i32_384 : BitVec 32 := 0#32
  let c1_i32_386 : BitVec 32 := 1#32
  let arg6 : BitVec 32 := Scf.iv c0_i32_384 c1_i32_386 k0_t77
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![1, v10774.toNat, 0]
@[reducible] def k0_t78_loop : Scf.Loop 32 :=
  let c0_i32_388 : BitVec 32 := 0#32
  let c16_i32_389 : BitVec 32 := 16#32
  let v167 : BitVec 32 := Scalar.addi c0_i32_388 c16_i32_389
  let c1_i32_390 : BitVec 32 := 1#32
  ⟨c0_i32_388, v167, c1_i32_390⟩
def k0_off103 (k0_t78 : Fin k0_t78_loop.trips) : Fin 3 → Nat :=
  let c1_5339 : Index := 1#32
  let c0_i32_388 : BitVec 32 := 0#32
  let c1_i32_390 : BitVec 32 := 1#32
  let arg6 : BitVec 32 := Scf.iv c0_i32_388 c1_i32_390 k0_t78
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![1, v10770.toNat, 0]
def k0_off104 (k0_t78 : Fin k0_t78_loop.trips) : Fin 3 → Nat :=
  let c1_5342 : Index := 1#32
  let c0_i32_388 : BitVec 32 := 0#32
  let c1_i32_390 : BitVec 32 := 1#32
  let arg6 : BitVec 32 := Scf.iv c0_i32_388 c1_i32_390 k0_t78
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![1, v10774.toNat, 0]
@[reducible] def k0_t79_loop : Scf.Loop 32 :=
  let c0_i32_392 : BitVec 32 := 0#32
  let c32_i32_393 : BitVec 32 := 32#32
  let v168 : BitVec 32 := Scalar.addi c0_i32_392 c32_i32_393
  let c1_i32_394 : BitVec 32 := 1#32
  ⟨c0_i32_392, v168, c1_i32_394⟩
def k0_off105 (k0_t79 : Fin k0_t79_loop.trips) : Fin 3 → Nat :=
  let c1_5340 : Index := 1#32
  let c0_i32_392 : BitVec 32 := 0#32
  let c1_i32_394 : BitVec 32 := 1#32
  let arg6 : BitVec 32 := Scf.iv c0_i32_392 c1_i32_394 k0_t79
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![1, v10770.toNat, 0]
def k0_off106 (k0_t79 : Fin k0_t79_loop.trips) : Fin 3 → Nat :=
  let c1_5343 : Index := 1#32
  let c0_i32_392 : BitVec 32 := 0#32
  let c1_i32_394 : BitVec 32 := 1#32
  let arg6 : BitVec 32 := Scf.iv c0_i32_392 c1_i32_394 k0_t79
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![1, v10774.toNat, 0]
@[reducible] def k0_t80_loop : Scf.Loop 32 :=
  let c0_i32_396 : BitVec 32 := 0#32
  let c4_i32_397 : BitVec 32 := 4#32
  let v169 : BitVec 32 := Scalar.addi c0_i32_396 c4_i32_397
  let c1_i32_398 : BitVec 32 := 1#32
  ⟨c0_i32_396, v169, c1_i32_398⟩
def k0_off107 (k0_t80 : Fin k0_t80_loop.trips) : Fin 3 → Nat :=
  let c1_5325 : Index := 1#32
  let c0_i32_396 : BitVec 32 := 0#32
  let c1_i32_398 : BitVec 32 := 1#32
  let arg6 : BitVec 32 := Scf.iv c0_i32_396 c1_i32_398 k0_t80
  let c256_i32 : BitVec 32 := 256#32
  let v10740 : BitVec 32 := Scalar.muli arg6 c256_i32
  let v10741 : Index := Scalar.indexCast v10740
  let c0_5326 : Index := 0#32
  ![1, v10741.toNat, 0]
@[reducible] def k0_t81_loop : Scf.Loop 32 :=
  let c0_i32_400 : BitVec 32 := 0#32
  let c4_i32_401 : BitVec 32 := 4#32
  let v170 : BitVec 32 := Scalar.addi c0_i32_400 c4_i32_401
  let c1_i32_402 : BitVec 32 := 1#32
  ⟨c0_i32_400, v170, c1_i32_402⟩
def k0_off108 (k0_t81 : Fin k0_t81_loop.trips) : Fin 3 → Nat :=
  let c1_5325 : Index := 1#32
  let c0_i32_400 : BitVec 32 := 0#32
  let c1_i32_402 : BitVec 32 := 1#32
  let arg6 : BitVec 32 := Scf.iv c0_i32_400 c1_i32_402 k0_t81
  let c256_i32 : BitVec 32 := 256#32
  let v10740 : BitVec 32 := Scalar.muli arg6 c256_i32
  let v10741 : Index := Scalar.indexCast v10740
  let c0_5326 : Index := 0#32
  ![1, v10741.toNat, 0]
@[reducible] def k0_t82_loop : Scf.Loop 32 :=
  let c0_i32_404 : BitVec 32 := 0#32
  let c4_i32_405 : BitVec 32 := 4#32
  let v171 : BitVec 32 := Scalar.addi c0_i32_404 c4_i32_405
  let c1_i32_406 : BitVec 32 := 1#32
  ⟨c0_i32_404, v171, c1_i32_406⟩
def k0_off109 (k0_t82 : Fin k0_t82_loop.trips) : Fin 3 → Nat :=
  let c1_5325 : Index := 1#32
  let c0_i32_404 : BitVec 32 := 0#32
  let c1_i32_406 : BitVec 32 := 1#32
  let arg6 : BitVec 32 := Scf.iv c0_i32_404 c1_i32_406 k0_t82
  let c256_i32 : BitVec 32 := 256#32
  let v10740 : BitVec 32 := Scalar.muli arg6 c256_i32
  let v10741 : Index := Scalar.indexCast v10740
  let c0_5326 : Index := 0#32
  ![1, v10741.toNat, 0]
@[reducible] def k0_t83_loop : Scf.Loop 32 :=
  let c0_i32_408 : BitVec 32 := 0#32
  let c4_i32_409 : BitVec 32 := 4#32
  let v172 : BitVec 32 := Scalar.addi c0_i32_408 c4_i32_409
  let c1_i32_410 : BitVec 32 := 1#32
  ⟨c0_i32_408, v172, c1_i32_410⟩
def k0_off110 (k0_t83 : Fin k0_t83_loop.trips) : Fin 3 → Nat :=
  let c1_5325 : Index := 1#32
  let c0_i32_408 : BitVec 32 := 0#32
  let c1_i32_410 : BitVec 32 := 1#32
  let arg6 : BitVec 32 := Scf.iv c0_i32_408 c1_i32_410 k0_t83
  let c256_i32 : BitVec 32 := 256#32
  let v10740 : BitVec 32 := Scalar.muli arg6 c256_i32
  let v10741 : Index := Scalar.indexCast v10740
  let c0_5326 : Index := 0#32
  ![1, v10741.toNat, 0]
@[reducible] def k0_t84_loop : Scf.Loop 32 :=
  let c0_i32_412 : BitVec 32 := 0#32
  let c4_i32_413 : BitVec 32 := 4#32
  let v173 : BitVec 32 := Scalar.addi c0_i32_412 c4_i32_413
  let c1_i32_414 : BitVec 32 := 1#32
  ⟨c0_i32_412, v173, c1_i32_414⟩
def k0_off111 (k0_t84 : Fin k0_t84_loop.trips) : Fin 3 → Nat :=
  let c1_5338 : Index := 1#32
  let c0_i32_412 : BitVec 32 := 0#32
  let c1_i32_414 : BitVec 32 := 1#32
  let arg6 : BitVec 32 := Scf.iv c0_i32_412 c1_i32_414 k0_t84
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let v10770 : Index := Scalar.indexCast v10769
  let c0_5339 : Index := 0#32
  ![1, v10770.toNat, 0]
def k0_off112 (k0_t84 : Fin k0_t84_loop.trips) : Fin 3 → Nat :=
  let c1_5341 : Index := 1#32
  let c0_i32_412 : BitVec 32 := 0#32
  let c1_i32_414 : BitVec 32 := 1#32
  let arg6 : BitVec 32 := Scf.iv c0_i32_412 c1_i32_414 k0_t84
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let c128_i32_5340 : BitVec 32 := 128#32
  let v10773 : BitVec 32 := Scalar.addi v10769 c128_i32_5340
  let v10774 : Index := Scalar.indexCast v10773
  let c0_5342 : Index := 0#32
  ![1, v10774.toNat, 0]
@[reducible] def k0_t85_loop : Scf.Loop 32 :=
  let c0_i32_416 : BitVec 32 := 0#32
  let c8_i32_417 : BitVec 32 := 8#32
  let v174 : BitVec 32 := Scalar.addi c0_i32_416 c8_i32_417
  let c1_i32_418 : BitVec 32 := 1#32
  ⟨c0_i32_416, v174, c1_i32_418⟩
def k0_off113 (k0_t85 : Fin k0_t85_loop.trips) : Fin 3 → Nat :=
  let c1_5338 : Index := 1#32
  let c0_i32_416 : BitVec 32 := 0#32
  let c1_i32_418 : BitVec 32 := 1#32
  let arg6 : BitVec 32 := Scf.iv c0_i32_416 c1_i32_418 k0_t85
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![1, v10770.toNat, 0]
def k0_off114 (k0_t85 : Fin k0_t85_loop.trips) : Fin 3 → Nat :=
  let c1_5341 : Index := 1#32
  let c0_i32_416 : BitVec 32 := 0#32
  let c1_i32_418 : BitVec 32 := 1#32
  let arg6 : BitVec 32 := Scf.iv c0_i32_416 c1_i32_418 k0_t85
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![1, v10774.toNat, 0]
@[reducible] def k0_t86_loop : Scf.Loop 32 :=
  let c0_i32_420 : BitVec 32 := 0#32
  let c16_i32_421 : BitVec 32 := 16#32
  let v175 : BitVec 32 := Scalar.addi c0_i32_420 c16_i32_421
  let c1_i32_422 : BitVec 32 := 1#32
  ⟨c0_i32_420, v175, c1_i32_422⟩
def k0_off115 (k0_t86 : Fin k0_t86_loop.trips) : Fin 3 → Nat :=
  let c1_5339 : Index := 1#32
  let c0_i32_420 : BitVec 32 := 0#32
  let c1_i32_422 : BitVec 32 := 1#32
  let arg6 : BitVec 32 := Scf.iv c0_i32_420 c1_i32_422 k0_t86
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![1, v10770.toNat, 0]
def k0_off116 (k0_t86 : Fin k0_t86_loop.trips) : Fin 3 → Nat :=
  let c1_5342 : Index := 1#32
  let c0_i32_420 : BitVec 32 := 0#32
  let c1_i32_422 : BitVec 32 := 1#32
  let arg6 : BitVec 32 := Scf.iv c0_i32_420 c1_i32_422 k0_t86
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![1, v10774.toNat, 0]
@[reducible] def k0_t87_loop : Scf.Loop 32 :=
  let c0_i32_424 : BitVec 32 := 0#32
  let c32_i32_425 : BitVec 32 := 32#32
  let v176 : BitVec 32 := Scalar.addi c0_i32_424 c32_i32_425
  let c1_i32_426 : BitVec 32 := 1#32
  ⟨c0_i32_424, v176, c1_i32_426⟩
def k0_off117 (k0_t87 : Fin k0_t87_loop.trips) : Fin 3 → Nat :=
  let c1_5340 : Index := 1#32
  let c0_i32_424 : BitVec 32 := 0#32
  let c1_i32_426 : BitVec 32 := 1#32
  let arg6 : BitVec 32 := Scf.iv c0_i32_424 c1_i32_426 k0_t87
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![1, v10770.toNat, 0]
def k0_off118 (k0_t87 : Fin k0_t87_loop.trips) : Fin 3 → Nat :=
  let c1_5343 : Index := 1#32
  let c0_i32_424 : BitVec 32 := 0#32
  let c1_i32_426 : BitVec 32 := 1#32
  let arg6 : BitVec 32 := Scf.iv c0_i32_424 c1_i32_426 k0_t87
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![1, v10774.toNat, 0]
@[reducible] def k0_t88_loop : Scf.Loop 32 :=
  let c0_i32_428 : BitVec 32 := 0#32
  let c4_i32_429 : BitVec 32 := 4#32
  let v177 : BitVec 32 := Scalar.addi c0_i32_428 c4_i32_429
  let c1_i32_430 : BitVec 32 := 1#32
  ⟨c0_i32_428, v177, c1_i32_430⟩
def k0_off119 (k0_t88 : Fin k0_t88_loop.trips) : Fin 3 → Nat :=
  let c1_5325 : Index := 1#32
  let c0_i32_428 : BitVec 32 := 0#32
  let c1_i32_430 : BitVec 32 := 1#32
  let arg6 : BitVec 32 := Scf.iv c0_i32_428 c1_i32_430 k0_t88
  let c256_i32 : BitVec 32 := 256#32
  let v10740 : BitVec 32 := Scalar.muli arg6 c256_i32
  let v10741 : Index := Scalar.indexCast v10740
  let c0_5326 : Index := 0#32
  ![1, v10741.toNat, 0]
@[reducible] def k0_t89_loop : Scf.Loop 32 :=
  let c0_i32_432 : BitVec 32 := 0#32
  let c4_i32_433 : BitVec 32 := 4#32
  let v178 : BitVec 32 := Scalar.addi c0_i32_432 c4_i32_433
  let c1_i32_434 : BitVec 32 := 1#32
  ⟨c0_i32_432, v178, c1_i32_434⟩
def k0_off120 (k0_t89 : Fin k0_t89_loop.trips) : Fin 3 → Nat :=
  let c1_5325 : Index := 1#32
  let c0_i32_432 : BitVec 32 := 0#32
  let c1_i32_434 : BitVec 32 := 1#32
  let arg6 : BitVec 32 := Scf.iv c0_i32_432 c1_i32_434 k0_t89
  let c256_i32 : BitVec 32 := 256#32
  let v10740 : BitVec 32 := Scalar.muli arg6 c256_i32
  let v10741 : Index := Scalar.indexCast v10740
  let c0_5326 : Index := 0#32
  ![1, v10741.toNat, 0]
@[reducible] def k0_t90_loop : Scf.Loop 32 :=
  let c0_i32_436 : BitVec 32 := 0#32
  let c4_i32_437 : BitVec 32 := 4#32
  let v179 : BitVec 32 := Scalar.addi c0_i32_436 c4_i32_437
  let c1_i32_438 : BitVec 32 := 1#32
  ⟨c0_i32_436, v179, c1_i32_438⟩
def k0_off121 (k0_t90 : Fin k0_t90_loop.trips) : Fin 3 → Nat :=
  let c1_5325 : Index := 1#32
  let c0_i32_436 : BitVec 32 := 0#32
  let c1_i32_438 : BitVec 32 := 1#32
  let arg6 : BitVec 32 := Scf.iv c0_i32_436 c1_i32_438 k0_t90
  let c256_i32 : BitVec 32 := 256#32
  let v10740 : BitVec 32 := Scalar.muli arg6 c256_i32
  let v10741 : Index := Scalar.indexCast v10740
  let c0_5326 : Index := 0#32
  ![1, v10741.toNat, 0]
@[reducible] def k0_t91_loop : Scf.Loop 32 :=
  let c0_i32_440 : BitVec 32 := 0#32
  let c4_i32_441 : BitVec 32 := 4#32
  let v180 : BitVec 32 := Scalar.addi c0_i32_440 c4_i32_441
  let c1_i32_442 : BitVec 32 := 1#32
  ⟨c0_i32_440, v180, c1_i32_442⟩
def k0_off122 (k0_t91 : Fin k0_t91_loop.trips) : Fin 3 → Nat :=
  let c1_5325 : Index := 1#32
  let c0_i32_440 : BitVec 32 := 0#32
  let c1_i32_442 : BitVec 32 := 1#32
  let arg6 : BitVec 32 := Scf.iv c0_i32_440 c1_i32_442 k0_t91
  let c256_i32 : BitVec 32 := 256#32
  let v10740 : BitVec 32 := Scalar.muli arg6 c256_i32
  let v10741 : Index := Scalar.indexCast v10740
  let c0_5326 : Index := 0#32
  ![1, v10741.toNat, 0]
@[reducible] def k0_t92_loop : Scf.Loop 32 :=
  let c0_i32_444 : BitVec 32 := 0#32
  let c2_i32_445 : BitVec 32 := 2#32
  let v181 : BitVec 32 := Scalar.addi c0_i32_444 c2_i32_445
  let c1_i32_446 : BitVec 32 := 1#32
  ⟨c0_i32_444, v181, c1_i32_446⟩
def k0_off123 (k0_t92 : Fin k0_t92_loop.trips) : Fin 3 → Nat :=
  let c1_5339 : Index := 1#32
  let c0_i32_444 : BitVec 32 := 0#32
  let c1_i32_446 : BitVec 32 := 1#32
  let arg6 : BitVec 32 := Scf.iv c0_i32_444 c1_i32_446 k0_t92
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let v10770 : Index := Scalar.indexCast v10769
  let c0_5340 : Index := 0#32
  ![1, v10770.toNat, 0]
def k0_off124 (k0_t92 : Fin k0_t92_loop.trips) : Fin 3 → Nat :=
  let c1_5342 : Index := 1#32
  let c0_i32_444 : BitVec 32 := 0#32
  let c1_i32_446 : BitVec 32 := 1#32
  let arg6 : BitVec 32 := Scf.iv c0_i32_444 c1_i32_446 k0_t92
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let c256_i32_5341 : BitVec 32 := 256#32
  let v10773 : BitVec 32 := Scalar.addi v10769 c256_i32_5341
  let v10774 : Index := Scalar.indexCast v10773
  let c0_5343 : Index := 0#32
  ![1, v10774.toNat, 0]
@[reducible] def k0_t93_loop : Scf.Loop 32 :=
  let c0_i32_448 : BitVec 32 := 0#32
  let c4_i32_449 : BitVec 32 := 4#32
  let v182 : BitVec 32 := Scalar.addi c0_i32_448 c4_i32_449
  let c1_i32_450 : BitVec 32 := 1#32
  ⟨c0_i32_448, v182, c1_i32_450⟩
def k0_off125 (k0_t93 : Fin k0_t93_loop.trips) : Fin 3 → Nat :=
  let c1_5338 : Index := 1#32
  let c0_i32_448 : BitVec 32 := 0#32
  let c1_i32_450 : BitVec 32 := 1#32
  let arg6 : BitVec 32 := Scf.iv c0_i32_448 c1_i32_450 k0_t93
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let v10770 : Index := Scalar.indexCast v10769
  let c0_5339 : Index := 0#32
  ![1, v10770.toNat, 0]
def k0_off126 (k0_t93 : Fin k0_t93_loop.trips) : Fin 3 → Nat :=
  let c1_5341 : Index := 1#32
  let c0_i32_448 : BitVec 32 := 0#32
  let c1_i32_450 : BitVec 32 := 1#32
  let arg6 : BitVec 32 := Scf.iv c0_i32_448 c1_i32_450 k0_t93
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let c128_i32_5340 : BitVec 32 := 128#32
  let v10773 : BitVec 32 := Scalar.addi v10769 c128_i32_5340
  let v10774 : Index := Scalar.indexCast v10773
  let c0_5342 : Index := 0#32
  ![1, v10774.toNat, 0]
@[reducible] def k0_t94_loop : Scf.Loop 32 :=
  let c0_i32_452 : BitVec 32 := 0#32
  let c8_i32_453 : BitVec 32 := 8#32
  let v183 : BitVec 32 := Scalar.addi c0_i32_452 c8_i32_453
  let c1_i32_454 : BitVec 32 := 1#32
  ⟨c0_i32_452, v183, c1_i32_454⟩
def k0_off127 (k0_t94 : Fin k0_t94_loop.trips) : Fin 3 → Nat :=
  let c1_5338 : Index := 1#32
  let c0_i32_452 : BitVec 32 := 0#32
  let c1_i32_454 : BitVec 32 := 1#32
  let arg6 : BitVec 32 := Scf.iv c0_i32_452 c1_i32_454 k0_t94
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![1, v10770.toNat, 0]
def k0_off128 (k0_t94 : Fin k0_t94_loop.trips) : Fin 3 → Nat :=
  let c1_5341 : Index := 1#32
  let c0_i32_452 : BitVec 32 := 0#32
  let c1_i32_454 : BitVec 32 := 1#32
  let arg6 : BitVec 32 := Scf.iv c0_i32_452 c1_i32_454 k0_t94
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![1, v10774.toNat, 0]
@[reducible] def k0_t95_loop : Scf.Loop 32 :=
  let c0_i32_456 : BitVec 32 := 0#32
  let c16_i32_457 : BitVec 32 := 16#32
  let v184 : BitVec 32 := Scalar.addi c0_i32_456 c16_i32_457
  let c1_i32_458 : BitVec 32 := 1#32
  ⟨c0_i32_456, v184, c1_i32_458⟩
def k0_off129 (k0_t95 : Fin k0_t95_loop.trips) : Fin 3 → Nat :=
  let c1_5339 : Index := 1#32
  let c0_i32_456 : BitVec 32 := 0#32
  let c1_i32_458 : BitVec 32 := 1#32
  let arg6 : BitVec 32 := Scf.iv c0_i32_456 c1_i32_458 k0_t95
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![1, v10770.toNat, 0]
def k0_off130 (k0_t95 : Fin k0_t95_loop.trips) : Fin 3 → Nat :=
  let c1_5342 : Index := 1#32
  let c0_i32_456 : BitVec 32 := 0#32
  let c1_i32_458 : BitVec 32 := 1#32
  let arg6 : BitVec 32 := Scf.iv c0_i32_456 c1_i32_458 k0_t95
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![1, v10774.toNat, 0]
@[reducible] def k0_t96_loop : Scf.Loop 32 :=
  let c0_i32_460 : BitVec 32 := 0#32
  let c32_i32_461 : BitVec 32 := 32#32
  let v185 : BitVec 32 := Scalar.addi c0_i32_460 c32_i32_461
  let c1_i32_462 : BitVec 32 := 1#32
  ⟨c0_i32_460, v185, c1_i32_462⟩
def k0_off131 (k0_t96 : Fin k0_t96_loop.trips) : Fin 3 → Nat :=
  let c1_5340 : Index := 1#32
  let c0_i32_460 : BitVec 32 := 0#32
  let c1_i32_462 : BitVec 32 := 1#32
  let arg6 : BitVec 32 := Scf.iv c0_i32_460 c1_i32_462 k0_t96
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![1, v10770.toNat, 0]
def k0_off132 (k0_t96 : Fin k0_t96_loop.trips) : Fin 3 → Nat :=
  let c1_5343 : Index := 1#32
  let c0_i32_460 : BitVec 32 := 0#32
  let c1_i32_462 : BitVec 32 := 1#32
  let arg6 : BitVec 32 := Scf.iv c0_i32_460 c1_i32_462 k0_t96
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![1, v10774.toNat, 0]
@[reducible] def k0_t97_loop : Scf.Loop 32 :=
  let c0_i32_464 : BitVec 32 := 0#32
  let c4_i32_465 : BitVec 32 := 4#32
  let v186 : BitVec 32 := Scalar.addi c0_i32_464 c4_i32_465
  let c1_i32_466 : BitVec 32 := 1#32
  ⟨c0_i32_464, v186, c1_i32_466⟩
def k0_off133 (k0_t97 : Fin k0_t97_loop.trips) : Fin 3 → Nat :=
  let c1_5325 : Index := 1#32
  let c0_i32_464 : BitVec 32 := 0#32
  let c1_i32_466 : BitVec 32 := 1#32
  let arg6 : BitVec 32 := Scf.iv c0_i32_464 c1_i32_466 k0_t97
  let c256_i32 : BitVec 32 := 256#32
  let v10740 : BitVec 32 := Scalar.muli arg6 c256_i32
  let v10741 : Index := Scalar.indexCast v10740
  let c0_5326 : Index := 0#32
  ![1, v10741.toNat, 0]
@[reducible] def k0_t98_loop : Scf.Loop 32 :=
  let c0_i32_468 : BitVec 32 := 0#32
  let c4_i32_469 : BitVec 32 := 4#32
  let v187 : BitVec 32 := Scalar.addi c0_i32_468 c4_i32_469
  let c1_i32_470 : BitVec 32 := 1#32
  ⟨c0_i32_468, v187, c1_i32_470⟩
def k0_off134 (k0_t98 : Fin k0_t98_loop.trips) : Fin 3 → Nat :=
  let c1_5325 : Index := 1#32
  let c0_i32_468 : BitVec 32 := 0#32
  let c1_i32_470 : BitVec 32 := 1#32
  let arg6 : BitVec 32 := Scf.iv c0_i32_468 c1_i32_470 k0_t98
  let c256_i32 : BitVec 32 := 256#32
  let v10740 : BitVec 32 := Scalar.muli arg6 c256_i32
  let v10741 : Index := Scalar.indexCast v10740
  let c0_5326 : Index := 0#32
  ![1, v10741.toNat, 0]
@[reducible] def k0_t99_loop : Scf.Loop 32 :=
  let c0_i32_472 : BitVec 32 := 0#32
  let c4_i32_473 : BitVec 32 := 4#32
  let v188 : BitVec 32 := Scalar.addi c0_i32_472 c4_i32_473
  let c1_i32_474 : BitVec 32 := 1#32
  ⟨c0_i32_472, v188, c1_i32_474⟩
def k0_off135 (k0_t99 : Fin k0_t99_loop.trips) : Fin 3 → Nat :=
  let c1_5325 : Index := 1#32
  let c0_i32_472 : BitVec 32 := 0#32
  let c1_i32_474 : BitVec 32 := 1#32
  let arg6 : BitVec 32 := Scf.iv c0_i32_472 c1_i32_474 k0_t99
  let c256_i32 : BitVec 32 := 256#32
  let v10740 : BitVec 32 := Scalar.muli arg6 c256_i32
  let v10741 : Index := Scalar.indexCast v10740
  let c0_5326 : Index := 0#32
  ![1, v10741.toNat, 0]
@[reducible] def k0_t100_loop : Scf.Loop 32 :=
  let c0_i32_476 : BitVec 32 := 0#32
  let c4_i32_477 : BitVec 32 := 4#32
  let v189 : BitVec 32 := Scalar.addi c0_i32_476 c4_i32_477
  let c1_i32_478 : BitVec 32 := 1#32
  ⟨c0_i32_476, v189, c1_i32_478⟩
def k0_off136 (k0_t100 : Fin k0_t100_loop.trips) : Fin 3 → Nat :=
  let c1_5325 : Index := 1#32
  let c0_i32_476 : BitVec 32 := 0#32
  let c1_i32_478 : BitVec 32 := 1#32
  let arg6 : BitVec 32 := Scf.iv c0_i32_476 c1_i32_478 k0_t100
  let c256_i32 : BitVec 32 := 256#32
  let v10740 : BitVec 32 := Scalar.muli arg6 c256_i32
  let v10741 : Index := Scalar.indexCast v10740
  let c0_5326 : Index := 0#32
  ![1, v10741.toNat, 0]
@[reducible] def k0_t101_loop : Scf.Loop 32 :=
  let c0_i32_480 : BitVec 32 := 0#32
  let c2_i32_481 : BitVec 32 := 2#32
  let v190 : BitVec 32 := Scalar.addi c0_i32_480 c2_i32_481
  let c1_i32_482 : BitVec 32 := 1#32
  ⟨c0_i32_480, v190, c1_i32_482⟩
def k0_off137 (k0_t101 : Fin k0_t101_loop.trips) : Fin 3 → Nat :=
  let c1_5339 : Index := 1#32
  let c0_i32_480 : BitVec 32 := 0#32
  let c1_i32_482 : BitVec 32 := 1#32
  let arg6 : BitVec 32 := Scf.iv c0_i32_480 c1_i32_482 k0_t101
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c2_i32_5325 : BitVec 32 := 2#32
  let c0_i32_5328 : BitVec 32 := 0#32
  let v10746 : BitVec 1 := Scalar.cmpi .sgt c2_i32_5325 c0_i32_5328
  let v10747 : BitVec 32 := Scalar.extui v10746
  let c0_i32_5329 : BitVec 32 := 0#32
  let v10748 : BitVec 1 := Scalar.cmpi .slt c2_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c2_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c2_i32_5325
  let c1_i32_5331 : BitVec 32 := 1#32
  let v10755 : BitVec 32 := Scalar.subi v10740 c1_i32_5331
  let v10756 : BitVec 32 := Scalar.select v10754 v10755 v10740
  let c1024_i32_5338 : BitVec 32 := 1024#32
  let v10767 : BitVec 32 := Scalar.muli v10756 c1024_i32_5338
  let c2_i32_5332 : BitVec 32 := 2#32
  let c0_i32_5333 : BitVec 32 := 0#32
  let v10757 : BitVec 1 := Scalar.cmpi .eq c2_i32_5332 c0_i32_5333
  let c1_i32_5334 : BitVec 32 := 1#32
  let v10758 : BitVec 32 := Scalar.select v10757 c1_i32_5334 c2_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let v10770 : Index := Scalar.indexCast v10769
  let c0_5340 : Index := 0#32
  ![1, v10770.toNat, 0]
def k0_off138 (k0_t101 : Fin k0_t101_loop.trips) : Fin 3 → Nat :=
  let c1_5342 : Index := 1#32
  let c0_i32_480 : BitVec 32 := 0#32
  let c1_i32_482 : BitVec 32 := 1#32
  let arg6 : BitVec 32 := Scf.iv c0_i32_480 c1_i32_482 k0_t101
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c2_i32_5325 : BitVec 32 := 2#32
  let c0_i32_5328 : BitVec 32 := 0#32
  let v10746 : BitVec 1 := Scalar.cmpi .sgt c2_i32_5325 c0_i32_5328
  let v10747 : BitVec 32 := Scalar.extui v10746
  let c0_i32_5329 : BitVec 32 := 0#32
  let v10748 : BitVec 1 := Scalar.cmpi .slt c2_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c2_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c2_i32_5325
  let c1_i32_5331 : BitVec 32 := 1#32
  let v10755 : BitVec 32 := Scalar.subi v10740 c1_i32_5331
  let v10756 : BitVec 32 := Scalar.select v10754 v10755 v10740
  let c1024_i32_5338 : BitVec 32 := 1024#32
  let v10767 : BitVec 32 := Scalar.muli v10756 c1024_i32_5338
  let c2_i32_5332 : BitVec 32 := 2#32
  let c0_i32_5333 : BitVec 32 := 0#32
  let v10757 : BitVec 1 := Scalar.cmpi .eq c2_i32_5332 c0_i32_5333
  let c1_i32_5334 : BitVec 32 := 1#32
  let v10758 : BitVec 32 := Scalar.select v10757 c1_i32_5334 c2_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let c512_i32_5341 : BitVec 32 := 512#32
  let v10773 : BitVec 32 := Scalar.addi v10769 c512_i32_5341
  let v10774 : Index := Scalar.indexCast v10773
  let c0_5343 : Index := 0#32
  ![1, v10774.toNat, 0]
@[reducible] def k0_t102_loop : Scf.Loop 32 :=
  let c0_i32_484 : BitVec 32 := 0#32
  let c2_i32_485 : BitVec 32 := 2#32
  let v191 : BitVec 32 := Scalar.addi c0_i32_484 c2_i32_485
  let c1_i32_486 : BitVec 32 := 1#32
  ⟨c0_i32_484, v191, c1_i32_486⟩
def k0_off139 (k0_t102 : Fin k0_t102_loop.trips) : Fin 3 → Nat :=
  let c1_5339 : Index := 1#32
  let c0_i32_484 : BitVec 32 := 0#32
  let c1_i32_486 : BitVec 32 := 1#32
  let arg6 : BitVec 32 := Scf.iv c0_i32_484 c1_i32_486 k0_t102
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let v10770 : Index := Scalar.indexCast v10769
  let c0_5340 : Index := 0#32
  ![1, v10770.toNat, 0]
def k0_off140 (k0_t102 : Fin k0_t102_loop.trips) : Fin 3 → Nat :=
  let c1_5342 : Index := 1#32
  let c0_i32_484 : BitVec 32 := 0#32
  let c1_i32_486 : BitVec 32 := 1#32
  let arg6 : BitVec 32 := Scf.iv c0_i32_484 c1_i32_486 k0_t102
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c512_i32_5338 : BitVec 32 := 512#32
  let v10767 : BitVec 32 := Scalar.muli v10756 c512_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c256_i32 : BitVec 32 := 256#32
  let v10768 : BitVec 32 := Scalar.muli v10766 c256_i32
  let v10769 : BitVec 32 := Scalar.addi v10767 v10768
  let c256_i32_5341 : BitVec 32 := 256#32
  let v10773 : BitVec 32 := Scalar.addi v10769 c256_i32_5341
  let v10774 : Index := Scalar.indexCast v10773
  let c0_5343 : Index := 0#32
  ![1, v10774.toNat, 0]
@[reducible] def k0_t103_loop : Scf.Loop 32 :=
  let c0_i32_488 : BitVec 32 := 0#32
  let c4_i32_489 : BitVec 32 := 4#32
  let v192 : BitVec 32 := Scalar.addi c0_i32_488 c4_i32_489
  let c1_i32_490 : BitVec 32 := 1#32
  ⟨c0_i32_488, v192, c1_i32_490⟩
def k0_off141 (k0_t103 : Fin k0_t103_loop.trips) : Fin 3 → Nat :=
  let c1_5338 : Index := 1#32
  let c0_i32_488 : BitVec 32 := 0#32
  let c1_i32_490 : BitVec 32 := 1#32
  let arg6 : BitVec 32 := Scf.iv c0_i32_488 c1_i32_490 k0_t103
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let v10770 : Index := Scalar.indexCast v10769
  let c0_5339 : Index := 0#32
  ![1, v10770.toNat, 0]
def k0_off142 (k0_t103 : Fin k0_t103_loop.trips) : Fin 3 → Nat :=
  let c1_5341 : Index := 1#32
  let c0_i32_488 : BitVec 32 := 0#32
  let c1_i32_490 : BitVec 32 := 1#32
  let arg6 : BitVec 32 := Scf.iv c0_i32_488 c1_i32_490 k0_t103
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c256_i32 : BitVec 32 := 256#32
  let v10767 : BitVec 32 := Scalar.muli v10756 c256_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c128_i32 : BitVec 32 := 128#32
  let v10768 : BitVec 32 := Scalar.muli v10766 c128_i32
  let v10769 : BitVec 32 := Scalar.addi v10767 v10768
  let c128_i32_5340 : BitVec 32 := 128#32
  let v10773 : BitVec 32 := Scalar.addi v10769 c128_i32_5340
  let v10774 : Index := Scalar.indexCast v10773
  let c0_5342 : Index := 0#32
  ![1, v10774.toNat, 0]
@[reducible] def k0_t104_loop : Scf.Loop 32 :=
  let c0_i32_492 : BitVec 32 := 0#32
  let c8_i32_493 : BitVec 32 := 8#32
  let v193 : BitVec 32 := Scalar.addi c0_i32_492 c8_i32_493
  let c1_i32_494 : BitVec 32 := 1#32
  ⟨c0_i32_492, v193, c1_i32_494⟩
def k0_off143 (k0_t104 : Fin k0_t104_loop.trips) : Fin 3 → Nat :=
  let c1_5338 : Index := 1#32
  let c0_i32_492 : BitVec 32 := 0#32
  let c1_i32_494 : BitVec 32 := 1#32
  let arg6 : BitVec 32 := Scf.iv c0_i32_492 c1_i32_494 k0_t104
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let v10770 : Index := Scalar.indexCast v10769
  let c0_5339 : Index := 0#32
  ![1, v10770.toNat, 0]
def k0_off144 (k0_t104 : Fin k0_t104_loop.trips) : Fin 3 → Nat :=
  let c1_5341 : Index := 1#32
  let c0_i32_492 : BitVec 32 := 0#32
  let c1_i32_494 : BitVec 32 := 1#32
  let arg6 : BitVec 32 := Scf.iv c0_i32_492 c1_i32_494 k0_t104
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c128_i32 : BitVec 32 := 128#32
  let v10767 : BitVec 32 := Scalar.muli v10756 c128_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c64_i32 : BitVec 32 := 64#32
  let v10768 : BitVec 32 := Scalar.muli v10766 c64_i32
  let v10769 : BitVec 32 := Scalar.addi v10767 v10768
  let c64_i32_5340 : BitVec 32 := 64#32
  let v10773 : BitVec 32 := Scalar.addi v10769 c64_i32_5340
  let v10774 : Index := Scalar.indexCast v10773
  let c0_5342 : Index := 0#32
  ![1, v10774.toNat, 0]
@[reducible] def k0_t105_loop : Scf.Loop 32 :=
  let c0_i32_496 : BitVec 32 := 0#32
  let c16_i32_497 : BitVec 32 := 16#32
  let v194 : BitVec 32 := Scalar.addi c0_i32_496 c16_i32_497
  let c1_i32_498 : BitVec 32 := 1#32
  ⟨c0_i32_496, v194, c1_i32_498⟩
def k0_off145 (k0_t105 : Fin k0_t105_loop.trips) : Fin 3 → Nat :=
  let c1_5339 : Index := 1#32
  let c0_i32_496 : BitVec 32 := 0#32
  let c1_i32_498 : BitVec 32 := 1#32
  let arg6 : BitVec 32 := Scf.iv c0_i32_496 c1_i32_498 k0_t105
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let v10770 : Index := Scalar.indexCast v10769
  let c0_5340 : Index := 0#32
  ![1, v10770.toNat, 0]
def k0_off146 (k0_t105 : Fin k0_t105_loop.trips) : Fin 3 → Nat :=
  let c1_5342 : Index := 1#32
  let c0_i32_496 : BitVec 32 := 0#32
  let c1_i32_498 : BitVec 32 := 1#32
  let arg6 : BitVec 32 := Scf.iv c0_i32_496 c1_i32_498 k0_t105
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c64_i32 : BitVec 32 := 64#32
  let v10767 : BitVec 32 := Scalar.muli v10756 c64_i32
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c32_i32_5338 : BitVec 32 := 32#32
  let v10768 : BitVec 32 := Scalar.muli v10766 c32_i32_5338
  let v10769 : BitVec 32 := Scalar.addi v10767 v10768
  let c32_i32_5341 : BitVec 32 := 32#32
  let v10773 : BitVec 32 := Scalar.addi v10769 c32_i32_5341
  let v10774 : Index := Scalar.indexCast v10773
  let c0_5343 : Index := 0#32
  ![1, v10774.toNat, 0]
@[reducible] def k0_t106_loop : Scf.Loop 32 :=
  let c0_i32_500 : BitVec 32 := 0#32
  let c32_i32_501 : BitVec 32 := 32#32
  let v195 : BitVec 32 := Scalar.addi c0_i32_500 c32_i32_501
  let c1_i32_502 : BitVec 32 := 1#32
  ⟨c0_i32_500, v195, c1_i32_502⟩
def k0_off147 (k0_t106 : Fin k0_t106_loop.trips) : Fin 3 → Nat :=
  let c1_5340 : Index := 1#32
  let c0_i32_500 : BitVec 32 := 0#32
  let c1_i32_502 : BitVec 32 := 1#32
  let arg6 : BitVec 32 := Scf.iv c0_i32_500 c1_i32_502 k0_t106
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let v10770 : Index := Scalar.indexCast v10769
  let c0_5341 : Index := 0#32
  ![1, v10770.toNat, 0]
def k0_off148 (k0_t106 : Fin k0_t106_loop.trips) : Fin 3 → Nat :=
  let c1_5343 : Index := 1#32
  let c0_i32_500 : BitVec 32 := 0#32
  let c1_i32_502 : BitVec 32 := 1#32
  let arg6 : BitVec 32 := Scf.iv c0_i32_500 c1_i32_502 k0_t106
  let c0_i32_5326 : BitVec 32 := 0#32
  let v10741 : BitVec 1 := Scalar.cmpi .sgt arg6 c0_i32_5326
  let v10742 : BitVec 32 := Scalar.extui v10741
  let c0_i32_5327 : BitVec 32 := 0#32
  let v10743 : BitVec 1 := Scalar.cmpi .slt arg6 c0_i32_5327
  let v10744 : BitVec 32 := Scalar.extui v10743
  let v10745 : BitVec 32 := Scalar.subi v10742 v10744
  let c1_i32_5325 : BitVec 32 := 1#32
  let c0_i32_5328 : BitVec 32 := 0#32
  let v10746 : BitVec 1 := Scalar.cmpi .sgt c1_i32_5325 c0_i32_5328
  let v10747 : BitVec 32 := Scalar.extui v10746
  let c0_i32_5329 : BitVec 32 := 0#32
  let v10748 : BitVec 1 := Scalar.cmpi .slt c1_i32_5325 c0_i32_5329
  let v10749 : BitVec 32 := Scalar.extui v10748
  let v10750 : BitVec 32 := Scalar.subi v10747 v10749
  let v10751 : BitVec 1 := Scalar.cmpi .ne v10745 v10750
  let v10752 : BitVec 32 := Scalar.remsi arg6 c1_i32_5325
  let c0_i32_5330 : BitVec 32 := 0#32
  let v10753 : BitVec 1 := Scalar.cmpi .ne v10752 c0_i32_5330
  let v10754 : BitVec 1 := Scalar.andi v10751 v10753
  let v10740 : BitVec 32 := Scalar.divsi arg6 c1_i32_5325
  let c1_i32_5331 : BitVec 32 := 1#32
  let v10755 : BitVec 32 := Scalar.subi v10740 c1_i32_5331
  let v10756 : BitVec 32 := Scalar.select v10754 v10755 v10740
  let c32_i32_5338 : BitVec 32 := 32#32
  let v10767 : BitVec 32 := Scalar.muli v10756 c32_i32_5338
  let c1_i32_5332 : BitVec 32 := 1#32
  let c0_i32_5333 : BitVec 32 := 0#32
  let v10757 : BitVec 1 := Scalar.cmpi .eq c1_i32_5332 c0_i32_5333
  let c1_i32_5334 : BitVec 32 := 1#32
  let v10758 : BitVec 32 := Scalar.select v10757 c1_i32_5334 c1_i32_5332
  let v10759 : BitVec 32 := Scalar.remsi arg6 v10758
  let c0_i32_5336 : BitVec 32 := 0#32
  let v10761 : BitVec 1 := Scalar.cmpi .slt v10759 c0_i32_5336
  let c0_i32_5337 : BitVec 32 := 0#32
  let v10762 : BitVec 1 := Scalar.cmpi .slt v10758 c0_i32_5337
  let v10763 : BitVec 1 := Scalar.xori v10761 v10762
  let c0_i32_5335 : BitVec 32 := 0#32
  let v10760 : BitVec 1 := Scalar.cmpi .ne v10759 c0_i32_5335
  let v10764 : BitVec 1 := Scalar.andi v10763 v10760
  let v10765 : BitVec 32 := Scalar.addi v10759 v10758
  let v10766 : BitVec 32 := Scalar.select v10764 v10765 v10759
  let c16_i32_5339 : BitVec 32 := 16#32
  let v10768 : BitVec 32 := Scalar.muli v10766 c16_i32_5339
  let v10769 : BitVec 32 := Scalar.addi v10767 v10768
  let c16_i32_5342 : BitVec 32 := 16#32
  let v10773 : BitVec 32 := Scalar.addi v10769 c16_i32_5342
  let v10774 : Index := Scalar.indexCast v10773
  let c0_5344 : Index := 0#32
  ![1, v10774.toNat, 0]
@[reducible] def k0_t107_loop : Scf.Loop 32 :=
  let c0_i32_504 : BitVec 32 := 0#32
  let c4_i32_505 : BitVec 32 := 4#32
  let v196 : BitVec 32 := Scalar.addi c0_i32_504 c4_i32_505
  let c1_i32_506 : BitVec 32 := 1#32
  ⟨c0_i32_504, v196, c1_i32_506⟩
def k0_off149 (k0_t107 : Fin k0_t107_loop.trips) : Fin 3 → Nat :=
  let c1_5325 : Index := 1#32
  let c0_i32_504 : BitVec 32 := 0#32
  let c1_i32_506 : BitVec 32 := 1#32
  let arg6 : BitVec 32 := Scf.iv c0_i32_504 c1_i32_506 k0_t107
  let c256_i32 : BitVec 32 := 256#32
  let v10740 : BitVec 32 := Scalar.muli arg6 c256_i32
  let v10741 : Index := Scalar.indexCast v10740
  let c0_5326 : Index := 0#32
  ![1, v10741.toNat, 0]
@[reducible] def k0_t108_loop : Scf.Loop 32 :=
  let c0_i32_508 : BitVec 32 := 0#32
  let c4_i32_509 : BitVec 32 := 4#32
  let v197 : BitVec 32 := Scalar.addi c0_i32_508 c4_i32_509
  let c1_i32_510 : BitVec 32 := 1#32
  ⟨c0_i32_508, v197, c1_i32_510⟩
def k0_off150 (k0_t108 : Fin k0_t108_loop.trips) : Fin 3 → Nat :=
  let c1_5325 : Index := 1#32
  let c0_i32_508 : BitVec 32 := 0#32
  let c1_i32_510 : BitVec 32 := 1#32
  let arg6 : BitVec 32 := Scf.iv c0_i32_508 c1_i32_510 k0_t108
  let c256_i32 : BitVec 32 := 256#32
  let v10740 : BitVec 32 := Scalar.muli arg6 c256_i32
  let v10741 : Index := Scalar.indexCast v10740
  let c0_5326 : Index := 0#32
  ![1, v10741.toNat, 0]
@[reducible] def k0_t109_loop : Scf.Loop 32 :=
  let c0_i32_512 : BitVec 32 := 0#32
  let c4_i32_513 : BitVec 32 := 4#32
  let v198 : BitVec 32 := Scalar.addi c0_i32_512 c4_i32_513
  let c1_i32_514 : BitVec 32 := 1#32
  ⟨c0_i32_512, v198, c1_i32_514⟩
def k0_off151 (k0_t109 : Fin k0_t109_loop.trips) : Fin 3 → Nat :=
  let c1_5325 : Index := 1#32
  let c0_i32_512 : BitVec 32 := 0#32
  let c1_i32_514 : BitVec 32 := 1#32
  let arg6 : BitVec 32 := Scf.iv c0_i32_512 c1_i32_514 k0_t109
  let c256_i32 : BitVec 32 := 256#32
  let v10740 : BitVec 32 := Scalar.muli arg6 c256_i32
  let v10741 : Index := Scalar.indexCast v10740
  let c0_5326 : Index := 0#32
  ![1, v10741.toNat, 0]
@[reducible] def k0_t110_loop : Scf.Loop 32 :=
  let c0_i32_516 : BitVec 32 := 0#32
  let c4_i32_517 : BitVec 32 := 4#32
  let v199 : BitVec 32 := Scalar.addi c0_i32_516 c4_i32_517
  let c1_i32_518 : BitVec 32 := 1#32
  ⟨c0_i32_516, v199, c1_i32_518⟩
def k0_off152 (k0_t110 : Fin k0_t110_loop.trips) : Fin 3 → Nat :=
  let c1_5325 : Index := 1#32
  let c0_i32_516 : BitVec 32 := 0#32
  let c1_i32_518 : BitVec 32 := 1#32
  let arg6 : BitVec 32 := Scf.iv c0_i32_516 c1_i32_518 k0_t110
  let c256_i32 : BitVec 32 := 256#32
  let v10740 : BitVec 32 := Scalar.muli arg6 c256_i32
  let v10741 : Index := Scalar.indexCast v10740
  let c0_5326 : Index := 0#32
  ![1, v10741.toNat, 0]
def k0_dev8 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_520 : BitVec 32 := 1#32
  let v200 : BitVec 32 := Scalar.xori v2 c1_i32_520
  let c1_i32_531 : BitVec 32 := 1#32
  let v202 : BitVec 32 := Scalar.muli v200 c1_i32_531
  let v203 : BitVec 32 := Scalar.addi c0_i32_532 v202
  v203.toNat
def k0_dev9 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_521 : BitVec 32 := 1#32
  let v201 : BitVec 32 := Scalar.xori v2 c1_i32_521
  let c1_i32_546 : BitVec 32 := 1#32
  let v212 : BitVec 32 := Scalar.muli v201 c1_i32_546
  let v213 : BitVec 32 := Scalar.addi c0_i32_547 v212
  v213.toNat
def k0_dev10 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_761 : BitVec 32 := 2#32
  let v1089 : BitVec 32 := Scalar.xori v2 c2_i32_761
  let c1_i32_772 : BitVec 32 := 1#32
  let v1091 : BitVec 32 := Scalar.muli v1089 c1_i32_772
  let v1092 : BitVec 32 := Scalar.addi c0_i32_773 v1091
  v1092.toNat
def k0_dev11 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_762 : BitVec 32 := 2#32
  let v1090 : BitVec 32 := Scalar.xori v2 c2_i32_762
  let c1_i32_787 : BitVec 32 := 1#32
  let v1101 : BitVec 32 := Scalar.muli v1090 c1_i32_787
  let v1102 : BitVec 32 := Scalar.addi c0_i32_788 v1101
  v1102.toNat
def k0_dev12 (d0 : Dev nD) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_969 : BitVec 32 := 1#32
  let v1231 : BitVec 32 := Scalar.xori v2 c1_i32_969
  let c1_i32_980 : BitVec 32 := 1#32
  let v1233 : BitVec 32 := Scalar.muli v1231 c1_i32_980
  let v1234 : BitVec 32 := Scalar.addi c0_i32_981 v1233
  v1234.toNat
def k0_dev13 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_970 : BitVec 32 := 1#32
  let v1232 : BitVec 32 := Scalar.xori v2 c1_i32_970
  let c1_i32_995 : BitVec 32 := 1#32
  let v1243 : BitVec 32 := Scalar.muli v1232 c1_i32_995
  let v1244 : BitVec 32 := Scalar.addi c0_i32_996 v1243
  v1244.toNat
def k0_dev14 (d0 : Dev nD) : Nat :=
  let c0_i32_1135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1123 : BitVec 32 := 2#32
  let v2060 : BitVec 32 := Scalar.xori v2 c2_i32_1123
  let c1_i32_1134 : BitVec 32 := 1#32
  let v2062 : BitVec 32 := Scalar.muli v2060 c1_i32_1134
  let v2063 : BitVec 32 := Scalar.addi c0_i32_1135 v2062
  v2063.toNat
def k0_dev15 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1124 : BitVec 32 := 2#32
  let v2061 : BitVec 32 := Scalar.xori v2 c2_i32_1124
  let c1_i32_1149 : BitVec 32 := 1#32
  let v2072 : BitVec 32 := Scalar.muli v2061 c1_i32_1149
  let v2073 : BitVec 32 := Scalar.addi c0_i32_1150 v2072
  v2073.toNat
def k0_dev16 (d0 : Dev nD) : Nat :=
  let c0_i32_1342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1330 : BitVec 32 := 1#32
  let v2202 : BitVec 32 := Scalar.xori v2 c1_i32_1330
  let c1_i32_1341 : BitVec 32 := 1#32
  let v2204 : BitVec 32 := Scalar.muli v2202 c1_i32_1341
  let v2205 : BitVec 32 := Scalar.addi c0_i32_1342 v2204
  v2205.toNat
def k0_dev17 (d0 : Dev nD) : Nat :=
  let c0_i32_1357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1331 : BitVec 32 := 1#32
  let v2203 : BitVec 32 := Scalar.xori v2 c1_i32_1331
  let c1_i32_1356 : BitVec 32 := 1#32
  let v2214 : BitVec 32 := Scalar.muli v2203 c1_i32_1356
  let v2215 : BitVec 32 := Scalar.addi c0_i32_1357 v2214
  v2215.toNat
def k0_dev18 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1484 : BitVec 32 := 4#32
  let v3031 : BitVec 32 := Scalar.xori v2 c4_i32_1484
  let c1_i32_1494 : BitVec 32 := 1#32
  let v3033 : BitVec 32 := Scalar.muli v3031 c1_i32_1494
  let v3034 : BitVec 32 := Scalar.addi c0_i32_1495 v3033
  v3034.toNat
def k0_dev19 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1485 : BitVec 32 := 4#32
  let v3032 : BitVec 32 := Scalar.xori v2 c4_i32_1485
  let c1_i32_1509 : BitVec 32 := 1#32
  let v3043 : BitVec 32 := Scalar.muli v3032 c1_i32_1509
  let v3044 : BitVec 32 := Scalar.addi c0_i32_1510 v3043
  v3044.toNat
def k0_dev20 (d0 : Dev nD) : Nat :=
  let c0_i32_1702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1690 : BitVec 32 := 2#32
  let v3173 : BitVec 32 := Scalar.xori v2 c2_i32_1690
  let c1_i32_1701 : BitVec 32 := 1#32
  let v3175 : BitVec 32 := Scalar.muli v3173 c1_i32_1701
  let v3176 : BitVec 32 := Scalar.addi c0_i32_1702 v3175
  v3176.toNat
def k0_dev21 (d0 : Dev nD) : Nat :=
  let c0_i32_1717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1691 : BitVec 32 := 2#32
  let v3174 : BitVec 32 := Scalar.xori v2 c2_i32_1691
  let c1_i32_1716 : BitVec 32 := 1#32
  let v3185 : BitVec 32 := Scalar.muli v3174 c1_i32_1716
  let v3186 : BitVec 32 := Scalar.addi c0_i32_1717 v3185
  v3186.toNat
def k0_dev22 (d0 : Dev nD) : Nat :=
  let c0_i32_1856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1844 : BitVec 32 := 4#32
  let v4002 : BitVec 32 := Scalar.xori v2 c4_i32_1844
  let c1_i32_1855 : BitVec 32 := 1#32
  let v4004 : BitVec 32 := Scalar.muli v4002 c1_i32_1855
  let v4005 : BitVec 32 := Scalar.addi c0_i32_1856 v4004
  v4005.toNat
def k0_dev23 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1845 : BitVec 32 := 4#32
  let v4003 : BitVec 32 := Scalar.xori v2 c4_i32_1845
  let c1_i32_1870 : BitVec 32 := 1#32
  let v4014 : BitVec 32 := Scalar.muli v4003 c1_i32_1870
  let v4015 : BitVec 32 := Scalar.addi c0_i32_1871 v4014
  v4015.toNat
def k0_dev24 (d0 : Dev nD) : Nat :=
  let c0_i32_1975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1963 : BitVec 32 := 1#32
  let v4084 : BitVec 32 := Scalar.xori v2 c1_i32_1963
  let c1_i32_1974 : BitVec 32 := 1#32
  let v4086 : BitVec 32 := Scalar.muli v4084 c1_i32_1974
  let v4087 : BitVec 32 := Scalar.addi c0_i32_1975 v4086
  v4087.toNat
def k0_dev25 (d0 : Dev nD) : Nat :=
  let c0_i32_1990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1964 : BitVec 32 := 1#32
  let v4085 : BitVec 32 := Scalar.xori v2 c1_i32_1964
  let c1_i32_1989 : BitVec 32 := 1#32
  let v4096 : BitVec 32 := Scalar.muli v4085 c1_i32_1989
  let v4097 : BitVec 32 := Scalar.addi c0_i32_1990 v4096
  v4097.toNat
def k0_dev26 (d0 : Dev nD) : Nat :=
  let c0_i32_2095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2083 : BitVec 32 := 2#32
  let v4166 : BitVec 32 := Scalar.xori v2 c2_i32_2083
  let c1_i32_2094 : BitVec 32 := 1#32
  let v4168 : BitVec 32 := Scalar.muli v4166 c1_i32_2094
  let v4169 : BitVec 32 := Scalar.addi c0_i32_2095 v4168
  v4169.toNat
def k0_dev27 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2084 : BitVec 32 := 2#32
  let v4167 : BitVec 32 := Scalar.xori v2 c2_i32_2084
  let c1_i32_2109 : BitVec 32 := 1#32
  let v4178 : BitVec 32 := Scalar.muli v4167 c1_i32_2109
  let v4179 : BitVec 32 := Scalar.addi c0_i32_2110 v4178
  v4179.toNat
def k0_dev28 (d0 : Dev nD) : Nat :=
  let c0_i32_2302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2290 : BitVec 32 := 1#32
  let v4308 : BitVec 32 := Scalar.xori v2 c1_i32_2290
  let c1_i32_2301 : BitVec 32 := 1#32
  let v4310 : BitVec 32 := Scalar.muli v4308 c1_i32_2301
  let v4311 : BitVec 32 := Scalar.addi c0_i32_2302 v4310
  v4311.toNat
def k0_dev29 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2291 : BitVec 32 := 1#32
  let v4309 : BitVec 32 := Scalar.xori v2 c1_i32_2291
  let c1_i32_2316 : BitVec 32 := 1#32
  let v4320 : BitVec 32 := Scalar.muli v4309 c1_i32_2316
  let v4321 : BitVec 32 := Scalar.addi c0_i32_2317 v4320
  v4321.toNat
def k0_dev30 (d0 : Dev nD) : Nat :=
  let c0_i32_2455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2444 : BitVec 32 := 8#32
  let v5137 : BitVec 32 := Scalar.xori v2 c8_i32_2444
  let c1_i32_2454 : BitVec 32 := 1#32
  let v5139 : BitVec 32 := Scalar.muli v5137 c1_i32_2454
  let v5140 : BitVec 32 := Scalar.addi c0_i32_2455 v5139
  v5140.toNat
def k0_dev31 (d0 : Dev nD) : Nat :=
  let c0_i32_2470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2445 : BitVec 32 := 8#32
  let v5138 : BitVec 32 := Scalar.xori v2 c8_i32_2445
  let c1_i32_2469 : BitVec 32 := 1#32
  let v5149 : BitVec 32 := Scalar.muli v5138 c1_i32_2469
  let v5150 : BitVec 32 := Scalar.addi c0_i32_2470 v5149
  v5150.toNat
def k0_dev32 (d0 : Dev nD) : Nat :=
  let c0_i32_2661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2650 : BitVec 32 := 4#32
  let v5279 : BitVec 32 := Scalar.xori v2 c4_i32_2650
  let c1_i32_2660 : BitVec 32 := 1#32
  let v5281 : BitVec 32 := Scalar.muli v5279 c1_i32_2660
  let v5282 : BitVec 32 := Scalar.addi c0_i32_2661 v5281
  v5282.toNat
def k0_dev33 (d0 : Dev nD) : Nat :=
  let c0_i32_2676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2651 : BitVec 32 := 4#32
  let v5280 : BitVec 32 := Scalar.xori v2 c4_i32_2651
  let c1_i32_2675 : BitVec 32 := 1#32
  let v5291 : BitVec 32 := Scalar.muli v5280 c1_i32_2675
  let v5292 : BitVec 32 := Scalar.addi c0_i32_2676 v5291
  v5292.toNat
def k0_dev34 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2803 : BitVec 32 := 8#32
  let v6108 : BitVec 32 := Scalar.xori v2 c8_i32_2803
  let c1_i32_2814 : BitVec 32 := 1#32
  let v6110 : BitVec 32 := Scalar.muli v6108 c1_i32_2814
  let v6111 : BitVec 32 := Scalar.addi c0_i32_2815 v6110
  v6111.toNat
def k0_dev35 (d0 : Dev nD) : Nat :=
  let c0_i32_2830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2804 : BitVec 32 := 8#32
  let v6109 : BitVec 32 := Scalar.xori v2 c8_i32_2804
  let c1_i32_2829 : BitVec 32 := 1#32
  let v6120 : BitVec 32 := Scalar.muli v6109 c1_i32_2829
  let v6121 : BitVec 32 := Scalar.addi c0_i32_2830 v6120
  v6121.toNat
def k0_dev36 (d0 : Dev nD) : Nat :=
  let c0_i32_2934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2922 : BitVec 32 := 2#32
  let v6190 : BitVec 32 := Scalar.xori v2 c2_i32_2922
  let c1_i32_2933 : BitVec 32 := 1#32
  let v6192 : BitVec 32 := Scalar.muli v6190 c1_i32_2933
  let v6193 : BitVec 32 := Scalar.addi c0_i32_2934 v6192
  v6193.toNat
def k0_dev37 (d0 : Dev nD) : Nat :=
  let c0_i32_2949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2923 : BitVec 32 := 2#32
  let v6191 : BitVec 32 := Scalar.xori v2 c2_i32_2923
  let c1_i32_2948 : BitVec 32 := 1#32
  let v6202 : BitVec 32 := Scalar.muli v6191 c1_i32_2948
  let v6203 : BitVec 32 := Scalar.addi c0_i32_2949 v6202
  v6203.toNat
def k0_dev38 (d0 : Dev nD) : Nat :=
  let c0_i32_3054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3042 : BitVec 32 := 4#32
  let v6272 : BitVec 32 := Scalar.xori v2 c4_i32_3042
  let c1_i32_3053 : BitVec 32 := 1#32
  let v6274 : BitVec 32 := Scalar.muli v6272 c1_i32_3053
  let v6275 : BitVec 32 := Scalar.addi c0_i32_3054 v6274
  v6275.toNat
def k0_dev39 (d0 : Dev nD) : Nat :=
  let c0_i32_3069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3043 : BitVec 32 := 4#32
  let v6273 : BitVec 32 := Scalar.xori v2 c4_i32_3043
  let c1_i32_3068 : BitVec 32 := 1#32
  let v6284 : BitVec 32 := Scalar.muli v6273 c1_i32_3068
  let v6285 : BitVec 32 := Scalar.addi c0_i32_3069 v6284
  v6285.toNat
def k0_dev40 (d0 : Dev nD) : Nat :=
  let c0_i32_3172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3161 : BitVec 32 := 1#32
  let v6354 : BitVec 32 := Scalar.xori v2 c1_i32_3161
  let c1_i32_3171 : BitVec 32 := 1#32
  let v6356 : BitVec 32 := Scalar.muli v6354 c1_i32_3171
  let v6357 : BitVec 32 := Scalar.addi c0_i32_3172 v6356
  v6357.toNat
def k0_dev41 (d0 : Dev nD) : Nat :=
  let c0_i32_3187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3162 : BitVec 32 := 1#32
  let v6355 : BitVec 32 := Scalar.xori v2 c1_i32_3162
  let c1_i32_3186 : BitVec 32 := 1#32
  let v6366 : BitVec 32 := Scalar.muli v6355 c1_i32_3186
  let v6367 : BitVec 32 := Scalar.addi c0_i32_3187 v6366
  v6367.toNat
def k0_dev42 (d0 : Dev nD) : Nat :=
  let c0_i32_3292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3280 : BitVec 32 := 2#32
  let v6436 : BitVec 32 := Scalar.xori v2 c2_i32_3280
  let c1_i32_3291 : BitVec 32 := 1#32
  let v6438 : BitVec 32 := Scalar.muli v6436 c1_i32_3291
  let v6439 : BitVec 32 := Scalar.addi c0_i32_3292 v6438
  v6439.toNat
def k0_dev43 (d0 : Dev nD) : Nat :=
  let c0_i32_3307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3281 : BitVec 32 := 2#32
  let v6437 : BitVec 32 := Scalar.xori v2 c2_i32_3281
  let c1_i32_3306 : BitVec 32 := 1#32
  let v6448 : BitVec 32 := Scalar.muli v6437 c1_i32_3306
  let v6449 : BitVec 32 := Scalar.addi c0_i32_3307 v6448
  v6449.toNat
def k0_dev44 (d0 : Dev nD) : Nat :=
  let c0_i32_3499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3487 : BitVec 32 := 1#32
  let v6578 : BitVec 32 := Scalar.xori v2 c1_i32_3487
  let c1_i32_3498 : BitVec 32 := 1#32
  let v6580 : BitVec 32 := Scalar.muli v6578 c1_i32_3498
  let v6581 : BitVec 32 := Scalar.addi c0_i32_3499 v6580
  v6581.toNat
def k0_dev45 (d0 : Dev nD) : Nat :=
  let c0_i32_3514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3488 : BitVec 32 := 1#32
  let v6579 : BitVec 32 := Scalar.xori v2 c1_i32_3488
  let c1_i32_3513 : BitVec 32 := 1#32
  let v6590 : BitVec 32 := Scalar.muli v6579 c1_i32_3513
  let v6591 : BitVec 32 := Scalar.addi c0_i32_3514 v6590
  v6591.toNat
def k0_dev46 (d0 : Dev nD) : Nat :=
  let c0_i32_3652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3641 : BitVec 32 := 16#32
  let v7407 : BitVec 32 := Scalar.xori v2 c16_i32_3641
  let c1_i32_3651 : BitVec 32 := 1#32
  let v7409 : BitVec 32 := Scalar.muli v7407 c1_i32_3651
  let v7410 : BitVec 32 := Scalar.addi c0_i32_3652 v7409
  v7410.toNat
def k0_dev47 (d0 : Dev nD) : Nat :=
  let c0_i32_3667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3642 : BitVec 32 := 16#32
  let v7408 : BitVec 32 := Scalar.xori v2 c16_i32_3642
  let c1_i32_3666 : BitVec 32 := 1#32
  let v7419 : BitVec 32 := Scalar.muli v7408 c1_i32_3666
  let v7420 : BitVec 32 := Scalar.addi c0_i32_3667 v7419
  v7420.toNat
def k0_dev48 (d0 : Dev nD) : Nat :=
  let c0_i32_3858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3847 : BitVec 32 := 8#32
  let v7549 : BitVec 32 := Scalar.xori v2 c8_i32_3847
  let c1_i32_3857 : BitVec 32 := 1#32
  let v7551 : BitVec 32 := Scalar.muli v7549 c1_i32_3857
  let v7552 : BitVec 32 := Scalar.addi c0_i32_3858 v7551
  v7552.toNat
def k0_dev49 (d0 : Dev nD) : Nat :=
  let c0_i32_3873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3848 : BitVec 32 := 8#32
  let v7550 : BitVec 32 := Scalar.xori v2 c8_i32_3848
  let c1_i32_3872 : BitVec 32 := 1#32
  let v7561 : BitVec 32 := Scalar.muli v7550 c1_i32_3872
  let v7562 : BitVec 32 := Scalar.addi c0_i32_3873 v7561
  v7562.toNat
def k0_dev50 (d0 : Dev nD) : Nat :=
  let c0_i32_4012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4000 : BitVec 32 := 16#32
  let v8378 : BitVec 32 := Scalar.xori v2 c16_i32_4000
  let c1_i32_4011 : BitVec 32 := 1#32
  let v8380 : BitVec 32 := Scalar.muli v8378 c1_i32_4011
  let v8381 : BitVec 32 := Scalar.addi c0_i32_4012 v8380
  v8381.toNat
def k0_dev51 (d0 : Dev nD) : Nat :=
  let c0_i32_4027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4001 : BitVec 32 := 16#32
  let v8379 : BitVec 32 := Scalar.xori v2 c16_i32_4001
  let c1_i32_4026 : BitVec 32 := 1#32
  let v8390 : BitVec 32 := Scalar.muli v8379 c1_i32_4026
  let v8391 : BitVec 32 := Scalar.addi c0_i32_4027 v8390
  v8391.toNat
def k0_dev52 (d0 : Dev nD) : Nat :=
  let c0_i32_4130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4119 : BitVec 32 := 4#32
  let v8460 : BitVec 32 := Scalar.xori v2 c4_i32_4119
  let c1_i32_4129 : BitVec 32 := 1#32
  let v8462 : BitVec 32 := Scalar.muli v8460 c1_i32_4129
  let v8463 : BitVec 32 := Scalar.addi c0_i32_4130 v8462
  v8463.toNat
def k0_dev53 (d0 : Dev nD) : Nat :=
  let c0_i32_4145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4120 : BitVec 32 := 4#32
  let v8461 : BitVec 32 := Scalar.xori v2 c4_i32_4120
  let c1_i32_4144 : BitVec 32 := 1#32
  let v8472 : BitVec 32 := Scalar.muli v8461 c1_i32_4144
  let v8473 : BitVec 32 := Scalar.addi c0_i32_4145 v8472
  v8473.toNat
def k0_dev54 (d0 : Dev nD) : Nat :=
  let c0_i32_4250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4238 : BitVec 32 := 8#32
  let v8542 : BitVec 32 := Scalar.xori v2 c8_i32_4238
  let c1_i32_4249 : BitVec 32 := 1#32
  let v8544 : BitVec 32 := Scalar.muli v8542 c1_i32_4249
  let v8545 : BitVec 32 := Scalar.addi c0_i32_4250 v8544
  v8545.toNat
def k0_dev55 (d0 : Dev nD) : Nat :=
  let c0_i32_4265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4239 : BitVec 32 := 8#32
  let v8543 : BitVec 32 := Scalar.xori v2 c8_i32_4239
  let c1_i32_4264 : BitVec 32 := 1#32
  let v8554 : BitVec 32 := Scalar.muli v8543 c1_i32_4264
  let v8555 : BitVec 32 := Scalar.addi c0_i32_4265 v8554
  v8555.toNat
def k0_dev56 (d0 : Dev nD) : Nat :=
  let c0_i32_4368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4357 : BitVec 32 := 2#32
  let v8624 : BitVec 32 := Scalar.xori v2 c2_i32_4357
  let c1_i32_4367 : BitVec 32 := 1#32
  let v8626 : BitVec 32 := Scalar.muli v8624 c1_i32_4367
  let v8627 : BitVec 32 := Scalar.addi c0_i32_4368 v8626
  v8627.toNat
def k0_dev57 (d0 : Dev nD) : Nat :=
  let c0_i32_4383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4358 : BitVec 32 := 2#32
  let v8625 : BitVec 32 := Scalar.xori v2 c2_i32_4358
  let c1_i32_4382 : BitVec 32 := 1#32
  let v8636 : BitVec 32 := Scalar.muli v8625 c1_i32_4382
  let v8637 : BitVec 32 := Scalar.addi c0_i32_4383 v8636
  v8637.toNat
def k0_dev58 (d0 : Dev nD) : Nat :=
  let c0_i32_4488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4476 : BitVec 32 := 4#32
  let v8706 : BitVec 32 := Scalar.xori v2 c4_i32_4476
  let c1_i32_4487 : BitVec 32 := 1#32
  let v8708 : BitVec 32 := Scalar.muli v8706 c1_i32_4487
  let v8709 : BitVec 32 := Scalar.addi c0_i32_4488 v8708
  v8709.toNat
def k0_dev59 (d0 : Dev nD) : Nat :=
  let c0_i32_4503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4477 : BitVec 32 := 4#32
  let v8707 : BitVec 32 := Scalar.xori v2 c4_i32_4477
  let c1_i32_4502 : BitVec 32 := 1#32
  let v8718 : BitVec 32 := Scalar.muli v8707 c1_i32_4502
  let v8719 : BitVec 32 := Scalar.addi c0_i32_4503 v8718
  v8719.toNat
def k0_dev60 (d0 : Dev nD) : Nat :=
  let c0_i32_4606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4595 : BitVec 32 := 1#32
  let v8788 : BitVec 32 := Scalar.xori v2 c1_i32_4595
  let c1_i32_4605 : BitVec 32 := 1#32
  let v8790 : BitVec 32 := Scalar.muli v8788 c1_i32_4605
  let v8791 : BitVec 32 := Scalar.addi c0_i32_4606 v8790
  v8791.toNat
def k0_dev61 (d0 : Dev nD) : Nat :=
  let c0_i32_4621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4596 : BitVec 32 := 1#32
  let v8789 : BitVec 32 := Scalar.xori v2 c1_i32_4596
  let c1_i32_4620 : BitVec 32 := 1#32
  let v8800 : BitVec 32 := Scalar.muli v8789 c1_i32_4620
  let v8801 : BitVec 32 := Scalar.addi c0_i32_4621 v8800
  v8801.toNat
def k0_dev62 (d0 : Dev nD) : Nat :=
  let c0_i32_4726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4714 : BitVec 32 := 2#32
  let v8870 : BitVec 32 := Scalar.xori v2 c2_i32_4714
  let c1_i32_4725 : BitVec 32 := 1#32
  let v8872 : BitVec 32 := Scalar.muli v8870 c1_i32_4725
  let v8873 : BitVec 32 := Scalar.addi c0_i32_4726 v8872
  v8873.toNat
def k0_dev63 (d0 : Dev nD) : Nat :=
  let c0_i32_4741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4715 : BitVec 32 := 2#32
  let v8871 : BitVec 32 := Scalar.xori v2 c2_i32_4715
  let c1_i32_4740 : BitVec 32 := 1#32
  let v8882 : BitVec 32 := Scalar.muli v8871 c1_i32_4740
  let v8883 : BitVec 32 := Scalar.addi c0_i32_4741 v8882
  v8883.toNat
def k0_dev64 (d0 : Dev nD) : Nat :=
  let c0_i32_4933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4921 : BitVec 32 := 1#32
  let v9012 : BitVec 32 := Scalar.xori v2 c1_i32_4921
  let c1_i32_4932 : BitVec 32 := 1#32
  let v9014 : BitVec 32 := Scalar.muli v9012 c1_i32_4932
  let v9015 : BitVec 32 := Scalar.addi c0_i32_4933 v9014
  v9015.toNat
def k0_dev65 (d0 : Dev nD) : Nat :=
  let c0_i32_4948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4922 : BitVec 32 := 1#32
  let v9013 : BitVec 32 := Scalar.xori v2 c1_i32_4922
  let c1_i32_4947 : BitVec 32 := 1#32
  let v9024 : BitVec 32 := Scalar.muli v9013 c1_i32_4947
  let v9025 : BitVec 32 := Scalar.addi c0_i32_4948 v9024
  v9025.toNat
def k0_dev66 (d0 : Dev nD) : Nat :=
  let c0_i32_5328_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5325_r0 : BitVec 32 := 1#32
  let v10741_r0 : BitVec 32 := Scalar.xori v2 c1_i32_5325_r0
  let c1_i32_5327_r0 : BitVec 32 := 1#32
  let v10742_r0 : BitVec 32 := Scalar.muli v10741_r0 c1_i32_5327_r0
  let v10743_r0 : BitVec 32 := Scalar.addi c0_i32_5328_r0 v10742_r0
  v10743_r0.toNat
def k0_dev67 (d0 : Dev nD) : Nat :=
  let c0_i32_5332_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5329_r0 : BitVec 32 := 2#32
  let v10744_r0 : BitVec 32 := Scalar.xori v2 c2_i32_5329_r0
  let c1_i32_5331_r0 : BitVec 32 := 1#32
  let v10745_r0 : BitVec 32 := Scalar.muli v10744_r0 c1_i32_5331_r0
  let v10746_r0 : BitVec 32 := Scalar.addi c0_i32_5332_r0 v10745_r0
  v10746_r0.toNat
def k0_dev68 (d0 : Dev nD) : Nat :=
  let c0_i32_5336_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5333_r0 : BitVec 32 := 4#32
  let v10747_r0 : BitVec 32 := Scalar.xori v2 c4_i32_5333_r0
  let c1_i32_5335_r0 : BitVec 32 := 1#32
  let v10748_r0 : BitVec 32 := Scalar.muli v10747_r0 c1_i32_5335_r0
  let v10749_r0 : BitVec 32 := Scalar.addi c0_i32_5336_r0 v10748_r0
  v10749_r0.toNat
def k0_dev69 (d0 : Dev nD) : Nat :=
  let c0_i32_5340_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5337_r0 : BitVec 32 := 8#32
  let v10750_r0 : BitVec 32 := Scalar.xori v2 c8_i32_5337_r0
  let c1_i32_5339_r0 : BitVec 32 := 1#32
  let v10751_r0 : BitVec 32 := Scalar.muli v10750_r0 c1_i32_5339_r0
  let v10752_r0 : BitVec 32 := Scalar.addi c0_i32_5340_r0 v10751_r0
  v10752_r0.toNat
def k0_dev70 (d0 : Dev nD) : Nat :=
  let c0_i32_5344_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5341_r0 : BitVec 32 := 16#32
  let v10753_r0 : BitVec 32 := Scalar.xori v2 c16_i32_5341_r0
  let c1_i32_5343_r0 : BitVec 32 := 1#32
  let v10754_r0 : BitVec 32 := Scalar.muli v10753_r0 c1_i32_5343_r0
  let v10755_r0 : BitVec 32 := Scalar.addi c0_i32_5344_r0 v10754_r0
  v10755_r0.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x256 : Shape := ⟨2, ![32768, 256]⟩

abbrev nBuf : Space → Nat
  | .hbm => 2
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Struct.lean ====
/- The kernel's body written as a program over a few pieces: loads and stores of row blocks, the compare-exchange of two
   blocks, the loops of the local sort, the half copies of an exchange, and the merges. -/
module

public import proofs.«01_k».proof.Proof.Gen.KernelIdeal
public import Idealize.ShloMosaic.Lib.Pipeline

@[expose] public section

noncomputable section

namespace Cert.KernelIdeal.BS

open Idealize.ShloMosaic Idealize.SL.Sem
open Facts₀ Facts

variable {F : FTy → Type} [FloatOps F]

/-- A program of one core. -/
abbrev Code (F : FTy → Type) [FloatOps F] (α : Type) := Prog (TpuEff nD τ sig (Elt F) Λ₀ .tc) α

/-! ## Shapes with the sizes as parameters -/

abbrev sh2 (a b : Nat) : Shape := ⟨2, ![a, b]⟩
abbrev sh3 (a b c : Nat) : Shape := ⟨3, ![a, b, c]⟩
abbrev sh4 (a b c d : Nat) : Shape := ⟨4, ![a, b, c, d]⟩

/-- What the program needs of the block of `c` rows from row `o` of group `g`. -/
structure WIn (g o c : Nat) : Prop where
  inb : ∀ a, (![g, o, 0] : Fin 3 → Nat) a + (sh3 1 c 128).size a ≤ S2x1024x128.size a
  packed : (Rect.unit (s := S2x1024x128) ![g, o, 0] (sh3 1 c 128).size inb).PackedRows (EltTy.packing .bf16)
  pos : 0 < (sh3 1 c 128).numel
  cast32 : (sh3 1 c 128).ShapeCasts (sh2 c 128)
  cast23 : (sh2 c 128).ShapeCasts (sh3 1 c 128)

/-- What the small steps of the local sort need of the shapes for `n` blocks of `2 j` rows. -/
structure SmallOk (n j : Nat) : Prop where
  split : (sh2 256 128).ShapeCasts (sh4 n 2 j 128)
  lo : (sh4 n 2 j 128).Slices ![0, 0, 0, 0] (sh4 n 1 j 128)
  hi : (sh4 n 2 j 128).Slices ![0, 1, 0, 0] (sh4 n 1 j 128)
  drop : (sh4 n 1 j 128).ShapeCasts (sh3 n j 128)
  add : (sh3 n j 128).ShapeCasts (sh4 n 1 j 128)
  iot : (sh3 n 1 1).Iotas .tc 32 [0]
  same : (sh3 n 1 1).ShapeCasts (sh3 n 1 1)
  bc : (sh3 n 1 1).Broadcasts (sh3 n j 128)
  cat : Shape.Concatenates [sh4 n 1 j 128, sh4 n 1 j 128] (sh4 n 2 j 128) 1
  join : (sh4 n 2 j 128).ShapeCasts (sh2 256 128)

/-- What a merge step on pieces of `j` rows needs. -/
structure PieceOk (n j : Nat) : Prop where
  sl : ∀ i : Fin n, (sh2 256 128).Slices ![j * i.val, 0] (sh2 j 128)

/-- What a rotation by `j` rows needs. -/
structure RollOk (j : Nat) : Prop where
  up : (sh2 256 128).Slices ![j, 0] (sh2 (256 - j) 128)
  upr : (sh2 256 128).Slices ![0, 0] (sh2 j 128)
  catu : Shape.Concatenates [sh2 (256 - j) 128, sh2 j 128] (sh2 256 128) 0
  dn : (sh2 256 128).Slices ![256 - j, 0] (sh2 j 128)
  dnr : (sh2 256 128).Slices ![0, 0] (sh2 (256 - j) 128)
  catd : Shape.Concatenates [sh2 j 128, sh2 (256 - j) 128] (sh2 256 128) 0

/-! ## Values -/

/-- One small step on a block of 256 rows: neighbours `j` apart, the smaller first where `mask` says so. -/
def smallW (n j : Nat) (h : SmallOk n j) (sel : FVec F (sh3 n j 128) .bf16 → FVec F (sh3 n j 128) .bf16 → FVec F (sh3 n j 128) .bf16)
    (x : FVec F (sh2 256 128) .bf16) : FVec F (sh2 256 128) .bf16 :=
  have y : FVec F (sh4 n 2 j 128) .bf16 := shapeCast (sh4 n 2 j 128) x h.split
  have lo : FVec F (sh3 n j 128) .bf16 := shapeCast (sh3 n j 128) (extractStridedSlice (sh4 n 1 j 128) ![0, 0, 0, 0] y h.lo) h.drop
  have hi : FVec F (sh3 n j 128) .bf16 := shapeCast (sh3 n j 128) (extractStridedSlice (sh4 n 1 j 128) ![0, 1, 0, 0] y h.hi) h.drop
  have mn : FVec F (sh3 n j 128) .bf16 := minimumf lo hi
  have mx : FVec F (sh3 n j 128) .bf16 := maximumf lo hi
  have a : FVec F (sh4 n 1 j 128) .bf16 := shapeCast (sh4 n 1 j 128) (sel mn mx) h.add
  have b : FVec F (sh4 n 1 j 128) .bf16 := shapeCast (sh4 n 1 j 128) (sel mx mn) h.add
  shapeCast (sh2 256 128) (concatenate (sh4 n 2 j 128) 1 [⟨sh4 n 1 j 128, a⟩, ⟨sh4 n 1 j 128, b⟩] h.cat) h.join

/-- The choice by the block's number: ascending where bit `k` of the block's first row is clear. -/
def selIota (n j : Nat) (h : SmallOk n j) (j2 k : BitVec 32) (a b : FVec F (sh3 n j 128) .bf16) : FVec F (sh3 n j 128) .bf16 :=
  select (broadcastTo (sh3 n j 128) (shapeCast (sh3 n 1 1) (cmpi .eq (andi (muli (iota .tc (sh3 n 1 1) 32 [0] h.iot)
    (broadcast (sh3 n 1 1) j2)) (broadcast (sh3 n 1 1) k)) (broadcast (sh3 n 1 1) (0#32 : BitVec 32))) h.same) h.bc) a b

/-- One merge step on a block of 256 rows cut into `n` pieces of `j` rows, pieces `2 i` and `2 i + 1` compared. -/
def piece (n j : Nat) (h : PieceOk n j) (asc : BitVec 1) (x : FVec F (sh2 256 128) .bf16) (i : Fin n) (i' : Fin n) (low : Bool) :
    FVec F (sh2 j 128) .bf16 :=
  have a : FVec F (sh2 j 128) .bf16 := extractStridedSlice (sh2 j 128) ![j * i.val, 0] x (h.sl i)
  have b : FVec F (sh2 j 128) .bf16 := extractStridedSlice (sh2 j 128) ![j * i'.val, 0] x (h.sl i')
  bif low then Scalar.select asc (minimumf a b) (maximumf a b) else Scalar.select asc (maximumf a b) (minimumf a b)

/-- The pieces of a merge step in order. -/
def pieceAt (n j : Nat) (h : PieceOk n j) (hn : 2 ∣ n) (asc : BitVec 1) (x : FVec F (sh2 256 128) .bf16) (i : Fin n) :
    FVec F (sh2 j 128) .bf16 :=
  piece n j h asc x ⟨2 * (i.val / 2), by omega⟩ ⟨2 * (i.val / 2) + 1, by omega⟩ (i.val % 2 == 0)

/-- A merge step on pieces: the pieces put together. -/
def piecesW (n j : Nat) (h : PieceOk n j) (hn : 2 ∣ n) (asc : BitVec 1) (x : FVec F (sh2 256 128) .bf16)
    (hc : Shape.Concatenates ((List.ofFn fun i : Fin n => (⟨sh2 j 128, pieceAt n j h hn asc x i⟩ : (s : Shape) × (s.Idx → F .bf16))).map (·.1)) (sh2 256 128) 0) :
    FVec F (sh2 256 128) .bf16 :=
  concatenate (sh2 256 128) 0 (List.ofFn fun i : Fin n => (⟨sh2 j 128, pieceAt n j h hn asc x i⟩ : (s : Shape) × (s.Idx → F .bf16))) hc

/-- A merge step by rotations: neighbours `j` rows apart. -/
def rollW (j : Nat) (h : RollOk j) (jw : BitVec 32) (asc : BitVec 1) (rio : IVec S256x1 32) (x : FVec F (sh2 256 128) .bf16) :
    FVec F (sh2 256 128) .bf16 :=
  have low : IVec S256x1 1 := cmpi .eq (andi rio (broadcast S256x1 jw)) (broadcast S256x1 (0#32 : BitVec 32))
  have up : FVec F (sh2 256 128) .bf16 := concatenate (sh2 256 128) 0
    [⟨sh2 (256 - j) 128, extractStridedSlice (sh2 (256 - j) 128) ![j, 0] x h.up⟩, ⟨sh2 j 128, extractStridedSlice (sh2 j 128) ![0, 0] x h.upr⟩] h.catu
  have dn : FVec F (sh2 256 128) .bf16 := concatenate (sh2 256 128) 0
    [⟨sh2 j 128, extractStridedSlice (sh2 j 128) ![256 - j, 0] x h.dn⟩, ⟨sh2 (256 - j) 128, extractStridedSlice (sh2 (256 - j) 128) ![0, 0] x h.dnr⟩] h.catd
  have pv : FVec F (sh2 256 128) .bf16 := select (broadcastTo S256x128 (shapeCast S256x1 low shapeCasts_S256x1_S256x1) broadcasts_S256x1_S256x128) up dn
  have eqv : IVec S256x1 1 := xori (xori low (broadcastTo S256x1 (broadcast S256x1 asc) broadcasts_S256x1_S256x1)) (constantI S256x1 1 1#1)
  select (broadcastTo S256x128 (shapeCast S256x1 eqv shapeCasts_S256x1_S256x1) broadcasts_S256x1_S256x128) (minimumf x pv) (maximumf x pv)

/-- Everything the merges need. -/
structure MergeOk : Prop where
  p128 : PieceOk 2 128
  p64 : PieceOk 4 64
  p32 : PieceOk 8 32
  p16 : PieceOk 16 16
  c128 : Shape.Concatenates (List.replicate 2 (sh2 128 128)) (sh2 256 128) 0
  c64 : Shape.Concatenates (List.replicate 4 (sh2 64 128)) (sh2 256 128) 0
  c32 : Shape.Concatenates (List.replicate 8 (sh2 32 128)) (sh2 256 128) 0
  c16 : Shape.Concatenates (List.replicate 16 (sh2 16 128)) (sh2 256 128) 0
  r8 : RollOk 8
  r4 : RollOk 4
  r2 : RollOk 2
  r1 : RollOk 1

/-- All eight merge steps inside a block of 256 rows. -/
def mergeW (h : MergeOk) (asc : BitVec 1) (rio : IVec S256x1 32) (x : FVec F (sh2 256 128) .bf16) : FVec F (sh2 256 128) .bf16 :=
  have x1 := piecesW 2 128 h.p128 (by decide) asc x h.c128
  have x2 := piecesW 4 64 h.p64 (by decide) asc x1 h.c64
  have x3 := piecesW 8 32 h.p32 (by decide) asc x2 h.c32
  have x4 := piecesW 16 16 h.p16 (by decide) asc x3 h.c16
  have x5 := rollW 8 h.r8 8#32 asc rio x4
  have x6 := rollW 4 h.r4 4#32 asc rio x5
  have x7 := rollW 2 h.r2 2#32 asc rio x6
  rollW 1 h.r1 1#32 asc rio x7

/-! ## The pieces of the program -/

section Pieces

variable (arg0 : Memref sig .tc .vmem S1024x256 .f32) (harg0 : arg0.IsWhole)
  (arg1 : Memref sig .tc .vmem S1024x256 .f32) (harg1 : arg1.IsWhole)
  (arg2 : Memref sig .tc .vmem S2x1024x128 .bf16) (harg2 : arg2.IsWhole)
  (arg3 : Memref sig .tc .vmem S15x2x1024x128 .bf16) (harg3 : arg3.IsWhole)
  (arg4 arg5 : DmaSems sig S15x2x2) (ex : Sems sig S_)

/-- Read `c` rows from row `o` of group `g`. -/
def ldW (g o c : Nat) (h : WIn g o c) : Code F (FVec F (sh2 c 128) .bf16) := do
  let v : Vec F (sh3 1 c 128) .bf16 ← Prog.lift (.load arg2 (Rect.unit (s := S2x1024x128) ![g, o, 0] (sh3 1 c 128).size h.inb).toLoadRect (View.loadsAt_vmem h.pos))
  pure (shapeCast (sh2 c 128) v h.cast32)

/-- Write `c` rows from row `o` of group `g` (the rows are read first, to no use). -/
def stW (g o c : Nat) (h : WIn g o c) (v : FVec F (sh2 c 128) .bf16) : Code F PUnit := do
  let _w : Vec F (sh3 1 c 128) .bf16 ← Prog.lift (.load arg2 (Rect.unit (s := S2x1024x128) ![g, o, 0] (sh3 1 c 128).size h.inb).toLoadRect (View.loadsAt_vmem h.pos))
  have v' : FVec F (sh3 1 c 128) .bf16 := shapeCast (sh3 1 c 128) v h.cast23
  Prog.lift (.store arg2 (Rect.unit (s := S2x1024x128) ![g, o, 0] (sh3 1 c 128).size h.inb) v' Finset.univ (View.stores_vmem h.pos (harg2.storeExact_slice rfl _ h.packed) (fun _ => rfl)) (.inl rfl))

/-- Compare `c` rows from `oA` with `c` rows from `oB`: where `asc`, the smaller go to `oA`. -/
def pairP (g oA oB c : Nat) (hA : WIn g oA c) (hB : WIn g oB c) (asc : BitVec 1) : Code F PUnit := do
  let x : FVec F (sh2 c 128) .bf16 ← ldW arg2 g oA c hA
  let y : FVec F (sh2 c 128) .bf16 ← ldW arg2 g oB c hB
  have mn : FVec F (sh2 c 128) .bf16 := minimumf x y
  have mx : FVec F (sh2 c 128) .bf16 := maximumf x y
  stW arg2 harg2 g oA c hA (Scalar.select asc mn mx)
  stW arg2 harg2 g oB c hB (Scalar.select asc mx mn)

/-- The bounds of a loop of `m` trips. -/
@[reducible] def loopN (m : BitVec 32) : Scf.Loop 32 := ⟨0#32, Scalar.addi 0#32 m, 1#32⟩

/-- The first row of the `t`-th block of 256 rows, as the program computes it. -/
def rowS (t : Fin (loopN 4#32).trips) : Nat := (Scalar.indexCast (Scalar.muli (Scf.iv 0#32 1#32 t) 256#32)).toNat

/-- A loop of small steps (`j ≤ 8`) whose order the block's own number decides. -/
def smallA (n j : Nat) (h : SmallOk n j) (hl : (loopN 4#32).OK) (g : Nat) (hw : ∀ t, WIn g (rowS t) 256) (j2 k : BitVec 32) : Code F PUnit :=
  Scf.Loop.for (loopN 4#32) hl ⟨⟩ fun t _ => do
    let x : FVec F (sh2 256 128) .bf16 ← ldW arg2 g (rowS t) 256 (hw t)
    stW arg2 harg2 g (rowS t) 256 (hw t) (smallW n j h (selIota n j h j2 k) x)

/-- A loop of small steps (`j ≤ 8`) whose order the whole block of 256 rows shares. -/
def smallB (n j : Nat) (h : SmallOk n j) (hl : (loopN 4#32).OK) (g : Nat) (hw : ∀ t, WIn g (rowS t) 256) (k : BitVec 32) (v3 : BitVec 32) : Code F PUnit :=
  Scf.Loop.for (loopN 4#32) hl ⟨⟩ fun t _ => do
    let x : FVec F (sh2 256 128) .bf16 ← ldW arg2 g (rowS t) 256 (hw t)
    let asc : BitVec 1 := Scalar.cmpi .eq (Scalar.andi (Scalar.addi v3 (Scalar.muli (Scf.iv 0#32 1#32 t) 256#32)) k) 0#32
    stW arg2 harg2 g (rowS t) 256 (hw t) (smallW n j h (fun a b => Scalar.select asc a b) x)

/-- Division of the trip number rounding down, as the program computes it. -/
def fdivW (a m : BitVec 32) : BitVec 32 :=
  Scalar.select (Scalar.andi (Scalar.cmpi .ne (Scalar.subi (Scalar.extui (Scalar.cmpi .sgt a 0#32) : BitVec 32) (Scalar.extui (Scalar.cmpi .slt a 0#32)))
      (Scalar.subi (Scalar.extui (Scalar.cmpi .sgt m 0#32) : BitVec 32) (Scalar.extui (Scalar.cmpi .slt m 0#32))))
    (Scalar.cmpi .ne (Scalar.remsi a m) 0#32)) (Scalar.subi (Scalar.divsi a m) 1#32) (Scalar.divsi a m)

/-- The remainder with the divisor's sign, as the program computes it. -/
def fmodW (a m : BitVec 32) : BitVec 32 :=
  have m' : BitVec 32 := Scalar.select (Scalar.cmpi .eq m 0#32) 1#32 m
  have r : BitVec 32 := Scalar.remsi a m'
  Scalar.select (Scalar.andi (Scalar.xori (Scalar.cmpi .slt r 0#32) (Scalar.cmpi .slt m' 0#32)) (Scalar.cmpi .ne r 0#32)) (Scalar.addi r m') r

/-- The first row of a block of `2 j` rows. -/
def baseL (m j2 : BitVec 32) (a : BitVec 32) : BitVec 32 := Scalar.muli (fdivW a m) j2
/-- The first row of the `t`-th lower piece. -/
def lowL (m j2 c : BitVec 32) (a : BitVec 32) : BitVec 32 := Scalar.addi (baseL m j2 a) (Scalar.muli (fmodW a m) c)

/-- The first row of the lower piece of trip `t`. -/
def rowA (n m j2 c : BitVec 32) (t : Fin (loopN n).trips) : Nat := (Scalar.indexCast (lowL m j2 c (Scf.iv 0#32 1#32 t))).toNat
/-- The first row of the upper piece of trip `t`. -/
def rowB (n m j2 c j : BitVec 32) (t : Fin (loopN n).trips) : Nat := (Scalar.indexCast (Scalar.addi (lowL m j2 c (Scf.iv 0#32 1#32 t)) j)).toNat

/-- A loop of large steps (`j ≥ 16`): pieces of `c` rows, `j` rows apart. -/
def largeP (n m j2 cw jw : BitVec 32) (c : Nat) (hl : (loopN n).OK) (g : Nat) (hA : ∀ t, WIn g (rowA n m j2 cw t) c) (hB : ∀ t, WIn g (rowB n m j2 cw jw t) c)
    (k v3 : BitVec 32) : Code F PUnit :=
  Scf.Loop.for (loopN n) hl ⟨⟩ fun t _ =>
    pairP arg2 harg2 g (rowA n m j2 cw t) (rowB n m j2 cw jw t) c (hA t) (hB t)
      (Scalar.cmpi .eq (Scalar.andi (Scalar.addi v3 (baseL m j2 (Scf.iv 0#32 1#32 t))) k) 0#32)

/-- What reading a block of 256 rows of one group's columns from the operand needs. -/
structure XIn (o q : Nat) : Prop where
  inb : ∀ a, (![o, q] : Fin 2 → Nat) a + S256x128.size a ≤ S1024x256.size a

/-- Copy a block of 256 rows from the operand, rounded to bf16. -/
def copyIn (g o q : Nat) (h : WIn g o 256) (hx : XIn o q) : Code F PUnit := do
  let v : Vec F S256x128 .f32 ← Prog.lift (.load arg0 (Rect.unit (s := S1024x256) ![o, q] S256x128.size hx.inb).toLoadRect (View.loadsAt_vmem h_S256x128))
  have v1 : FVec F S256x128 .f32 := shapeCast S256x128 v shapeCasts_S256x128_S256x128
  stW arg2 harg2 g o 256 h (truncf .bf16 v1 bitsLt_bf16_f32)

/-- Copy a block of 256 rows to the result, widened to f32. -/
def copyOut (g o q : Nat) (h : WIn g o 256) (hx : XIn o q) : Code F PUnit := do
  let v : FVec F (sh2 256 128) .bf16 ← ldW arg2 g o 256 h
  have w : FVec F S256x128 .f32 := extf .f32 v bitsLt_bf16_f32
  let _z : Vec F S256x128 .f32 ← Prog.lift (.load arg1 (Rect.unit (s := S1024x256) ![o, q] S256x128.size hx.inb).toLoadRect (View.loadsAt_vmem h_S256x128))
  Prog.lift (.store arg1 (Rect.unit (s := S1024x256) ![o, q] S256x128.size hx.inb) w Finset.univ (View.stores_vmem_bits_univ h_S256x128 rfl) (.inl rfl))

/-- What half `h` (rows from `o`) of exchange `t` of group `g` needs. -/
structure HOk (t g h o : Nat) : Prop where
  sem : ∀ a, (![t, g, h] : Fin 3 → Nat) a + S1x1x1.size a ≤ S15x2x2.size a
  win : ∀ a, (![g, o, 0] : Fin 3 → Nat) a + S1x512x128.size a ≤ S2x1024x128.size a
  winw : (Rect.unit (s := S2x1024x128) ![g, o, 0] S1x512x128.size win).WholeWords (EltTy.packing .bf16)
  stg : ∀ a, (![t, g, o, 0] : Fin 4 → Nat) a + S1x1x512x128.size a ≤ S15x2x1024x128.size a
  stgw : (Rect.unit (s := S15x2x1024x128) ![t, g, o, 0] S1x1x512x128.size stg).WholeWords (EltTy.packing .bf16)

/-- The cell of a table of semaphores that a half uses. -/
def cellS (a : DmaSems sig S15x2x2) (t g h o : Nat) (hk : HOk t g h o) : DmaSems sig S_ :=
  (a.slice (Rect.unit (s := S15x2x2) ![t, g, h] S1x1x1.size hk.sem)).squeeze S_ squeezes_S1x1x1_S_

/-- The rows of the work buffer that a half sends. -/
def winM (t g h o : Nat) (hk : HOk t g h o) : Memref sig .tc .vmem S512x128 .bf16 :=
  (arg2.slice (Rect.unit (s := S2x1024x128) ![g, o, 0] S1x512x128.size hk.win) (fun _ => rfl)).squeeze S512x128 squeezes_S1x512x128_S512x128

/-- The rows of the staging buffer that a half arrives in. -/
def stgM (t g h o : Nat) (hk : HOk t g h o) : Memref sig .tc .vmem S512x128 .bf16 :=
  (arg3.slice (Rect.unit (s := S15x2x1024x128) ![t, g, o, 0] S1x1x512x128.size hk.stg) (fun _ => rfl)).squeeze S512x128 squeezes_S1x1x512x128_S512x128

/-- The partner's number, as the program computes it from the device's. -/
def pdevN (d : BitVec 32) (d0 : Dev nD) : Nat :=
  (Scalar.addi 0#32 (Scalar.muli (Scalar.xori (Scalar.remsi (Scalar.divsi (Dev.word d0) 1#32) 32#32) d) 1#32)).toNat

/-- Start sending half `h` of exchange `t` of group `g` to the partner. -/
def sendH (t g h o : Nat) (hk : HOk t g h o) (d : BitVec 32) (hd : ∀ d0, pdevN d d0 < nD) (d0 : Dev nD) : Code F PUnit :=
  Prog.lift (.enqueueDma (winM arg2 t g h o hk) (.remote (Dev.tc (⟨pdevN d d0, hd d0⟩ : Dev nD)) (stgM arg3 t g h o hk) (.dma (cellS arg4 t g h o hk).sem))
    (.dma (cellS arg5 t g h o hk).sem) ((harg2.wordExact_slice rfl _ hk.winw).reshape _ _) ((harg3.wordExact_slice rfl _ hk.stgw).reshape _ _) ⟨⟨rfl, Or.inl rfl⟩, trivial⟩)

/-- Wait until the own half is sent and the partner's has come. -/
def waitH (t g h o : Nat) (hk : HOk t g h o) : Code F PUnit := do
  Prog.lift (.waitDma2 (cellS arg4 t g h o hk).sem (stgM arg3 t g h o hk) (winM arg2 t g h o hk) ((harg3.wordExact_slice rfl _ hk.stgw).reshape _ _) ((harg2.wordExact_slice rfl _ hk.winw).reshape _ _))
  Prog.lift (.waitDma2 (cellS arg5 t g h o hk).sem (winM arg2 t g h o hk) (stgM arg3 t g h o hk) ((harg2.wordExact_slice rfl _ hk.winw).reshape _ _) ((harg3.wordExact_slice rfl _ hk.stgw).reshape _ _))

/-- Keep the smaller or the larger of the own and the partner's rows, as the device's number decides. -/
def keepH (t g h o : Nat) (hk : HOk t g h o) (hw : WIn g o 512) (K d v2 : BitVec 32) : Code F PUnit := do
  have mine : BitVec 1 := Scalar.xori (Scalar.xori (Scalar.cmpi .eq (Scalar.andi v2 K) 0#32) (Scalar.cmpi .eq (Scalar.andi v2 d) 0#32)) 1#1
  let x : FVec F (sh2 512 128) .bf16 ← ldW arg2 g o 512 hw
  let y : Vec F S1x1x512x128 .bf16 ← Prog.lift (.load arg3 (Rect.unit (s := S15x2x1024x128) ![t, g, o, 0] S1x1x512x128.size hk.stg).toLoadRect (View.loadsAt_vmem h_S1x1x512x128))
  have y' : FVec F (sh2 512 128) .bf16 := shapeCast S512x128 y shapeCasts_S1x1x512x128_S512x128
  stW arg2 harg2 g o 512 hw (Scalar.select mine (minimumf x y') (maximumf x y'))

/-- Everything fixed that the pieces need. -/
structure AllOk : Prop where
  w256 : ∀ g s : Nat, g < 2 → s < 4 → WIn g (256 * s) 256
  w512 : ∀ g h : Nat, g < 2 → h < 2 → WIn g (512 * h) 512
  hk : ∀ t g h : Nat, t < 15 → g < 2 → h < 2 → HOk t g h (512 * h)
  x : ∀ g s : Nat, g < 2 → s < 4 → XIn (256 * s) (128 * g)
  mg : MergeOk
  pdev : ∀ d ∈ [1#32, 2#32, 4#32, 8#32, 16#32], ∀ d0, pdevN d d0 < nD

/-- The start of exchange `t` of group `g` with the partner at distance `d`. -/
def startP (E : AllOk) (g : Nat) (hg : g < 2) (t : Nat) (ht : t < 15) (d : BitVec 32) (hd : d ∈ [1#32, 2#32, 4#32, 8#32, 16#32]) (d0 : Dev nD) : Code F PUnit := do
  sendH arg2 harg2 arg3 harg3 arg4 arg5 t g 0 (512 * 0) (E.hk t g 0 ht hg (by decide)) d (E.pdev d hd) d0
  sendH arg2 harg2 arg3 harg3 arg4 arg5 t g 1 (512 * 1) (E.hk t g 1 ht hg (by decide)) d (E.pdev d hd) d0

/-- One half of an exchange's end. -/
def recvP (E : AllOk) (g : Nat) (hg : g < 2) (t : Nat) (ht : t < 15) (h : Nat) (hh : h < 2) (K d v2 : BitVec 32) : Code F PUnit := do
  waitH arg2 harg2 arg3 harg3 arg4 arg5 t g h (512 * h) (E.hk t g h ht hg hh)
  keepH arg2 harg2 arg3 t g h (512 * h) (E.hk t g h ht hg hh) (E.w512 g h hg hh) K d v2

/-- One block of a merge. -/
def mblk (E : AllOk) (g : Nat) (hg : g < 2) (s : Nat) (hs : s < 4) (asc : BitVec 1) (rio : IVec S256x1 32) : Code F PUnit := do
  let x : FVec F (sh2 256 128) .bf16 ← ldW arg2 g (256 * s) 256 (E.w256 g s hg hs)
  stW arg2 harg2 g (256 * s) 256 (E.w256 g s hg hs) (mergeW E.mg asc rio x)

/-- A compare-exchange of two blocks of 256 rows. -/
def mpair (E : AllOk) (g : Nat) (hg : g < 2) (s s' : Nat) (hs : s < 4) (hs' : s' < 4) (asc : BitVec 1) : Code F PUnit :=
  pairP arg2 harg2 g (256 * s) (256 * s') 256 (E.w256 g s hg hs) (E.w256 g s' hg hs') asc

/-- A merge of one group's rows. -/
def mergeP (E : AllOk) (g : Nat) (hg : g < 2) (K v2 : BitVec 32) : Code F PUnit := do
  have asc : BitVec 1 := Scalar.cmpi .eq (Scalar.andi v2 K) 0#32
  mpair arg2 harg2 E g hg 0 2 (by decide) (by decide) asc
  mpair arg2 harg2 E g hg 1 3 (by decide) (by decide) asc
  mpair arg2 harg2 E g hg 0 1 (by decide) (by decide) asc
  mpair arg2 harg2 E g hg 2 3 (by decide) (by decide) asc
  have rio : IVec S256x1 32 := iota .tc S256x1 32 [0] iota_S256x1_d0_w32
  mblk arg2 harg2 E g hg 0 (by decide) asc rio
  mblk arg2 harg2 E g hg 1 (by decide) asc rio
  mblk arg2 harg2 E g hg 2 (by decide) asc rio
  mblk arg2 harg2 E g hg 3 (by decide) asc rio

end Pieces

end Cert.KernelIdeal.BS
-- ==== Proof.Body.lean ====
/- The whole body over the pieces of `Struct`, what the pieces need, and that it is the kernel's body. -/
module

public import proofs.«01_k».proof.Proof.Struct

@[expose] public section

noncomputable section

namespace Cert.KernelIdeal.BS

open Idealize.ShloMosaic Idealize.SL.Sem
open Facts₀ Facts

variable {F : FTy → Type} [FloatOps F]

/-! ## What the pieces need -/

theorem wIn_of {g o c : Nat} (hg : g < 2) (hc : 0 < c) (h : o + c ≤ 1024) (ho : 2 ∣ o) (hcc : 2 ∣ c) : WIn g o c where
  inb := fun a => match a with
    | ⟨0, _⟩ => by show g + 1 ≤ 2; omega
    | ⟨1, _⟩ => by show o + c ≤ 1024; omega
    | ⟨2, _⟩ => by show 0 + 128 ≤ 128; omega
  packed := (Rect.packedRows_iff_at _ _).mpr (Or.inr ⟨by decide, rfl, Or.inl ⟨by show 2 ∣ o; exact ho, by show 2 ∣ c; exact hcc⟩⟩)
  pos := by simp [Shape.numel, Fin.prod_univ_succ]; omega
  cast32 := by simp [Shape.ShapeCasts, Shape.numel, Fin.prod_univ_succ]
  cast23 := by simp [Shape.ShapeCasts, Shape.numel, Fin.prod_univ_succ]

theorem smallOk128 : SmallOk 128 1 := ⟨shapeCasts_S256x128_S128x2x1x128, slices_S128x2x1x128_o0_0_0_0_S128x1x1x128, slices_S128x2x1x128_o0_1_0_0_S128x1x1x128,
  shapeCasts_S128x1x1x128_S128x1x128, shapeCasts_S128x1x128_S128x1x1x128, iota_S128x1x1_d0_w32, shapeCasts_S128x1x1_S128x1x1,
  broadcasts_S128x1x1_S128x1x128, concatenates_S128x1x1x128_S128x1x1x128_S128x2x1x128_d1, shapeCasts_S128x2x1x128_S256x128⟩
theorem smallOk64 : SmallOk 64 2 := ⟨shapeCasts_S256x128_S64x2x2x128, slices_S64x2x2x128_o0_0_0_0_S64x1x2x128, slices_S64x2x2x128_o0_1_0_0_S64x1x2x128,
  shapeCasts_S64x1x2x128_S64x2x128, shapeCasts_S64x2x128_S64x1x2x128, iota_S64x1x1_d0_w32, shapeCasts_S64x1x1_S64x1x1,
  broadcasts_S64x1x1_S64x2x128, concatenates_S64x1x2x128_S64x1x2x128_S64x2x2x128_d1, shapeCasts_S64x2x2x128_S256x128⟩
theorem smallOk32 : SmallOk 32 4 := ⟨shapeCasts_S256x128_S32x2x4x128, slices_S32x2x4x128_o0_0_0_0_S32x1x4x128, slices_S32x2x4x128_o0_1_0_0_S32x1x4x128,
  shapeCasts_S32x1x4x128_S32x4x128, shapeCasts_S32x4x128_S32x1x4x128, iota_S32x1x1_d0_w32, shapeCasts_S32x1x1_S32x1x1,
  broadcasts_S32x1x1_S32x4x128, concatenates_S32x1x4x128_S32x1x4x128_S32x2x4x128_d1, shapeCasts_S32x2x4x128_S256x128⟩
theorem smallOk16 : SmallOk 16 8 := ⟨shapeCasts_S256x128_S16x2x8x128, slices_S16x2x8x128_o0_0_0_0_S16x1x8x128, slices_S16x2x8x128_o0_1_0_0_S16x1x8x128,
  shapeCasts_S16x1x8x128_S16x8x128, shapeCasts_S16x8x128_S16x1x8x128, iota_S16x1x1_d0_w32, shapeCasts_S16x1x1_S16x1x1,
  broadcasts_S16x1x1_S16x8x128, concatenates_S16x1x8x128_S16x1x8x128_S16x2x8x128_d1, shapeCasts_S16x2x8x128_S256x128⟩

theorem pieceOk_of {n j : Nat} (h : j * n = 256) : PieceOk n j where
  sl := fun i => ⟨rfl, fun a => match a with
    | ⟨0, _⟩ => by
      show j * i.val + j ≤ 256
      have h1 : j * (i.val + 1) ≤ j * n := Nat.mul_le_mul_left _ (by omega)
      have h2 : j * (i.val + 1) = j * i.val + j := Nat.mul_succ _ _
      omega
    | ⟨1, _⟩ => by show 0 + 128 ≤ 128; omega⟩

theorem mergeOk : MergeOk where
  p128 := pieceOk_of rfl
  p64 := pieceOk_of rfl
  p32 := pieceOk_of rfl
  p16 := pieceOk_of rfl
  c128 := by decide
  c64 := by decide
  c32 := by decide
  c16 := by decide
  r8 := ⟨slices_S256x128_o8_0_S248x128, slices_S256x128_o0_0_S8x128, concatenates_S248x128_S8x128_S256x128_d0, slices_S256x128_o248_0_S8x128, slices_S256x128_o0_0_S248x128, concatenates_S8x128_S248x128_S256x128_d0⟩
  r4 := ⟨slices_S256x128_o4_0_S252x128, slices_S256x128_o0_0_S4x128, concatenates_S252x128_S4x128_S256x128_d0, slices_S256x128_o252_0_S4x128, slices_S256x128_o0_0_S252x128, concatenates_S4x128_S252x128_S256x128_d0⟩
  r2 := ⟨slices_S256x128_o2_0_S254x128, slices_S256x128_o0_0_S2x128, concatenates_S254x128_S2x128_S256x128_d0, slices_S256x128_o254_0_S2x128, slices_S256x128_o0_0_S254x128, concatenates_S2x128_S254x128_S256x128_d0⟩
  r1 := ⟨slices_S256x128_o1_0_S255x128, slices_S256x128_o0_0_S1x128, concatenates_S255x128_S1x128_S256x128_d0, slices_S256x128_o255_0_S1x128, slices_S256x128_o0_0_S255x128, concatenates_S1x128_S255x128_S256x128_d0⟩

theorem hOk_of {t g h : Nat} (ht : t < 15) (hg : g < 2) (hh : h < 2) : HOk t g h (512 * h) where
  sem := fun a => match a with
    | ⟨0, _⟩ => by show t + 1 ≤ 15; omega
    | ⟨1, _⟩ => by show g + 1 ≤ 2; omega
    | ⟨2, _⟩ => by show h + 1 ≤ 2; omega
  win := fun a => match a with
    | ⟨0, _⟩ => by show g + 1 ≤ 2; omega
    | ⟨1, _⟩ => by show 512 * h + 512 ≤ 1024; omega
    | ⟨2, _⟩ => by show 0 + 128 ≤ 128; omega
  winw := Or.inl ((Rect.packedRows_iff_at _ _).mpr (Or.inr ⟨by decide, rfl, Or.inl ⟨by show 2 ∣ 512 * h; omega, by show 2 ∣ 512; decide⟩⟩))
  stg := fun a => match a with
    | ⟨0, _⟩ => by show t + 1 ≤ 15; omega
    | ⟨1, _⟩ => by show g + 1 ≤ 2; omega
    | ⟨2, _⟩ => by show 512 * h + 512 ≤ 1024; omega
    | ⟨3, _⟩ => by show 0 + 128 ≤ 128; omega
  stgw := Or.inl ((Rect.packedRows_iff_at _ _).mpr (Or.inr ⟨by decide, rfl, Or.inl ⟨by show 2 ∣ 512 * h; omega, by show 2 ∣ 512; decide⟩⟩))

theorem pdev1 : ∀ d0, pdevN 1#32 d0 < nD := k0_dev1_lt
theorem pdev2 : ∀ d0, pdevN 2#32 d0 < nD := k0_dev2_lt
theorem pdev4 : ∀ d0, pdevN 4#32 d0 < nD := k0_dev3_lt
theorem pdev8 : ∀ d0, pdevN 8#32 d0 < nD := k0_dev4_lt
theorem pdev16 : ∀ d0, pdevN 16#32 d0 < nD := k0_dev5_lt

theorem xIn_of {g s : Nat} (hg : g < 2) (hs : s < 4) : XIn (256 * s) (128 * g) :=
  ⟨fun a => match a with
    | ⟨0, _⟩ => by show 256 * s + 256 ≤ 1024; omega
    | ⟨1, _⟩ => by show 128 * g + 128 ≤ 256; omega⟩

theorem allOk : AllOk where
  w256 := fun g s hg hs => wIn_of hg (by decide) (by omega) (by omega) (by decide)
  w512 := fun g h hg hh => wIn_of hg (by decide) (by omega) (by omega) (by decide)
  hk := fun t g h ht hg hh => hOk_of ht hg hh
  x := fun g s hg hs => xIn_of hg hs
  mg := mergeOk
  pdev := fun d hd => by
    rcases List.mem_cons.mp hd with rfl | hd
    · exact pdev1
    rcases List.mem_cons.mp hd with rfl | hd
    · exact pdev2
    rcases List.mem_cons.mp hd with rfl | hd
    · exact pdev4
    rcases List.mem_cons.mp hd with rfl | hd
    · exact pdev8
    rcases List.mem_cons.mp hd with rfl | hd
    · exact pdev16
    cases hd

theorem loopOk4 : (loopN 4#32).OK := k0_t1_ok

theorem rowS_eq (t : Fin (loopN 4#32).trips) : rowS t = 256 * t.val := by
  revert t; decide +kernel

theorem wS {g : Nat} (hg : g < 2) (t : Fin (loopN 4#32).trips) : WIn g (rowS t) 256 := by
  have h : t.val < 4 := lt_of_lt_of_le t.isLt (by decide)
  rw [rowS_eq]; exact wIn_of hg (by decide) (by omega) (by omega) (by decide)

/-- The numbers of a loop of large steps: `j` rows apart in pieces of `c` rows, `m` pieces to a side. -/
structure LargeOk (n m j2 cw jw : BitVec 32) (c : Nat) : Prop where
  ok : (loopN n).OK
  evenc : 2 ∣ c
  pos : 0 < c
  a : ∀ t, rowA n m j2 cw t + c ≤ 1024 ∧ 2 ∣ rowA n m j2 cw t
  b : ∀ t, rowB n m j2 cw jw t + c ≤ 1024 ∧ 2 ∣ rowB n m j2 cw jw t

theorem large16 : LargeOk 32#32 1#32 32#32 16#32 16#32 16 := ⟨k0_t11_ok, by decide, by decide, by decide +kernel, by decide +kernel⟩
theorem large32 : LargeOk 16#32 1#32 64#32 32#32 32#32 32 := ⟨k0_t16_ok, by decide, by decide, by decide +kernel, by decide +kernel⟩
theorem large64 : LargeOk 8#32 1#32 128#32 64#32 64#32 64 := ⟨k0_t22_ok, by decide, by decide, by decide +kernel, by decide +kernel⟩
theorem large128 : LargeOk 4#32 1#32 256#32 128#32 128#32 128 := ⟨k0_t29_ok, by decide, by decide, by decide +kernel, by decide +kernel⟩
theorem large256 : LargeOk 2#32 1#32 512#32 256#32 256#32 256 := ⟨k0_t37_ok, by decide, by decide, by decide +kernel, by decide +kernel⟩
theorem large512 : LargeOk 2#32 2#32 1024#32 256#32 512#32 256 := ⟨k0_t46_ok, by decide, by decide, by decide +kernel, by decide +kernel⟩

theorem LargeOk.wA {n m j2 cw jw : BitVec 32} {c : Nat} (h : LargeOk n m j2 cw jw c) {g : Nat} (hg : g < 2) (t) : WIn g (rowA n m j2 cw t) c :=
  wIn_of hg h.pos (h.a t).1 (h.a t).2 h.evenc
theorem LargeOk.wB {n m j2 cw jw : BitVec 32} {c : Nat} (h : LargeOk n m j2 cw jw c) {g : Nat} (hg : g < 2) (t) : WIn g (rowB n m j2 cw jw t) c :=
  wIn_of hg h.pos (h.b t).1 (h.b t).2 h.evenc

/-! ## The body -/

/-- An operation after the local sort: an exchange (its number, the block size's and the distance's logarithms), or a merge. -/
inductive Op where
  | ex (t : Fin 15) (K d : Fin 5)
  | loc (K : Fin 5)

/-- The block sizes, in devices. -/
def kW (K : Fin 5) : BitVec 32 := match K with | 0 => 2#32 | 1 => 4#32 | 2 => 8#32 | 3 => 16#32 | 4 => 32#32
/-- The distances, in devices. -/
def dW (d : Fin 5) : BitVec 32 := match d with | 0 => 1#32 | 1 => 2#32 | 2 => 4#32 | 3 => 8#32 | 4 => 16#32

theorem dW_mem (d : Fin 5) : dW d ∈ [1#32, 2#32, 4#32, 8#32, 16#32] := by revert d; decide

/-- The operations in order. -/
def ops : List Op :=
  [.ex 0 0 0, .loc 0, .ex 1 1 1, .ex 2 1 0, .loc 1, .ex 3 2 2, .ex 4 2 1, .ex 5 2 0, .loc 2, .ex 6 3 3, .ex 7 3 2, .ex 8 3 1, .ex 9 3 0, .loc 3,
   .ex 10 4 4, .ex 11 4 3, .ex 12 4 2, .ex 13 4 1, .ex 14 4 0, .loc 4]

section

variable (arg0 : Memref sig .tc .vmem S1024x256 .f32) (harg0 : arg0.IsWhole)
  (arg1 : Memref sig .tc .vmem S1024x256 .f32) (harg1 : arg1.IsWhole)
  (arg2 : Memref sig .tc .vmem S2x1024x128 .bf16) (harg2 : arg2.IsWhole)
  (arg3 : Memref sig .tc .vmem S15x2x1024x128 .bf16) (harg3 : arg3.IsWhole)
  (arg4 arg5 : DmaSems sig S15x2x2) (ex : Sems sig S_)

/-- The step of the local sort with blocks of `2 ^ (l + 1)` rows and distance `2 ^ s`. -/
def levelP (g : Nat) (hg : g < 2) (v3 : BitVec 32) (l : Fin 10) (s : Fin 10) : Code F PUnit :=
  have k : BitVec 32 := match l with
    | 0 => 2#32 | 1 => 4#32 | 2 => 8#32 | 3 => 16#32 | 4 => 32#32 | 5 => 64#32 | 6 => 128#32 | 7 => 256#32 | 8 => 512#32 | 9 => 1024#32
  match s with
  | 0 => bif l.val < 7 then smallA arg2 harg2 128 1 smallOk128 loopOk4 g (wS hg) 2#32 k else smallB arg2 harg2 128 1 smallOk128 loopOk4 g (wS hg) k v3
  | 1 => bif l.val < 7 then smallA arg2 harg2 64 2 smallOk64 loopOk4 g (wS hg) 4#32 k else smallB arg2 harg2 64 2 smallOk64 loopOk4 g (wS hg) k v3
  | 2 => bif l.val < 7 then smallA arg2 harg2 32 4 smallOk32 loopOk4 g (wS hg) 8#32 k else smallB arg2 harg2 32 4 smallOk32 loopOk4 g (wS hg) k v3
  | 3 => bif l.val < 7 then smallA arg2 harg2 16 8 smallOk16 loopOk4 g (wS hg) 16#32 k else smallB arg2 harg2 16 8 smallOk16 loopOk4 g (wS hg) k v3
  | 4 => largeP arg2 harg2 32#32 1#32 32#32 16#32 16#32 16 large16.ok g (large16.wA hg) (large16.wB hg) k v3
  | 5 => largeP arg2 harg2 16#32 1#32 64#32 32#32 32#32 32 large32.ok g (large32.wA hg) (large32.wB hg) k v3
  | 6 => largeP arg2 harg2 8#32 1#32 128#32 64#32 64#32 64 large64.ok g (large64.wA hg) (large64.wB hg) k v3
  | 7 => largeP arg2 harg2 4#32 1#32 256#32 128#32 128#32 128 large128.ok g (large128.wA hg) (large128.wB hg) k v3
  | 8 => largeP arg2 harg2 2#32 1#32 512#32 256#32 256#32 256 large256.ok g (large256.wA hg) (large256.wB hg) k v3
  | 9 => largeP arg2 harg2 2#32 2#32 1024#32 256#32 512#32 256 large512.ok g (large512.wA hg) (large512.wB hg) k v3

/-- The steps of the local sort in order: block size, distance. -/
def levels : List (Fin 10 × Fin 10) :=
  (List.finRange 10).flatMap fun l => ((List.finRange 10).filter fun s => s.val ≤ l.val).reverse.map fun s => (l, s)

/-- Programs one after another. -/
def seqP {α : Type} : List (Code F PUnit) → Code F α → Code F α
  | [], k => k
  | x :: xs, k => x >>= fun _ => seqP xs k

/-- The start of the exchange that follows, if one does. -/
def nextP (E : AllOk) (g : Nat) (hg : g < 2) (d0 : Dev nD) : Option Op → Code F PUnit
  | some (.ex t _ d) => startP arg2 harg2 arg3 harg3 arg4 arg5 E g hg t.val t.isLt (dW d) (dW_mem d) d0
  | _ => pure ⟨⟩

/-- The end of an operation of group `g`. -/
def opP (E : AllOk) (g : Nat) (hg : g < 2) (v2 : BitVec 32) : Option Op → Code F PUnit
  | some (.ex t K d) => do
    recvP arg2 harg2 arg3 harg3 arg4 arg5 E g hg t.val t.isLt 0 (by decide) (kW K) (dW d) v2
    recvP arg2 harg2 arg3 harg3 arg4 arg5 E g hg t.val t.isLt 1 (by decide) (kW K) (dW d) v2
  | some (.loc K) => mergeP arg2 harg2 E g hg (kW K) v2
  | none => pure ⟨⟩

/-- Step `i` of group `g`: operation `i`, then the start of the next. -/
def stepP (E : AllOk) (v2 : BitVec 32) (d0 : Dev nD) (gi : Fin 2 × Fin 20) : Code F PUnit := do
  opP arg2 harg2 arg3 harg3 arg4 arg5 E gi.1.val gi.1.isLt v2 ops[gi.2.val]?
  nextP arg2 harg2 arg3 harg3 arg4 arg5 E gi.1.val gi.1.isLt d0 ops[gi.2.val + 1]?

/-- The steps in order: the two groups take turns, the second one step behind. -/
def path : List (Fin 2 × Fin 20) :=
  [(0, 0), (0, 1), (1, 0), (0, 2), (1, 1), (0, 3), (1, 2), (0, 4), (1, 3), (0, 5), (1, 4), (0, 6), (1, 5), (0, 7), (1, 6), (0, 8), (1, 7), (0, 9), (1, 8),
   (0, 10), (1, 9), (0, 11), (1, 10), (0, 12), (1, 11), (0, 13), (1, 12), (0, 14), (1, 13), (0, 15), (1, 14), (0, 16), (1, 15), (0, 17), (1, 16), (0, 18), (1, 17),
   (0, 19), (1, 18), (1, 19)]

/-- The copies of group `g`'s columns from the operand. -/
def inP (E : AllOk) (g : Nat) (hg : g < 2) : Code F PUnit := do
  copyIn arg0 arg2 harg2 g (256 * 0) (128 * g) (E.w256 g 0 hg (by decide)) (E.x g 0 hg (by decide))
  copyIn arg0 arg2 harg2 g (256 * 1) (128 * g) (E.w256 g 1 hg (by decide)) (E.x g 1 hg (by decide))
  copyIn arg0 arg2 harg2 g (256 * 2) (128 * g) (E.w256 g 2 hg (by decide)) (E.x g 2 hg (by decide))
  copyIn arg0 arg2 harg2 g (256 * 3) (128 * g) (E.w256 g 3 hg (by decide)) (E.x g 3 hg (by decide))

/-- The copies of group `g`'s columns to the result. -/
def outP (E : AllOk) (g : Nat) (hg : g < 2) : Code F PUnit := do
  copyOut arg1 arg2 g (256 * 0) (128 * g) (E.w256 g 0 hg (by decide)) (E.x g 0 hg (by decide))
  copyOut arg1 arg2 g (256 * 1) (128 * g) (E.w256 g 1 hg (by decide)) (E.x g 1 hg (by decide))
  copyOut arg1 arg2 g (256 * 2) (128 * g) (E.w256 g 2 hg (by decide)) (E.x g 2 hg (by decide))
  copyOut arg1 arg2 g (256 * 3) (128 * g) (E.w256 g 3 hg (by decide)) (E.x g 3 hg (by decide))

/-- Signal a semaphore of all five partners, then wait for their five signals. -/
def meetP (E : AllOk) (s : Sem sig) (d0 : Dev nD) : Code F PUnit := do
  semSignalWord (⟨pdevN 1#32 d0, E.pdev _ (dW_mem 0) d0⟩ : Dev nD) s 1#32
  semSignalWord (⟨pdevN 2#32 d0, E.pdev _ (dW_mem 1) d0⟩ : Dev nD) s 1#32
  semSignalWord (⟨pdevN 4#32 d0, E.pdev _ (dW_mem 2) d0⟩ : Dev nD) s 1#32
  semSignalWord (⟨pdevN 8#32 d0, E.pdev _ (dW_mem 3) d0⟩ : Dev nD) s 1#32
  semSignalWord (⟨pdevN 16#32 d0, E.pdev _ (dW_mem 4) d0⟩ : Dev nD) s 1#32
  semWaitWord s 5#32

/-- The steps `i` to `i + n` of the local sort of group `g`. -/
def lvs (g : Nat) (hg : g < 2) (v3 : BitVec 32) (i n : Nat) : List (Code F PUnit) :=
  ((levels.drop i).take n).map fun ls => levelP arg2 harg2 g hg v3 ls.1 ls.2

/-- A group's first part: its copies in, its local sort, and the start of its first exchange. -/
def groupP (E : AllOk) (g : Nat) (hg : g < 2) (v3 : BitVec 32) (d0 : Dev nD) : Code F PUnit := do
  inP arg0 arg2 harg2 E g hg
  seqP (levels.map fun ls => levelP arg2 harg2 g hg v3 ls.1 ls.2)
    (startP arg2 harg2 arg3 harg3 arg4 arg5 E g hg 0 (by decide) 1#32 (dW_mem 0) d0)

/-- The semaphore of the devices' first meeting. -/
def barS : Sem sig := (SemArray.scalar (sig.barrier 0 rfl) : Sems sig S_).sem

/-- The whole body. -/
def bodyP (E : AllOk) : Code F PUnit := do
  let d0 : Dev nD ← Prog.lift .deviceId
  have v2 : BitVec 32 := Scalar.remsi (Scalar.divsi (Dev.word d0) 1#32) 32#32
  have v3 : BitVec 32 := Scalar.muli v2 1024#32
  meetP E barS d0
  groupP arg0 arg2 harg2 arg3 harg3 arg4 arg5 E 0 (by decide) v3 d0
  groupP arg0 arg2 harg2 arg3 harg3 arg4 arg5 E 1 (by decide) v3 d0
  seqP (path.map fun gi => stepP arg2 harg2 arg3 harg3 arg4 arg5 E v2 d0 gi) do
    outP arg1 arg2 E 0 (by decide)
    outP arg1 arg2 E 1 (by decide)
    meetP E ex.sem d0

end

end Cert.KernelIdeal.BS
-- ==== Proof.Local.lean ====
/- What a device's pieces of program do to the rows it holds. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Cert.KernelIdeal.Gen

variable {F : FTy → Type} [FloatOps F]

/-- The resource algebra: the pipeline library's rounds and the kernel's own (duties named by `Fin 5`). -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

abbrev wM : Memref sig .tc .vmem S2x1024x128 .bf16 := Memref.whole cc0_scratch0
abbrev sM : Memref sig .tc .vmem S15x2x1024x128 .bf16 := Memref.whole cc0_scratch1
abbrev xM : Memref sig .tc .vmem S1024x256 .f32 := Memref.whole cc0_stg0_0
abbrev oM : Memref sig .tc .vmem S1024x256 .f32 := Memref.whole cc0_stg1_0
theorem wW : (wM : Memref sig .tc .vmem S2x1024x128 .bf16).IsWhole := Memref.isWhole_whole _
theorem sW : (sM : Memref sig .tc .vmem S15x2x1024x128 .bf16).IsWhole := Memref.isWhole_whole _

/-- One group's rows on one device: row, column (both anything outside the buffer). -/
abbrev Arr (F : FTy → Type) : Type := ℕ → ℕ → Elt F .bf16

/-- A group's rows as contents of the work buffer (the same for both groups). -/
def lift (a : Arr F) : S2x1024x128.Idx → Elt F .bf16 := fun i => a (i 1).val (i 2).val

/-- `c` rows from row `o`. -/
def blk (a : Arr F) (o c : ℕ) : FVec F (sh2 c 128) .bf16 := fun i => a (o + (i 0).val) (i 1).val

/-- The rows with `v` in place of the `c` rows from row `o`. -/
def upd (a : Arr F) (o c : ℕ) (v : FVec F (sh2 c 128) .bf16) : Arr F := fun r l =>
  if h : (o ≤ r ∧ r < o + c) ∧ l < 128 then v (fun | 0 => ⟨r - o, by show r - o < c; omega⟩ | 1 => ⟨l, h.2⟩) else a r l

/-- The places of group `g`'s rows `o` to `o + n` in the work buffer. -/
def rows (g o n : ℕ) : Finset S2x1024x128.Idx :=
  Finset.univ.filter fun i => (i 0).val = g ∧ o ≤ (i 1).val ∧ (i 1).val < o + n

/-- Device `c` holds group `g`'s rows `o` to `o + n`, with contents `a`. -/
def wk (c : Dev nD) (g o n : ℕ) (a : Arr F) : sProp 𝕄 :=
  ((c : Thread nD τ).loc cc0_scratch0) ↦[rows g o n]{fullShare} lift a

/-- What a device runs, from what it holds. -/
abbrev wpD {α : Type} (c : Dev nD) (P : Code F α) (Q : α → sProp 𝕄) : sProp 𝕄 :=
  wp frame (wpE (defs₀ (F := F)) 𝒱₀ (c : Thread nD τ) none) Set.univ P Q

theorem mem_rows {g o n : ℕ} {i : S2x1024x128.Idx} : i ∈ rows g o n ↔ (i 0).val = g ∧ o ≤ (i 1).val ∧ (i 1).val < o + n :=
  ⟨fun h => (Finset.mem_filter.mp h).2, fun h => Finset.mem_filter.mpr ⟨Finset.mem_univ _, h⟩⟩

theorem unit_rows {g o' cc : ℕ} (inb : ∀ a, (![g, o', 0] : Fin 3 → Nat) a + (sh3 1 cc 128).size a ≤ S2x1024x128.size a) :
    (Rect.unit (s := S2x1024x128) ![g, o', 0] (sh3 1 cc 128).size inb).set = rows g o' cc := by
  ext i
  rw [Rect.mem_set_unit, mem_rows]
  constructor
  · intro h
    have h0 : g ≤ (i 0).val ∧ (i 0).val < g + 1 := h 0
    have h1 : o' ≤ (i 1).val ∧ (i 1).val < o' + cc := h 1
    omega
  · rintro ⟨h0, h1, h2⟩ a
    match a with
    | ⟨0, _⟩ => show g ≤ (i 0).val ∧ (i 0).val < g + 1; omega
    | ⟨1, _⟩ => exact ⟨h1, h2⟩
    | ⟨2, _⟩ => exact ⟨Nat.zero_le _, by have : (i 2).val < 128 := (i 2).isLt; show (i 2).val < 0 + 128; omega⟩

theorem rows_mono {g o n o' cc : ℕ} (ho : o ≤ o') (hn : o' + cc ≤ o + n) : rows g o' cc ⊆ rows g o n := fun i hi => by
  rw [mem_rows] at hi ⊢; omega

theorem setOn_whole {s : Finset S2x1024x128.Idx} : (wM : Memref sig .tc .vmem S2x1024x128 .bf16).view.setOn s = s :=
  (Finset.map_refl : s.map (Function.Embedding.refl _) = s)

/-- Reading rows. -/
theorem ld_spec {α : Type} (c : Dev nD) {g o n o' cc : ℕ} (h : WIn g o' cc) (ho : o ≤ o') (hn : o' + cc ≤ o + n) (a : Arr F)
    (k : FVec F (sh2 cc 128) .bf16 → Code F α) (Q : α → sProp 𝕄) :
    wk c g o n a ⊢ iprop((wk c g o n a -∗ wpD c (k (blk a o' cc)) Q) -∗ wpD c (ldW wM g o' cc h >>= k) Q) := by
  have e : (fun v => k (shapeCast (sh2 cc 128) v h.cast32)) ((wM : Memref sig .tc .vmem S2x1024x128 .bf16).view.readAt (Elt F)
      (Rect.unit (s := S2x1024x128) ![g, o', 0] (sh3 1 cc 128).size h.inb).toLoadRect (lift a)) = k (blk a o' cc) := by
    refine congrArg k (funext fun i => ?_)
    rw [shapeCast_apply _ h.cast32 i (fun | 0 => (0 : Fin 1) | 1 => i 0 | 2 => i 1) (by
      rw [Shape.rowMajor_val_three, Shape.rowMajor_val_two]
      show (0 * cc + (i 0).val) * 128 + (i 1).val = (i 0).val * 128 + (i 1).val
      rw [Nat.zero_mul, Nat.zero_add])]
    show a (o' + 1 * (i 0).val) (0 + 1 * (i 1).val) = a (o' + (i 0).val) (i 1).val
    rw [Nat.one_mul, Nat.one_mul, Nat.zero_add]
  rw [← e]
  exact wp_load 𝒱₀ (c : Thread nD τ) none Set.univ (m := wM) (k := fun v => k (shapeCast (sh2 cc 128) v h.cast32)) (S := rows g o n) (f := lift a)
    (by
      refine (Finset.Subset.trans (le_of_eq setOn_whole) ?_)
      refine Finset.Subset.trans (le_of_eq (unit_rows h.inb)) (rows_mono ho hn))

theorem write_lift {g o' cc : ℕ} (h : WIn g o' cc) (a : Arr F) (v : FVec F (sh2 cc 128) .bf16) (i : S2x1024x128.Idx) (hg : (i 0).val = g) :
    ((wM : Memref sig .tc .vmem S2x1024x128 .bf16).access (Rect.unit (s := S2x1024x128) ![g, o', 0] (sh3 1 cc 128).size h.inb)).write (Elt F) (lift a)
      (shapeCast (sh3 1 cc 128) v h.cast23) Finset.univ i = lift (upd a o' cc v) i := by
  by_cases hi : i ∈ rows g o' cc
  · rw [← unit_rows h.inb] at hi
    have hu := Rect.mem_set_unit.mp hi
    have h1 : o' ≤ (i 1).val ∧ (i 1).val < o' + cc := hu 1
    have hl : (i 2).val < 128 := (i 2).isLt
    let y : (sh3 1 cc 128).Idx := fun | 0 => (0 : Fin 1) | 1 => ⟨(i 1).val - o', by show _ < cc; omega⟩ | 2 => i 2
    have hy : ((wM : Memref sig .tc .vmem S2x1024x128 .bf16).access (Rect.unit (s := S2x1024x128) ![g, o', 0] (sh3 1 cc 128).size h.inb)).emb y = i :=
      funext fun b => Fin.ext (match b with
        | 0 => by show g + 1 * 0 = (i 0).val; omega
        | 1 => by show o' + 1 * ((i 1).val - o') = (i 1).val; omega
        | 2 => by show 0 + 1 * (i 2).val = (i 2).val; omega)
    refine (congrArg _ hy.symm).trans ((View.write_emb_of_mem _ _ (Finset.mem_univ y)).trans ?_)
    show shapeCast (sh3 1 cc 128) v h.cast23 y = upd a o' cc v (i 1).val (i 2).val
    rw [upd, dif_pos ⟨h1, hl⟩]
    refine shapeCast_apply v h.cast23 y _ ?_
    rw [Shape.rowMajor_val_three, Shape.rowMajor_val_two]
    show ((i 1).val - o') * 128 + (i 2).val = (0 * cc + ((i 1).val - o')) * 128 + (i 2).val
    rw [Nat.zero_mul, Nat.zero_add]
  · refine (View.write_of_not_mem _ _ _ ?_).trans ?_
    · rw [View.setOn_univ]
      intro h'
      apply hi
      rw [← unit_rows h.inb]
      exact (View.set_slice_whole cc0_scratch0 (Rect.unit (s := S2x1024x128) ![g, o', 0] (sh3 1 cc 128).size h.inb)) ▸ h'
    · rw [mem_rows] at hi
      show a (i 1).val (i 2).val = upd a o' cc v (i 1).val (i 2).val
      rw [upd, dif_neg (fun hh => hi ⟨hg, hh.1⟩)]

/-- Writing rows. -/
theorem st_spec {α : Type} (c : Dev nD) {g o n o' cc : ℕ} (h : WIn g o' cc) (ho : o ≤ o') (hn : o' + cc ≤ o + n) (a : Arr F)
    (v : FVec F (sh2 cc 128) .bf16) (k : PUnit → Code F α) (Q : α → sProp 𝕄) :
    wk c g o n a ⊢ iprop((wk c g o n (upd a o' cc v) -∗ wpD c (k ⟨⟩) Q) -∗ wpD c (stW wM wW g o' cc h v >>= k) Q) := by
  have e : wk c g o n (upd a o' cc v) = (((c : Thread nD τ).loc cc0_scratch0) ↦[rows g o n]{fullShare}
      (((wM : Memref sig .tc .vmem S2x1024x128 .bf16).access (Rect.unit (s := S2x1024x128) ![g, o', 0] (sh3 1 cc 128).size h.inb)).write (Elt F) (lift a)
      (shapeCast (sh3 1 cc 128) v h.cast23) Finset.univ) : sProp 𝕄) :=
    (pointsTo_congr fun i hi => write_lift h a v i (mem_rows.mp hi).1).symm
  have hsub : (Rect.unit (s := S2x1024x128) ![g, o', 0] (sh3 1 cc 128).size h.inb).set ⊆ rows g o n :=
    Finset.Subset.trans (le_of_eq (unit_rows h.inb)) (rows_mono ho hn)
  rw [e]
  unfold wk
  iintro H Hk
  iapply (wp_load 𝒱₀ (c : Thread nD τ) none Set.univ (m := wM) (S := rows g o n) (f := lift a)
    (Finset.Subset.trans (le_of_eq setOn_whole) hsub)) $$ H
  iintro H
  iapply (wp_store 𝒱₀ (c : Thread nD τ) none Set.univ (m := wM) (r := Rect.unit (s := S2x1024x128) ![g, o', 0] (sh3 1 cc 128).size h.inb) (Mk := Finset.univ) (S := rows g o n) (f := lift a)
    (by rw [View.setOn_univ]; exact Finset.Subset.trans (le_of_eq (View.set_slice_whole cc0_scratch0 _)) hsub)) $$ H
  iintro H
  iapply Hk
  iexact H

end Cert.KernelIdeal.BS
-- ==== Proof.Triples.lean ====
/- What a device's steps do to the rows it holds: each piece of the program as a function of the rows. -/
module

public import proofs.«01_k».proof.Proof.Local

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- From `P` the program `p` runs on device `c` and leaves `R`, whatever follows. -/
def Tri (c : Dev nD) (P : sProp 𝕄) (p : Code F PUnit) (R : sProp 𝕄) : Prop :=
  ∀ (α : Type) (k : PUnit → Code F α) (Q : α → sProp 𝕄), P ⊢ iprop((R -∗ wpD c (k ⟨⟩) Q) -∗ wpD c (p >>= k) Q)

theorem Tri.seq {c : Dev nD} {P R S : sProp 𝕄} {p q : Code F PUnit} (hp : Tri c P p R) (hq : Tri c R q S) :
    Tri c P (p >>= fun _ => q) S := fun α k Q => by
  rw [bind_assoc]
  iintro HP Hk
  iapply (hp α (fun x => q >>= k) Q) $$ HP
  iintro HR
  iapply (hq α k Q) $$ HR
  iexact Hk

theorem Tri.frame {c : Dev nD} {P R : sProp 𝕄} {p : Code F PUnit} (X : sProp 𝕄) (hp : Tri c P p R) :
    Tri c iprop(P ∗ X) p iprop(R ∗ X) := fun α k Q => by
  iintro ⟨HP, HX⟩ Hk
  iapply (hp α k Q) $$ HP
  iintro HR
  iapply Hk
  isplitl [HR]
  · iexact HR
  · iexact HX

theorem Tri.conseq {c : Dev nD} {P P' R R' : sProp 𝕄} {p : Code F PUnit} (hP : P ⊢ P') (hp : Tri c P' p R') (hR : R' ⊢ R) :
    Tri c P p R := fun α k Q => by
  iintro HP Hk
  ihave HP' := hP $$ HP
  iapply (hp α k Q) $$ HP'
  iintro HR
  iapply Hk
  iapply hR
  iexact HR

theorem Tri.skip {c : Dev nD} {P : sProp 𝕄} : Tri c P (pure ⟨⟩ : Code F PUnit) P := fun α k Q => by
  rw [pure_bind]
  iintro HP Hk
  iapply Hk
  iexact HP

/-- A list of programs, one after another, each a function of the rows. -/
theorem seqP_spec {α ι : Type} {σ : Type} {c : Dev nD} (P : σ → sProp 𝕄) (f : ι → σ → σ) (p : ι → Code F PUnit) (h : ∀ i a, Tri c (P a) (p i) (P (f i a)))
    (l : List ι) (a : σ) (k : Code F α) (Q : α → sProp 𝕄) :
    P a ⊢ iprop((P (l.foldl (fun a i => f i a) a) -∗ wpD c k Q) -∗ wpD c (seqP (l.map p) k) Q) := by
  induction l generalizing a with
  | nil =>
    show P a ⊢ iprop((P a -∗ wpD c k Q) -∗ wpD c k Q)
    iintro HP Hk
    iapply Hk
    iexact HP
  | cons i l ih =>
    iintro HP Hk
    iapply (h i a α (fun _ => seqP (l.map p) k) Q) $$ HP
    iintro HR
    iapply (ih (f i a)) $$ HR
    iexact Hk

/-- A counted loop, each trip a function of the rows. -/
theorem forFrom_spec {c : Dev nD} {n : ℕ} {σ : Type} (P : σ → sProp 𝕄) (f : Fin n → σ → σ) (p : Fin n → Code F PUnit)
    (h : ∀ i a, Tri c (P a) (p i) (P (f i a))) (l : List (Fin n)) (a : σ) :
    Tri c (P a) (Scf.forFrom (fun i _ => p i) l ⟨⟩) (P (l.foldl (fun a i => f i a) a)) := by
  induction l generalizing a with
  | nil => exact Tri.skip
  | cons i l ih => exact (h i a).seq (ih (f i a))

theorem loop_spec {c : Dev nD} (m : BitVec 32) (hl : (loopN m).OK) {σ : Type} (P : σ → sProp 𝕄) (f : Fin (loopN m).trips → σ → σ) (p : Fin (loopN m).trips → Code F PUnit)
    (h : ∀ i a, Tri c (P a) (p i) (P (f i a))) (a : σ) :
    Tri c (P a) (Scf.Loop.for (loopN m) hl ⟨⟩ fun t _ => p t) (P ((List.finRange (loopN m).trips).foldl (fun a i => f i a) a)) := by
  have e : (Scf.Loop.for (loopN m) hl ⟨⟩ fun t _ => p t) = Scf.forFrom (fun t (_ : PUnit) => p t) (List.finRange (loopN m).trips) ⟨⟩ := Scf.for_eq _ _ _ _ _ _
  rw [e]
  exact forFrom_spec P f p h _ a

/-! ## The steps as functions of the rows -/

/-- Compare rows from `oA` with rows from `oB`. -/
def pairA (oA oB c : ℕ) (asc : BitVec 1) (a : Arr F) : Arr F :=
  upd (upd a oA c (Scalar.select asc (minimumf (blk a oA c) (blk a oB c)) (maximumf (blk a oA c) (blk a oB c)))) oB c
    (Scalar.select asc (maximumf (blk a oA c) (blk a oB c)) (minimumf (blk a oA c) (blk a oB c)))

theorem pair_spec (c : Dev nD) {g oA oB cc : ℕ} (hA : WIn g oA cc) (hB : WIn g oB cc) (bA : oA + cc ≤ 1024) (bB : oB + cc ≤ 1024) (asc : BitVec 1) (a : Arr F) :
    Tri c (wk c g 0 1024 a) (pairP wM wW g oA oB cc hA hB asc) (wk c g 0 1024 (pairA oA oB cc asc a)) := fun α k Q => by
  unfold pairP
  simp only [bind_assoc]
  iintro H Hk
  iapply (ld_spec c hA (Nat.zero_le _) (by omega) a _ Q) $$ H
  iintro H
  iapply (ld_spec c hB (Nat.zero_le _) (by omega) a _ Q) $$ H
  iintro H
  iapply (st_spec c hA (Nat.zero_le _) (by omega) a _ _ Q) $$ H
  iintro H
  iapply (st_spec c hB (Nat.zero_le _) (by omega) _ _ _ Q) $$ H
  iexact Hk

/-- A block of rows replaced by a function of it. -/
theorem upd_spec (c : Dev nD) {g o cc : ℕ} (h : WIn g o cc) (b : o + cc ≤ 1024) (f : FVec F (sh2 cc 128) .bf16 → FVec F (sh2 cc 128) .bf16) (a : Arr F) :
    Tri c (wk c g 0 1024 a) (do let x ← ldW wM g o cc h; stW wM wW g o cc h (f x)) (wk c g 0 1024 (upd a o cc (f (blk a o cc)))) := fun α k Q => by
  simp only [bind_assoc]
  iintro H Hk
  iapply (ld_spec c h (Nat.zero_le _) (by omega) a _ Q) $$ H
  iintro H
  iapply (st_spec c h (Nat.zero_le _) (by omega) a _ _ Q) $$ H
  iexact Hk

def smallAA (n j : ℕ) (h : SmallOk n j) (j2 k : BitVec 32) (a : Arr F) : Arr F :=
  (List.finRange (loopN 4#32).trips).foldl (fun a t => upd a (rowS t) 256 (smallW n j h (selIota n j h j2 k) (blk a (rowS t) 256))) a
def smallBA (n j : ℕ) (h : SmallOk n j) (k v3 : BitVec 32) (a : Arr F) : Arr F :=
  (List.finRange (loopN 4#32).trips).foldl (fun a t => upd a (rowS t) 256 (smallW n j h (fun x y => Scalar.select
    (Scalar.cmpi .eq (Scalar.andi (Scalar.addi v3 (Scalar.muli (Scf.iv 0#32 1#32 t) 256#32)) k) 0#32) x y) (blk a (rowS t) 256))) a
def largeA (n m j2 cw jw : BitVec 32) (c : ℕ) (k v3 : BitVec 32) (a : Arr F) : Arr F :=
  (List.finRange (loopN n).trips).foldl (fun a t => pairA (rowA n m j2 cw t) (rowB n m j2 cw jw t) c
    (Scalar.cmpi .eq (Scalar.andi (Scalar.addi v3 (baseL m j2 (Scf.iv 0#32 1#32 t))) k) 0#32) a) a

theorem rowS_le (t : Fin (loopN 4#32).trips) : rowS t + 256 ≤ 1024 := by
  have h : t.val < 4 := lt_of_lt_of_le t.isLt (by decide)
  rw [rowS_eq]; omega

theorem smallA_spec (c : Dev nD) (n j : ℕ) (h : SmallOk n j) (hl) (g : ℕ) (hw : ∀ t, WIn g (rowS t) 256) (j2 k : BitVec 32) (a : Arr F) :
    Tri c (wk c g 0 1024 a) (smallA wM wW n j h hl g hw j2 k) (wk c g 0 1024 (smallAA n j h j2 k a)) :=
  loop_spec 4#32 hl (fun a => wk c g 0 1024 a) _ _ (fun t a => upd_spec c (hw t) (rowS_le t) _ a) a

theorem smallB_spec (c : Dev nD) (n j : ℕ) (h : SmallOk n j) (hl) (g : ℕ) (hw : ∀ t, WIn g (rowS t) 256) (k v3 : BitVec 32) (a : Arr F) :
    Tri c (wk c g 0 1024 a) (smallB wM wW n j h hl g hw k v3) (wk c g 0 1024 (smallBA n j h k v3 a)) :=
  loop_spec 4#32 hl (fun a => wk c g 0 1024 a) _ _ (fun t a => upd_spec c (hw t) (rowS_le t) _ a) a

theorem large_spec (c : Dev nD) {n m j2 cw jw : BitVec 32} {cc : ℕ} (h : LargeOk n m j2 cw jw cc) {g : ℕ} (hg : g < 2) (k v3 : BitVec 32) (a : Arr F) :
    Tri c (wk c g 0 1024 a) (largeP wM wW n m j2 cw jw cc h.ok g (h.wA hg) (h.wB hg) k v3) (wk c g 0 1024 (largeA n m j2 cw jw cc k v3 a)) :=
  loop_spec n h.ok (fun a => wk c g 0 1024 a) _ _ (fun t a => pair_spec c (h.wA hg t) (h.wB hg t) (h.a t).1 (h.b t).1 _ a) a

/-- The block size of a level. -/
def levK (l : Fin 10) : BitVec 32 := match l with
  | 0 => 2#32 | 1 => 4#32 | 2 => 8#32 | 3 => 16#32 | 4 => 32#32 | 5 => 64#32 | 6 => 128#32 | 7 => 256#32 | 8 => 512#32 | 9 => 1024#32

/-- One step of the local sort as a function of the rows. -/
def levelA (v3 : BitVec 32) (l s : Fin 10) : Arr F → Arr F :=
  match s with
  | 0 => bif l.val < 7 then smallAA 128 1 smallOk128 2#32 (levK l) else smallBA 128 1 smallOk128 (levK l) v3
  | 1 => bif l.val < 7 then smallAA 64 2 smallOk64 4#32 (levK l) else smallBA 64 2 smallOk64 (levK l) v3
  | 2 => bif l.val < 7 then smallAA 32 4 smallOk32 8#32 (levK l) else smallBA 32 4 smallOk32 (levK l) v3
  | 3 => bif l.val < 7 then smallAA 16 8 smallOk16 16#32 (levK l) else smallBA 16 8 smallOk16 (levK l) v3
  | 4 => largeA 32#32 1#32 32#32 16#32 16#32 16 (levK l) v3
  | 5 => largeA 16#32 1#32 64#32 32#32 32#32 32 (levK l) v3
  | 6 => largeA 8#32 1#32 128#32 64#32 64#32 64 (levK l) v3
  | 7 => largeA 4#32 1#32 256#32 128#32 128#32 128 (levK l) v3
  | 8 => largeA 2#32 1#32 512#32 256#32 256#32 256 (levK l) v3
  | 9 => largeA 2#32 2#32 1024#32 256#32 512#32 256 (levK l) v3

theorem level_spec (c : Dev nD) (g : ℕ) (hg : g < 2) (v3 : BitVec 32) (l s : Fin 10) (a : Arr F) :
    Tri c (wk c g 0 1024 a) (levelP wM wW g hg v3 l s) (wk c g 0 1024 (levelA v3 l s a)) := by
  have hk : ∀ k, Tri c (wk c g 0 1024 a) (bif k then smallA wM wW 128 1 smallOk128 loopOk4 g (wS hg) 2#32 (levK l) else smallB wM wW 128 1 smallOk128 loopOk4 g (wS hg) (levK l) v3)
      (wk c g 0 1024 ((bif k then smallAA 128 1 smallOk128 2#32 (levK l) else smallBA 128 1 smallOk128 (levK l) v3) a)) := fun k =>
    match k with
    | true => smallA_spec c _ _ _ _ _ _ _ _ a
    | false => smallB_spec c _ _ _ _ _ _ _ _ a
  have hk1 : ∀ k, Tri c (wk c g 0 1024 a) (bif k then smallA wM wW 64 2 smallOk64 loopOk4 g (wS hg) 4#32 (levK l) else smallB wM wW 64 2 smallOk64 loopOk4 g (wS hg) (levK l) v3)
      (wk c g 0 1024 ((bif k then smallAA 64 2 smallOk64 4#32 (levK l) else smallBA 64 2 smallOk64 (levK l) v3) a)) := fun k =>
    match k with
    | true => smallA_spec c _ _ _ _ _ _ _ _ a
    | false => smallB_spec c _ _ _ _ _ _ _ _ a
  have hk2 : ∀ k, Tri c (wk c g 0 1024 a) (bif k then smallA wM wW 32 4 smallOk32 loopOk4 g (wS hg) 8#32 (levK l) else smallB wM wW 32 4 smallOk32 loopOk4 g (wS hg) (levK l) v3)
      (wk c g 0 1024 ((bif k then smallAA 32 4 smallOk32 8#32 (levK l) else smallBA 32 4 smallOk32 (levK l) v3) a)) := fun k =>
    match k with
    | true => smallA_spec c _ _ _ _ _ _ _ _ a
    | false => smallB_spec c _ _ _ _ _ _ _ _ a
  have hk3 : ∀ k, Tri c (wk c g 0 1024 a) (bif k then smallA wM wW 16 8 smallOk16 loopOk4 g (wS hg) 16#32 (levK l) else smallB wM wW 16 8 smallOk16 loopOk4 g (wS hg) (levK l) v3)
      (wk c g 0 1024 ((bif k then smallAA 16 8 smallOk16 16#32 (levK l) else smallBA 16 8 smallOk16 (levK l) v3) a)) := fun k =>
    match k with
    | true => smallA_spec c _ _ _ _ _ _ _ _ a
    | false => smallB_spec c _ _ _ _ _ _ _ _ a
  match s with
  | 0 => exact hk _
  | 1 => exact hk1 _
  | 2 => exact hk2 _
  | 3 => exact hk3 _
  | 4 => exact large_spec c large16 hg _ _ a
  | 5 => exact large_spec c large32 hg _ _ a
  | 6 => exact large_spec c large64 hg _ _ a
  | 7 => exact large_spec c large128 hg _ _ a
  | 8 => exact large_spec c large256 hg _ _ a
  | 9 => exact large_spec c large512 hg _ _ a

/-- The local sort as a function of the rows. -/
def localA (v3 : BitVec 32) (a : Arr F) : Arr F := levels.foldl (fun a ls => levelA v3 ls.1 ls.2 a) a

/-- A merge's order. -/
def ascW (K v2 : BitVec 32) : BitVec 1 := Scalar.cmpi .eq (Scalar.andi v2 K) 0#32

def mblkA (asc : BitVec 1) (s : ℕ) (a : Arr F) : Arr F :=
  upd a (256 * s) 256 (mergeW mergeOk asc (iota .tc S256x1 32 [0] iota_S256x1_d0_w32) (blk a (256 * s) 256))

/-- A merge as a function of the rows. -/
def mergeA (K v2 : BitVec 32) (a : Arr F) : Arr F :=
  mblkA (ascW K v2) 3 (mblkA (ascW K v2) 2 (mblkA (ascW K v2) 1 (mblkA (ascW K v2) 0
    (pairA (256 * 2) (256 * 3) 256 (ascW K v2) (pairA (256 * 0) (256 * 1) 256 (ascW K v2)
      (pairA (256 * 1) (256 * 3) 256 (ascW K v2) (pairA (256 * 0) (256 * 2) 256 (ascW K v2) a)))))))

theorem merge_spec (c : Dev nD) (g : ℕ) (hg : g < 2) (K v2 : BitVec 32) (a : Arr F) :
    Tri c (wk c g 0 1024 a) (mergeP wM wW allOk g hg K v2) (wk c g 0 1024 (mergeA K v2 a)) :=
  (pair_spec c _ _ (by decide) (by decide) _ _).seq <| (pair_spec c _ _ (by decide) (by decide) _ _).seq <|
  (pair_spec c _ _ (by decide) (by decide) _ _).seq <| (pair_spec c _ _ (by decide) (by decide) _ _).seq <|
  (upd_spec c _ (by decide) _ _).seq <| (upd_spec c _ (by decide) _ _).seq <| (upd_spec c _ (by decide) _ _).seq (upd_spec c _ (by decide) _ _)

/-! ## The copies in and out -/

/-- Device `c` holds its operand's columns `X`. -/
def xin (c : Dev nD) (X : S1024x256.Idx → Elt F .f32) : sProp 𝕄 := ((c : Thread nD τ).loc cc0_stg0_0) ↦{fullShare} X
/-- Device `c` holds its result's columns, with contents `O`. -/
def oout (c : Dev nD) (O : S1024x256.Idx → Elt F .f32) : sProp 𝕄 := ((c : Thread nD τ).loc cc0_stg1_0) ↦{fullShare} O

/-- A block of 256 rows of the operand, rounded. -/
def xblk (X : S1024x256.Idx → Elt F .f32) {o q : ℕ} (hx : XIn o q) : FVec F (sh2 256 128) .bf16 :=
  truncf .bf16 (shapeCast S256x128 ((xM : Memref sig .tc .vmem S1024x256 .f32).view.readAt (Elt F) (Rect.unit (s := S1024x256) ![o, q] S256x128.size hx.inb).toLoadRect X)
    shapeCasts_S256x128_S256x128 : FVec F S256x128 .f32) bitsLt_bf16_f32

theorem copyIn_spec (c : Dev nD) {g o q : ℕ} (h : WIn g o 256) (b : o + 256 ≤ 1024) (hx : XIn o q) (X : S1024x256.Idx → Elt F .f32) (a : Arr F) :
    Tri c iprop(wk c g 0 1024 a ∗ xin c X) (copyIn xM wM wW g o q h hx) iprop(wk c g 0 1024 (upd a o 256 (xblk X hx)) ∗ xin c X) := fun α k Q => by
  unfold copyIn xin
  simp only [bind_assoc]
  iintro ⟨Hw, Hx⟩ Hk
  iapply (wp_load 𝒱₀ (c : Thread nD τ) none Set.univ (m := xM) (S := Finset.univ) (f := X) (Finset.subset_univ _)) $$ Hx
  iintro Hx
  iapply (st_spec c h (Nat.zero_le _) (by omega) a _ _ Q) $$ Hw
  iintro Hw
  iapply Hk
  isplitl [Hw]
  · iexact Hw
  · iexact Hx

/-- A group's columns, rounded. -/
def inA (g : ℕ) (hg : g < 2) (X : S1024x256.Idx → Elt F .f32) (a : Arr F) : Arr F :=
  upd (upd (upd (upd a (256 * 0) 256 (xblk X (allOk.x g 0 hg (by decide)))) (256 * 1) 256 (xblk X (allOk.x g 1 hg (by decide))))
    (256 * 2) 256 (xblk X (allOk.x g 2 hg (by decide)))) (256 * 3) 256 (xblk X (allOk.x g 3 hg (by decide)))

theorem in_spec (c : Dev nD) (g : ℕ) (hg : g < 2) (X : S1024x256.Idx → Elt F .f32) (a : Arr F) :
    Tri c iprop(wk c g 0 1024 a ∗ xin c X) (inP xM wM wW allOk g hg) iprop(wk c g 0 1024 (inA g hg X a) ∗ xin c X) :=
  (copyIn_spec c _ (by decide) _ X _).seq <| (copyIn_spec c _ (by decide) _ X _).seq <| (copyIn_spec c _ (by decide) _ X _).seq (copyIn_spec c _ (by decide) _ X _)

/-- The result's columns with a block of rows put in. -/
def outW (O : S1024x256.Idx → Elt F .f32) {o q : ℕ} (hx : XIn o q) (v : FVec F (sh2 256 128) .bf16) : S1024x256.Idx → Elt F .f32 :=
  ((oM : Memref sig .tc .vmem S1024x256 .f32).access (Rect.unit (s := S1024x256) ![o, q] S256x128.size hx.inb)).write (Elt F) O
    (extf .f32 v bitsLt_bf16_f32 : FVec F S256x128 .f32) Finset.univ

theorem copyOut_spec (c : Dev nD) {g o q : ℕ} (h : WIn g o 256) (b : o + 256 ≤ 1024) (hx : XIn o q) (O : S1024x256.Idx → Elt F .f32) (a : Arr F) :
    Tri c iprop(wk c g 0 1024 a ∗ oout c O) (copyOut oM wM g o q h hx) iprop(wk c g 0 1024 a ∗ oout c (outW O hx (blk a o 256))) := fun α k Q => by
  unfold copyOut oout
  simp only [bind_assoc]
  iintro ⟨Hw, Hx⟩ Hk
  iapply (ld_spec c h (Nat.zero_le _) (by omega) a _ Q) $$ Hw
  iintro Hw
  iapply (wp_load 𝒱₀ (c : Thread nD τ) none Set.univ (m := oM) (S := Finset.univ) (f := O) (Finset.subset_univ _)) $$ Hx
  iintro Hx
  iapply (wp_store 𝒱₀ (c : Thread nD τ) none Set.univ (m := oM) (r := Rect.unit (s := S1024x256) ![o, q] S256x128.size hx.inb) (Mk := Finset.univ) (S := Finset.univ) (f := O)
    (Finset.subset_univ _)) $$ Hx
  iintro Hx
  iapply Hk
  isplitl [Hw]
  · iexact Hw
  · iexact Hx

/-- The result's columns with a group's put in. -/
def outA (g : ℕ) (hg : g < 2) (a : Arr F) (O : S1024x256.Idx → Elt F .f32) : S1024x256.Idx → Elt F .f32 :=
  outW (outW (outW (outW O (allOk.x g 0 hg (by decide)) (blk a (256 * 0) 256)) (allOk.x g 1 hg (by decide)) (blk a (256 * 1) 256))
    (allOk.x g 2 hg (by decide)) (blk a (256 * 2) 256)) (allOk.x g 3 hg (by decide)) (blk a (256 * 3) 256)

theorem out_spec (c : Dev nD) (g : ℕ) (hg : g < 2) (O : S1024x256.Idx → Elt F .f32) (a : Arr F) :
    Tri c iprop(wk c g 0 1024 a ∗ oout c O) (outP oM wM allOk g hg) iprop(wk c g 0 1024 a ∗ oout c (outA g hg a O)) :=
  (copyOut_spec c _ (by decide) _ _ a).seq <| (copyOut_spec c _ (by decide) _ _ a).seq <| (copyOut_spec c _ (by decide) _ _ a).seq (copyOut_spec c _ (by decide) _ _ a)

/-! ## Keeping the smaller or the larger rows -/

/-- Whether a device keeps the smaller rows. -/
def mineW (K d v2 : BitVec 32) : BitVec 1 :=
  Scalar.xori (Scalar.xori (Scalar.cmpi .eq (Scalar.andi v2 K) 0#32) (Scalar.cmpi .eq (Scalar.andi v2 d) 0#32)) 1#1

/-- An exchange as a function of the own and the partner's rows. -/
def exA (K d v2 : BitVec 32) (a b : Arr F) : Arr F := fun r l =>
  Scalar.select (mineW K d v2) (FloatOps.minimumf (a r l) (b r l)) (FloatOps.maximumf (a r l) (b r l))

/-- The places of half `h` of group `g` of exchange `t` in the staging buffer. -/
def spc (t g h : ℕ) : Finset S15x2x1024x128.Idx :=
  Finset.univ.filter fun i => (i 0).val = t ∧ (i 1).val = g ∧ 512 * h ≤ (i 2).val ∧ (i 2).val < 512 * h + 512

theorem mem_spc {t g h : ℕ} {i : S15x2x1024x128.Idx} :
    i ∈ spc t g h ↔ (i 0).val = t ∧ (i 1).val = g ∧ 512 * h ≤ (i 2).val ∧ (i 2).val < 512 * h + 512 :=
  ⟨fun h => (Finset.mem_filter.mp h).2, fun h => Finset.mem_filter.mpr ⟨Finset.mem_univ _, h⟩⟩

/-- Device `c` holds a piece of its staging buffer, with contents `f`. -/
def stg (c : Dev nD) (t g h : ℕ) (f : S15x2x1024x128.Idx → Elt F .bf16) : sProp 𝕄 :=
  ((c : Thread nD τ).loc cc0_scratch1) ↦[spc t g h]{fullShare} f

theorem unit_spc {t g h : ℕ} (inb : ∀ a, (![t, g, 512 * h, 0] : Fin 4 → Nat) a + S1x1x512x128.size a ≤ S15x2x1024x128.size a) :
    (Rect.unit (s := S15x2x1024x128) ![t, g, 512 * h, 0] S1x1x512x128.size inb).set = spc t g h := by
  ext i
  rw [Rect.mem_set_unit, mem_spc]
  constructor
  · intro hi
    have h0 : t ≤ (i 0).val ∧ (i 0).val < t + 1 := hi 0
    have h1 : g ≤ (i 1).val ∧ (i 1).val < g + 1 := hi 1
    have h2 : 512 * h ≤ (i 2).val ∧ (i 2).val < 512 * h + 512 := hi 2
    omega
  · rintro ⟨h0, h1, h2⟩ a
    match a with
    | ⟨0, _⟩ => show t ≤ (i 0).val ∧ (i 0).val < t + 1; omega
    | ⟨1, _⟩ => show g ≤ (i 1).val ∧ (i 1).val < g + 1; omega
    | ⟨2, _⟩ => exact h2
    | ⟨3, _⟩ => exact ⟨Nat.zero_le _, by have : (i 3).val < 128 := (i 3).isLt; show (i 3).val < 0 + 128; omega⟩

theorem setOn_sM {s : Finset S15x2x1024x128.Idx} : (sM : Memref sig .tc .vmem S15x2x1024x128 .bf16).view.setOn s = s :=
  (Finset.map_refl : s.map (Function.Embedding.refl _) = s)

theorem readStg {t g h : ℕ} (hk : HOk t g h (512 * h)) (f : S15x2x1024x128.Idx → Elt F .bf16) (b : Arr F)
    (hf : ∀ i ∈ spc t g h, f i = b (i 2).val (i 3).val) :
    (shapeCast S512x128 ((sM : Memref sig .tc .vmem S15x2x1024x128 .bf16).view.readAt (Elt F)
      (Rect.unit (s := S15x2x1024x128) ![t, g, 512 * h, 0] S1x1x512x128.size hk.stg).toLoadRect f) shapeCasts_S1x1x512x128_S512x128 : FVec F (sh2 512 128) .bf16)
      = blk b (512 * h) 512 := by
  funext i
  refine (shapeCast_apply _ shapeCasts_S1x1x512x128_S512x128 i (fun | 0 => (0 : Fin 1) | 1 => (0 : Fin 1) | 2 => i 0 | 3 => i 1) (by
      rw [Shape.rowMajor_val_four, Shape.rowMajor_val_two]
      show ((0 * 1 + 0) * 512 + (i 0).val) * 128 + (i 1).val = (i 0).val * 128 + (i 1).val
      omega)).trans ?_
  have h0 : (i 0).val < 512 := (i 0).isLt
  refine (hf _ ?_).trans ?_
  · rw [mem_spc]
    refine ⟨?_, ?_, ?_, ?_⟩
    · show t + 1 * 0 = t; omega
    · show g + 1 * 0 = g; omega
    · show 512 * h ≤ 512 * h + 1 * (i 0).val; omega
    · show 512 * h + 1 * (i 0).val < 512 * h + 512; omega
  · show b (512 * h + 1 * (i 0).val) (0 + 1 * (i 1).val) = b (512 * h + (i 0).val) (i 1).val
    rw [Nat.one_mul, Nat.one_mul, Nat.zero_add]

theorem keep_spec (c : Dev nD) {t g h : ℕ} (hk : HOk t g h (512 * h)) (hw : WIn g (512 * h) 512) (K d v2 : BitVec 32)
    (f : S15x2x1024x128.Idx → Elt F .bf16) (a b : Arr F) (hf : ∀ i ∈ spc t g h, f i = b (i 2).val (i 3).val) :
    Tri c iprop(wk c g (512 * h) 512 a ∗ stg c t g h f) (keepH wM wW sM t g h (512 * h) hk hw K d v2)
      iprop(wk c g (512 * h) 512 (exA K d v2 a b) ∗ stg c t g h f) := fun α k Q => by
  have e : wk c g (512 * h) 512 (exA K d v2 a b) = wk c g (512 * h) 512 (upd a (512 * h) 512 (Scalar.select (mineW K d v2)
      (minimumf (blk a (512 * h) 512) (blk b (512 * h) 512)) (maximumf (blk a (512 * h) 512) (blk b (512 * h) 512)))) := by
    refine pointsTo_congr fun i hi => ?_
    obtain ⟨h0, h1, h2⟩ := mem_rows.mp hi
    have hl : (i 2).val < 128 := (i 2).isLt
    show exA K d v2 a b (i 1).val (i 2).val = upd _ _ _ _ (i 1).val (i 2).val
    rw [upd, dif_pos ⟨⟨h1, h2⟩, hl⟩]
    have hr : 512 * h + ((i 1).val - 512 * h) = (i 1).val := by omega
    unfold exA Scalar.select
    split
    · show FloatOps.minimumf _ _ = FloatOps.minimumf (a (512 * h + ((i 1).val - 512 * h)) (i 2).val) (b (512 * h + ((i 1).val - 512 * h)) (i 2).val)
      rw [hr]
    · show FloatOps.maximumf _ _ = FloatOps.maximumf (a (512 * h + ((i 1).val - 512 * h)) (i 2).val) (b (512 * h + ((i 1).val - 512 * h)) (i 2).val)
      rw [hr]
  rw [e]
  unfold keepH stg
  simp only [bind_assoc]
  rw [← readStg hk f b hf]
  iintro ⟨Hw, Hs⟩ Hk
  iapply (ld_spec c hw (le_refl _) (le_refl _) a _ Q) $$ Hw
  iintro Hw
  iapply (wp_load 𝒱₀ (c : Thread nD τ) none Set.univ (m := sM) (S := spc t g h) (f := f)
    (Finset.Subset.trans (le_of_eq setOn_sM) (le_of_eq (unit_spc hk.stg)))) $$ Hs
  iintro Hs
  iapply (st_spec c hw (le_refl _) (le_refl _) a _ _ Q) $$ Hw
  iintro Hw
  iapply Hk
  isplitl [Hw]
  · iexact Hw
  · iexact Hs

/-- The two halves of a group's rows. -/
theorem wk_halves (c : Dev nD) (g : ℕ) (a : Arr F) :
    wk c g 0 1024 a ⊣⊢ iprop(wk c g (512 * 0) 512 a ∗ wk c g (512 * 1) 512 a) := by
  have e : rows g 0 1024 = rows g (512 * 0) 512 ∪ rows g (512 * 1) 512 := by
    ext i
    rw [Finset.mem_union, mem_rows, mem_rows, mem_rows]
    omega
  have d : Disjoint (rows g (512 * 0) 512) (rows g (512 * 1) 512) := Finset.disjoint_left.mpr fun i h1 h2 => by
    rw [mem_rows] at h1 h2
    omega
  unfold wk
  rw [e]
  exact pointsTo_union d

end Cert.KernelIdeal.BS
-- ==== Proof.Cells.lean ====
/- The semaphores the devices meet and exchange on, and what each is raised for. -/
module

public import proofs.«01_k».proof.Proof.Triples

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-- Exchange, group, half. -/
abbrev Slot : Type := Fin 15 × Fin 2 × Fin 2

theorem hkOf (s : Slot) : HOk s.1.val s.2.1.val s.2.2.val (512 * s.2.2.val) := allOk.hk _ _ _ s.1.isLt s.2.1.isLt s.2.2.isLt

/-- The semaphore a device's own transfer raises when it is sent, and the one the partner's raises when it has come. -/
def sendS (s : Slot) : DmaSem sig := (cellS cc0_scratch2 s.1.val s.2.1.val s.2.2.val (512 * s.2.2.val) (hkOf s)).sem
def recvS (s : Slot) : DmaSem sig := (cellS cc0_scratch3 s.1.val s.2.1.val s.2.2.val (512 * s.2.2.val) (hkOf s)).sem
/-- The semaphore of the last meeting. -/
def exS : Sem sig := cc0_scoped0.sem

theorem sendS_val : ∀ s : Slot, (sendS s).val = 2 + (4 * s.1.val + 2 * s.2.1.val + s.2.2.val) := by decide +kernel
theorem recvS_val : ∀ s : Slot, (recvS s).val = 62 + (4 * s.1.val + 2 * s.2.1.val + s.2.2.val) := by decide +kernel
theorem barS_val : barS.val = 0 := by decide +kernel
theorem exS_val : exS.val = 1 := by decide +kernel

/-- The distance's logarithm, the block size's, and the place among the operations, of an exchange. -/
def dE (t : Fin 15) : Fin 5 := match t with
  | 0 => 0 | 1 => 1 | 2 => 0 | 3 => 2 | 4 => 1 | 5 => 0 | 6 => 3 | 7 => 2 | 8 => 1 | 9 => 0 | 10 => 4 | 11 => 3 | 12 => 2 | 13 => 1 | 14 => 0
def kE (t : Fin 15) : Fin 5 := match t with
  | 0 => 0 | 1 => 1 | 2 => 1 | 3 => 2 | 4 => 2 | 5 => 2 | 6 => 3 | 7 => 3 | 8 => 3 | 9 => 3 | 10 => 4 | 11 => 4 | 12 => 4 | 13 => 4 | 14 => 4
def opIdx (t : Fin 15) : ℕ := t.val + (kE t).val

theorem opIdx_inj : ∀ t t' : Fin 15, opIdx t = opIdx t' → t = t' := by decide +kernel
theorem opIdx_lt : ∀ t : Fin 15, opIdx t < 19 := by decide +kernel
theorem ops_opIdx (t : Fin 15) : ops[opIdx t]? = some (.ex t (kE t) (dE t)) := by
  match t with
  | 0 => rfl | 1 => rfl | 2 => rfl | 3 => rfl | 4 => rfl | 5 => rfl | 6 => rfl | 7 => rfl | 8 => rfl | 9 => rfl
  | 10 => rfl | 11 => rfl | 12 => rfl | 13 => rfl | 14 => rfl

/-- What an operation's place says of it. -/
def OpAt (i : ℕ) : Option Op → Prop
  | some (.ex t K d) => opIdx t = i ∧ K = kE t ∧ d = dE t
  | _ => ∀ t, opIdx t ≠ i
theorem opAt : ∀ i < 21, OpAt i ops[i]? := by
  intro i hi
  match i with
  | 0 => exact ⟨rfl, rfl, rfl⟩
  | 1 => show ∀ t, opIdx t ≠ 1; decide +kernel
  | 2 => exact ⟨rfl, rfl, rfl⟩
  | 3 => exact ⟨rfl, rfl, rfl⟩
  | 4 => show ∀ t, opIdx t ≠ 4; decide +kernel
  | 5 => exact ⟨rfl, rfl, rfl⟩
  | 6 => exact ⟨rfl, rfl, rfl⟩
  | 7 => exact ⟨rfl, rfl, rfl⟩
  | 8 => show ∀ t, opIdx t ≠ 8; decide +kernel
  | 9 => exact ⟨rfl, rfl, rfl⟩
  | 10 => exact ⟨rfl, rfl, rfl⟩
  | 11 => exact ⟨rfl, rfl, rfl⟩
  | 12 => exact ⟨rfl, rfl, rfl⟩
  | 13 => show ∀ t, opIdx t ≠ 13; decide +kernel
  | 14 => exact ⟨rfl, rfl, rfl⟩
  | 15 => exact ⟨rfl, rfl, rfl⟩
  | 16 => exact ⟨rfl, rfl, rfl⟩
  | 17 => exact ⟨rfl, rfl, rfl⟩
  | 18 => exact ⟨rfl, rfl, rfl⟩
  | 19 => show ∀ t, opIdx t ≠ 19; decide +kernel
  | 20 => show ∀ t, opIdx t ≠ 20; decide +kernel
  | i + 21 => omega

/-- The partner at distance `2 ^ i`, as the program finds it. -/
def peer (i : Fin 5) (c : Dev nD) : Dev nD := ⟨pdevN (dW i) c, allOk.pdev _ (dW_mem i) c⟩
theorem peer_peer : ∀ i c, peer i (peer i c) = c := by decide +kernel
def peerE (i : Fin 5) : Dev nD ≃ Dev nD := ⟨peer i, peer i, peer_peer i, peer_peer i⟩

abbrev barCell (c : Dev nD) : GSem nD τ sig := ((c : Thread nD τ), .reg barS)
abbrev exitCell (c : Dev nD) : GSem nD τ sig := ((c : Thread nD τ), .reg exS)
abbrev sendCell (c : Dev nD) (s : Slot) : GSem nD τ sig := ((c : Thread nD τ), .dma (sendS s))
abbrev recvCell (c : Dev nD) (s : Slot) : GSem nD τ sig := ((c : Thread nD τ), .dma (recvS s))

/-- What a semaphore is for. -/
inductive Kd where
  | bar | exit | other
  | send (s : Slot)
  | recv (s : Slot)
deriving DecidableEq

def slotAt (n : ℕ) : Slot := (⟨n / 4 % 15, Nat.mod_lt _ (by decide)⟩, ⟨n / 2 % 2, Nat.mod_lt _ (by decide)⟩, ⟨n % 2, Nat.mod_lt _ (by decide)⟩)

def kd : SemLoc sig → Kd
  | .reg i => if i.val = 0 then .bar else .exit
  | .dma i => if i.val < 2 then .other else if i.val < 62 then .send (slotAt (i.val - 2)) else .recv (slotAt (i.val - 62))

theorem slotAt_eq (s : Slot) (n : ℕ) (hn : n = 4 * s.1.val + 2 * s.2.1.val + s.2.2.val) : slotAt n = s := by
  obtain ⟨⟨t, ht⟩, ⟨g, hg⟩, ⟨h, hh⟩⟩ := s
  subst hn
  refine Prod.ext (Fin.ext ?_) (Prod.ext (Fin.ext ?_) (Fin.ext ?_))
  · show (4 * t + 2 * g + h) / 4 % 15 = t; omega
  · show (4 * t + 2 * g + h) / 2 % 2 = g; omega
  · show (4 * t + 2 * g + h) % 2 = h; omega

theorem kd_bar : kd (.reg barS) = .bar := by unfold kd; exact if_pos barS_val
theorem kd_exit : kd (.reg exS) = .exit := by unfold kd; exact if_neg (by rw [exS_val]; decide)
theorem kd_send (s : Slot) : kd (.dma (sendS s)) = .send s := by
  obtain ⟨⟨t, ht⟩, ⟨g, hg⟩, ⟨h, hh⟩⟩ := s
  have e : (sendS (⟨t, ht⟩, ⟨g, hg⟩, ⟨h, hh⟩)).val = 2 + (4 * t + 2 * g + h) := sendS_val _
  unfold kd
  dsimp only
  rw [if_neg (by omega), if_pos (by omega), slotAt_eq (⟨t, ht⟩, ⟨g, hg⟩, ⟨h, hh⟩) _ (by show _ = 4 * t + 2 * g + h; omega)]
theorem kd_recv (s : Slot) : kd (.dma (recvS s)) = .recv s := by
  obtain ⟨⟨t, ht⟩, ⟨g, hg⟩, ⟨h, hh⟩⟩ := s
  have e : (recvS (⟨t, ht⟩, ⟨g, hg⟩, ⟨h, hh⟩)).val = 62 + (4 * t + 2 * g + h) := recvS_val _
  unfold kd
  dsimp only
  rw [if_neg (by omega), if_neg (by omega), slotAt_eq (⟨t, ht⟩, ⟨g, hg⟩, ⟨h, hh⟩) _ (by show _ = 4 * t + 2 * g + h; omega)]

/-! ## The rows along the way -/

variable {F : FTy → Type} [FloatOps F]

local notation "𝕄" => MT nD τ sig Unit (Elt F) ℕ UU ℕ

/-- A group's columns of the operand, rounded. -/
def inG (g : Fin 2) (X : S1024x256.Idx → Elt F .f32) : Arr F := fun r l =>
  FloatOps.truncf .bf16 bitsLt_bf16_f32 (X (fun | 0 => ⟨r % 1024, Nat.mod_lt _ (by decide)⟩ | 1 => ⟨(128 * g.val + l % 128) % 256, Nat.mod_lt _ (by decide)⟩))

/-- The device's number as the program has it, and the number of its first row. -/
def v2W (c : Dev nD) : BitVec 32 := Scalar.remsi (Scalar.divsi (Dev.word c) 1#32) 32#32
def v3W (c : Dev nD) : BitVec 32 := Scalar.muli (v2W c) 1024#32

/-- Each device's rows of group `g` before operation `i`, from the devices' operands. -/
def rowsAt (X : Dev nD → S1024x256.Idx → Elt F .f32) (g : Fin 2) : ℕ → Dev nD → Arr F
  | 0, c => localA (v3W c) (inG g (X c))
  | i + 1, c => match ops[i]? with
    | some (.ex _ K d) => exA (kW K) (dW d) (v2W c) (rowsAt X g i c) (rowsAt X g i (peer d c))
    | some (.loc K) => mergeA (kW K) (v2W c) (rowsAt X g i c)
    | none => rowsAt X g i c

/-- What a device's staging buffer comes to hold. -/
def stgAll (X : Dev nD → S1024x256.Idx → Elt F .f32) (c : Dev nD) : S15x2x1024x128.Idx → Elt F .bf16 := fun i =>
  rowsAt X (i 1) (opIdx (i 0)) (peer (dE (i 0)) c) (i 2).val (i 3).val

/-! ## The schedule -/

abbrev N : ℕ := (stgM sM 0 0 0 (512 * 0) (hkOf (0, 0, 0))).view.dmaCredit
theorem N_pos : 0 < N := View.dmaCredit_pos _ (by decide)

variable (X : Dev nD → S1024x256.Idx → Elt F .f32)

/-- What the partner's signal of the first meeting hands over: the partner's pieces of the staging buffer. -/
def barPay (c : Dev nD) (i : Fin 5) : sProp 𝕄 :=
  bigSep Finset.univ fun s : Slot => if dE s.1 = i then iprop(∃ f, stg (peer i c) s.1.val s.2.1.val s.2.2.val f) else iprop(emp)
def sendPay (c : Dev nD) (s : Slot) : sProp 𝕄 := wk c s.2.1.val (512 * s.2.2.val) 512 (rowsAt X s.2.1 (opIdx s.1) c)
def recvPay (c : Dev nD) (s : Slot) : sProp 𝕄 := stg c s.1.val s.2.1.val s.2.2.val (stgAll X c)

instance stg_storable (c : Dev nD) (t g h : ℕ) (f) : BI.Storable (upEmb : UEmb _ 𝕄) (stg (F := F) c t g h f) := by unfold stg; infer_instance
instance wk_storable (c : Dev nD) (g o n : ℕ) (a) : BI.Storable (upEmb : UEmb _ 𝕄) (wk (F := F) c g o n a) := by unfold wk; infer_instance
instance barPay_storable (c : Dev nD) (i : Fin 5) : BI.Storable (upEmb : UEmb _ 𝕄) (barPay (F := F) c i) := by
  unfold barPay
  have : ∀ s : Slot, BI.Storable (upEmb : UEmb _ 𝕄) (if dE s.1 = i then iprop(∃ f, stg (F := F) (peer i c) s.1.val s.2.1.val s.2.2.val f) else iprop(emp)) := fun s => by
    split <;> infer_instance
  infer_instance
instance sendPay_storable (c : Dev nD) (s : Slot) : BI.Storable (upEmb : UEmb _ 𝕄) (sendPay X c s) := by unfold sendPay; infer_instance
instance recvPay_storable (c : Dev nD) (s : Slot) : BI.Storable (upEmb : UEmb _ 𝕄) (recvPay X c s) := by unfold recvPay; infer_instance

def payOf (c : Dev nD) (d : Fin 5) : Kd → sProp 𝕄
  | .bar => barPay c d
  | .send s => sendPay X c s
  | .recv s => recvPay X c s
  | _ => iprop(emp)
instance payOf_storable (c : Dev nD) (d : Fin 5) (k : Kd) : BI.Storable (upEmb : UEmb _ 𝕄) (payOf X c d k) := by
  cases k <;> unfold payOf <;> infer_instance

def dutOf : Kd → Finset (Fin 5)
  | .bar => Finset.univ
  | .exit => Finset.univ
  | .send _ => {0}
  | .recv _ => {0}
  | .other => ∅
def amtOf : Kd → ℕ
  | .bar => 1
  | .exit => 1
  | _ => N
theorem amtOf_pos (k : Kd) : 0 < amtOf k := by
  cases k <;> first | exact Nat.one_pos | exact N_pos

/-- One round: a meeting's semaphore has one duty of one unit from each of the five partners, a half's two semaphores one duty each. -/
def sch : Rounds.Schedule (GSem nD τ sig) (Fin 5) 𝕄 where
  duties g r := if r = 0 ∧ g.1.2 = .tc then dutOf (kd g.2) else ∅
  unitless _ := False
  amount g _ _ := amtOf (kd g.2)
  payload g _ d := payOf X g.1.1 d (kd g.2)
  amount_pos g _ _ _ := amtOf_pos _

instance sch_payload_storable (g : GSem nD τ sig) (r : ℕ) (d : Fin 5) :
    BI.Storable (upEmb : UEmb _ 𝕄) ((sch X).payload g r d) := payOf_storable X _ _ _

section Sched
variable (c : Dev nD) (s : Slot)

theorem duties_tc (sm : SemLoc sig) : (sch X).duties ((c : Thread nD τ), sm) 0 = dutOf (kd sm) := by dsimp only [sch]; exact if_pos ⟨rfl, rfl⟩
theorem duties_later (g : GSem nD τ sig) : ∀ r, 1 ≤ r → (sch X).duties g r = ∅ := fun r hr => by dsimp only [sch]; exact if_neg fun h => by omega
theorem amount_tc (g : GSem nD τ sig) (r : ℕ) (d : Fin 5) : (sch X).amount g r d = amtOf (kd g.2) := rfl
theorem payload_tc (sm : SemLoc sig) (r : ℕ) (d : Fin 5) : (sch X).payload ((c : Thread nD τ), sm) r d = payOf X c d (kd sm) := rfl

theorem expect_tc (sm : SemLoc sig) : (sch X).expect ((c : Thread nD τ), sm) 0 = (dutOf (kd sm)).card * amtOf (kd sm) := by
  unfold Schedule.expect Schedule.amountOf
  rw [duties_tc, Finset.sum_congr rfl fun d _ => amount_tc X _ _ d, Finset.sum_const, smul_eq_mul]
theorem expect_bar : (sch X).expect (barCell c) 0 = 5 := by rw [expect_tc, kd_bar]; rfl
theorem expect_exit : (sch X).expect (exitCell c) 0 = 5 := by rw [expect_tc, kd_exit]; rfl
theorem expect_send : (sch X).expect (sendCell c s) 0 = N := by rw [expect_tc, kd_send]; show 1 * N = N; rw [Nat.one_mul]
theorem expect_recv : (sch X).expect (recvCell c s) 0 = N := by rw [expect_tc, kd_recv]; show 1 * N = N; rw [Nat.one_mul]
theorem rest_bar : bigSep ((sch X).duties (barCell c) 0 \ ∅) (fun d => (sch X).payload (barCell c) 0 d) = bigSep Finset.univ fun d => barPay c d := by
  rw [Finset.sdiff_empty, duties_tc, kd_bar]
  refine bigSep_congr fun d _ => ?_
  rw [payload_tc, kd_bar]; rfl
theorem rest_send : bigSep ((sch X).duties (sendCell c s) 0 \ ∅) (fun d => (sch X).payload (sendCell c s) 0 d) = sendPay X c s := by
  rw [Finset.sdiff_empty, duties_tc, kd_send]; show bigSep {0} _ = _; rw [bigSep_singleton, payload_tc, kd_send]; rfl
theorem rest_recv : bigSep ((sch X).duties (recvCell c s) 0 \ ∅) (fun d => (sch X).payload (recvCell c s) 0 d) = recvPay X c s := by
  rw [Finset.sdiff_empty, duties_tc, kd_recv]; show bigSep {0} _ = _; rw [bigSep_singleton, payload_tc, kd_recv]; rfl

end Sched

/-! ## What is owed, and the levels -/

/-- The rows still to be sent to the partners. -/
def owR (c : Dev nD) (S : Finset Slot) : CellTallies nD τ sig Unit := ∑ s ∈ S, tallyAt (recvCell (peer (dE s.1) c) s) () N
/-- The signals of the last meeting from the `k`-th on. -/
def owE (c : Dev nD) (S : Finset (Fin 5)) : CellTallies nD τ sig Unit := ∑ i ∈ S, tallyAt (exitCell (peer i c)) () 1
def owB (c : Dev nD) (S : Finset (Fin 5)) : CellTallies nD τ sig Unit := ∑ i ∈ S, tallyAt (barCell (peer i c)) () 1
/-- What is owed with `S` still to be sent, and the signals `E` and `B` of the two meetings. -/
def ow (c : Dev nD) (S : Finset Slot) (E B : Finset (Fin 5)) : CellTallies nD τ sig Unit := owR c S + owE c E + owB c B

def L (g : GSem nD τ sig) : Finset Unit := if g.1.2 = .tc then {()} else ∅
def lvK : Kd → ℕ
  | .bar => 1
  | .exit => 100
  | .recv s => 2 * opIdx s.1 + 3 * s.2.1.val + 2
  | _ => 0
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {ι : Type} [DecidableEq ι] {S : Finset ι} {f : ι → GSem nD τ sig} {n : ℕ} {g : GSem nD τ sig} {u : Unit}
    (h : 0 < (∑ i ∈ S, (tallyAt (f i) () n : CellTallies nD τ sig Unit)) g u) : ∃ i ∈ S, g = f i := by
  induction S using Finset.induction_on with
  | empty => rw [Finset.sum_empty] at h; exact absurd h (Nat.lt_irrefl 0)
  | insert a S ha ih =>
    rw [Finset.sum_insert ha, Pi.add_apply, Finsupp.add_apply, tallyAt_apply] at h
    by_cases e : g = f a ∧ u = ()
    · exact ⟨a, Finset.mem_insert_self _ _, e.1⟩
    · rw [if_neg e, Nat.zero_add] at h
      obtain ⟨i, hi, e⟩ := ih h
      exact ⟨i, Finset.mem_insert_of_mem hi, e⟩

theorem ow_pos {c : Dev nD} {S : Finset Slot} {E B : Finset (Fin 5)} {g : GSem nD τ sig} {u : Unit} (h : 0 < ow c S E B g u) :
    (∃ s ∈ S, g = recvCell (peer (dE s.1) c) s) ∨ (∃ i ∈ E, g = exitCell (peer i c)) ∨ ∃ i ∈ B, g = barCell (peer i c) := by
  unfold ow owR owE owB at h
  rw [Pi.add_apply, Finsupp.add_apply, Pi.add_apply, Finsupp.add_apply] at h
  by_contra hn
  rw [not_or, not_or] at hn
  rcases Nat.eq_zero_or_pos ((∑ s ∈ S, tallyAt (recvCell (peer (dE s.1) c) s) () N : CellTallies nD τ sig Unit) g u) with h1 | h1
  · rcases Nat.eq_zero_or_pos ((∑ i ∈ E, tallyAt (exitCell (peer i c)) () 1 : CellTallies nD τ sig Unit) g u) with h2 | h2
    · rw [h1, h2, Nat.zero_add] at h
      exact hn.2.2 (sum_tally_pos h)
    · exact hn.2.1 (sum_tally_pos h2)
  · exact hn.1 (sum_tally_pos h1)

/-- A device may wait on a semaphore below everything it still owes. -/
theorem mayWait (c : Dev nD) (sm : SemLoc sig) (S : Finset Slot) (E B : Finset (Fin 5))
    (hS : ∀ s ∈ S, lvK (kd sm) < 2 * opIdx s.1 + 3 * s.2.1.val + 2) (hE : ∀ i ∈ E, lvK (kd sm) < 100) (hB : ∀ i ∈ B, lvK (kd sm) < 1) :
    (levAts L lv : sProp 𝕄) ⊢ MayWait (c : Thread nD τ) sm () (ow c S E B) :=
  MayOwe.of_cut (L := L) (lev := lv) (lvK (kd sm)) (fun p hp => by rw [Finset.mem_singleton.mp hp, L_tc]; exact Finset.mem_singleton_self _)
    (fun g u hg => by rcases ow_pos hg with ⟨i, hi, rfl⟩ | ⟨i, hi, rfl⟩ | ⟨i, hi, rfl⟩ <;> exact Finset.mem_singleton_self _)
    (fun p hp => by rw [Finset.mem_singleton.mp hp]; exact le_refl _)
    (fun g u hg => by
      rcases ow_pos hg with ⟨i, hi, rfl⟩ | ⟨i, hi, rfl⟩ | ⟨i, hi, rfl⟩
      · show _ < lvK (kd (.dma (recvS i))); rw [kd_recv]; exact hS i hi
      · show _ < lvK (kd (.reg exS)); rw [kd_exit]; exact hE i hi
      · show _ < lvK (kd (.reg barS)); rw [kd_bar]; exact hB i hi)

theorem ow_send (c : Dev nD) {S : Finset Slot} {s : Slot} (hs : s ∈ S) (E B : Finset (Fin 5)) :
    ow c S E B = ow c (S.erase s) E B + tallyAt (recvCell (peer (dE s.1) c) s) () N := by
  unfold ow owR
  rw [← Finset.sum_erase_add S _ hs, add_right_comm _ (tallyAt _ _ _) (owE c E), add_right_comm _ (tallyAt _ _ _) (owB c B)]
theorem ow_exit (c : Dev nD) (S : Finset Slot) {E : Finset (Fin 5)} {i : Fin 5} (hi : i ∈ E) (B : Finset (Fin 5)) :
    ow c S E B = ow c S (E.erase i) B + tallyAt (exitCell (peer i c)) () 1 := by
  unfold ow owE
  rw [← Finset.sum_erase_add E _ hi, ← add_assoc, add_right_comm _ (tallyAt _ _ _) (owB c B)]
theorem ow_bar (c : Dev nD) (S : Finset Slot) (E : Finset (Fin 5)) {B : Finset (Fin 5)} {i : Fin 5} (hi : i ∈ B) :
    ow c S E B = ow c S E (B.erase i) + tallyAt (barCell (peer i c)) () 1 := by
  unfold ow owB
  rw [← Finset.sum_erase_add B _ hi, ← add_assoc]
theorem ow_zero (c : Dev nD) : ow c ∅ ∅ ∅ = 0 := by
  unfold ow owR owE owB
  rw [Finset.sum_empty, Finset.sum_empty, Finset.sum_empty, add_zero, add_zero]

end Cert.KernelIdeal.BS
-- ==== Proof.Proto.lean ====
/- Sending a half to the partner, waiting for the two halves of an exchange, and keeping the smaller or the larger rows. -/
module

public import proofs.«01_k».proof.Proof.Cells

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S1024x256.Idx → Elt F .f32)

/-! ## What every device knows -/

/-- A device's semaphores: the first meeting's, the last's, and each half's two. -/
abbrev CK : Type := Option (Option (Slot × Bool))
instance : DecidableEq CK := inferInstanceAs (DecidableEq (Option (Option ((Fin 15 × Fin 2 × Fin 2) × Bool))))
def osem : Option (Slot × Bool) → SemLoc sig
  | none => .reg exS
  | some (s, false) => .dma (sendS s)
  | some (s, true) => .dma (recvS s)
def csem : CK → SemLoc sig
  | none => .reg barS
  | some k => osem k
def kcell (ck : Dev nD × CK) : GSem nD τ sig := ((ck.1 : Thread nD τ), csem ck.2)

/-- The semaphores' invariants under the names `K`, that every one has reached its round, and the levels. -/
def Rec (K : Dev nD × CK → ℕ) : sProp 𝕄 :=
  iprop((bigSep Finset.univ fun ck : Dev nD × CK => cellInv ER (sch X) (K ck) (kcell ck))
    ∗ (bigSep Finset.univ fun ck : Dev nD × CK => reached ER (kcell ck) 0) ∗ levAts L lv)

instance Rec_persistent (K : Dev nD × CK → ℕ) : BI.Persistent (Rec X K) := by unfold Rec; infer_instance

theorem inv_at (K : Dev nD × CK → ℕ) (ck : Dev nD × CK) :
    (bigSep Finset.univ fun ck : Dev nD × CK => (cellInv ER (sch X) (K ck) (kcell ck) : sProp 𝕄)) ⊢ cellInv ER (sch X) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)
theorem rec_inv (K : Dev nD × CK → ℕ) (ck : Dev nD × CK) : Rec X K ⊢ cellInv ER (sch X) (K ck) (kcell ck) := by
  unfold Rec
  iintro ⟨H, -, -⟩
  iapply (inv_at X K ck); iexact H
theorem rec_reached (K : Dev nD × CK → ℕ) (ck : Dev nD × CK) : Rec X K ⊢ reached ER (kcell ck) 0 := by
  unfold Rec
  iintro ⟨-, H, -⟩
  iapply (reached_at (F := F) ck); iexact H
theorem rec_lev (K : Dev nD × CK → ℕ) : Rec X K ⊢ levAts L lv := by
  unfold Rec
  iintro ⟨-, -, H⟩
  iexact H

/-! ## The halves as they are copied -/

theorem win_set {t g h : ℕ} (hk : HOk t g h (512 * h)) : (winM wM t g h (512 * h) hk).view.set = rows g (512 * h) 512 :=
  (View.set_reshape _ _).trans ((View.set_slice_whole cc0_scratch0 (Rect.unit (s := S2x1024x128) ![g, 512 * h, 0] S1x512x128.size hk.win)).trans (unit_rows hk.win))
theorem stg_set {t g h : ℕ} (hk : HOk t g h (512 * h)) : (stgM sM t g h (512 * h) hk).view.set = spc t g h :=
  (View.set_reshape _ _).trans ((View.set_slice_whole cc0_scratch1 (Rect.unit (s := S15x2x1024x128) ![t, g, 512 * h, 0] S1x1x512x128.size hk.stg)).trans (unit_spc hk.stg))

theorem stg_written {t g h : ℕ} (hk : HOk t g h (512 * h)) (a : Arr F) (fd : S15x2x1024x128.Idx → Elt F .bf16) (i : S15x2x1024x128.Idx) (hi : i ∈ spc t g h) :
    (stgM sM t g h (512 * h) hk).view.write (Elt F) fd ((winM wM t g h (512 * h) hk).view.read (Elt F) (lift a)) Finset.univ i = a (i 2).val (i 3).val := by
  obtain ⟨h0, h1, h2, h3⟩ := mem_spc.mp hi
  let y : S512x128.Idx := fun | 0 => ⟨(i 2).val - 512 * h, by show _ < 512; omega⟩ | 1 => i 3
  have e1 : (Shape.reshapeEquiv (squeezes_S1x1x512x128_S512x128).numel_eq y : S1x1x512x128.Idx) = (fun | 0 => (0 : Fin 1) | 1 => (0 : Fin 1) | 2 => y 0 | 3 => y 1) :=
    Shape.reshapeEquiv_eq_of_rowMajor _ (by
      rw [Shape.rowMajor_val_four, Shape.rowMajor_val_two]
      show ((0 * 1 + 0) * 512 + (y 0).val) * 128 + (y 1).val = (y 0).val * 128 + (y 1).val
      omega)
  have e2 : (Shape.reshapeEquiv (squeezes_S1x512x128_S512x128).numel_eq y : S1x512x128.Idx) = (fun | 0 => (0 : Fin 1) | 1 => y 0 | 2 => y 1) :=
    Shape.reshapeEquiv_eq_of_rowMajor _ (by
      rw [Shape.rowMajor_val_three, Shape.rowMajor_val_two]
      show (0 * 512 + (y 0).val) * 128 + (y 1).val = (y 0).val * 128 + (y 1).val
      omega)
  have ey : (stgM sM t g h (512 * h) hk).view.emb y = i := by
    show (Rect.unit (s := S15x2x1024x128) ![t, g, 512 * h, 0] S1x1x512x128.size hk.stg).emb (Shape.reshapeEquiv (squeezes_S1x1x512x128_S512x128).numel_eq y) = i
    rw [e1]
    exact funext fun b => Fin.ext (match b with
      | 0 => by show t + 1 * 0 = (i 0).val; omega
      | 1 => by show g + 1 * 0 = (i 1).val; omega
      | 2 => by show 512 * h + 1 * ((i 2).val - 512 * h) = (i 2).val; omega
      | 3 => by show 0 + 1 * (i 3).val = (i 3).val; omega)
  refine (congrArg _ ey.symm).trans ((View.write_emb_of_mem _ _ (Finset.mem_univ y)).trans ?_)
  show lift a ((Rect.unit (s := S2x1024x128) ![g, 512 * h, 0] S1x512x128.size hk.win).emb (Shape.reshapeEquiv (squeezes_S1x512x128_S512x128).numel_eq y)) = _
  rw [e2]
  show a (512 * h + 1 * ((i 2).val - 512 * h)) (0 + 1 * (i 3).val) = _
  rw [Nat.one_mul, Nat.one_mul, Nat.zero_add, Nat.add_sub_cancel' h2]

/-! ## One half -/

/-- Device `c` owes `S`, `E`, `B` (having waited on some semaphores). -/
def Ow (c : Dev nD) (S : Finset Slot) (E B : Finset (Fin 5)) : sProp 𝕄 := iprop(∃ W, owes (c : Thread nD τ) (ow c S E B) W)

/-- A half before its transfer: the tokens of the two duties, the partner's piece, and the device's own place at its two semaphores. -/
def Pre (c : Dev nD) (s : Slot) : sProp 𝕄 :=
  iprop(dutyTok ER (sendCell c s) 0 0 ∗ dutyTok ER (recvCell (peer (dE s.1) c) s) 0 0 ∗ (∃ f, stg (peer (dE s.1) c) s.1.val s.2.1.val s.2.2.val f)
    ∗ atPos ER (sendCell c s) 0 ∅ 0 ∗ atPos ER (recvCell c s) 0 ∅ 0 ∗ cred (tallyAt (recvCell c s) () N))
/-- A half under way. -/
def Fl (c : Dev nD) (s : Slot) : sProp 𝕄 :=
  iprop(cred (tallyAt (sendCell c s) () N) ∗ atPos ER (sendCell c s) 0 ∅ 0 ∗ atPos ER (recvCell c s) 0 ∅ 0 ∗ cred (tallyAt (recvCell c s) () N))
/-- A half done: its semaphores at zero, and the partner's rows in the staging buffer. -/
def Dn (c : Dev nD) (s : Slot) : sProp 𝕄 :=
  iprop(semVal (sendCell c s) 0 ∗ semVal (recvCell c s) 0 ∗ recvPay X c s)

theorem send_spec (K : Dev nD × CK → ℕ) (c : Dev nD) (s : Slot) (S : Finset Slot) (hs : s ∈ S) (E B : Finset (Fin 5))
    (hd : ∀ d0, pdevN (dW (dE s.1)) d0 < nD) :
    Tri c iprop(Rec X K ∗ sendPay X c s ∗ Pre c s ∗ Ow c S E B)
      (sendH wM wW sM sW cc0_scratch2 cc0_scratch3 s.1.val s.2.1.val s.2.2.val (512 * s.2.2.val) (hkOf s) (dW (dE s.1)) hd c)
      iprop(Fl c s ∗ Ow c (S.erase s) E B) := fun α k Q => by
  unfold sendH Pre Fl Ow sendPay wk
  rw [← win_set (hkOf s)]
  iintro ⟨#HR, Hw, ⟨Ht1, Ht2, ⟨%f, Hf⟩, Ha1, Ha2, Hc⟩, ⟨%W, HO⟩⟩ Hk
  unfold stg
  ihave Hf := (Entails.of_eq (congrArg (fun I => (((peer (dE s.1) c : Thread nD τ).loc cc0_scratch1) ↦[I]{fullShare} f : sProp 𝕄)) (stg_set (hkOf s)).symm)) $$ Hf
  iapply (Rounds.wp_send_pointsTo 𝒱₀ ER (sch X) (c : Thread nD τ) none (κ₁ := K (c, some (some (s, false)))) (κ₂ := K (peer (dE s.1) c, some (some (s, true))))
    (c' := (peer (dE s.1) c : Thread nD τ)) (src := winM wM s.1.val s.2.1.val s.2.2.val (512 * s.2.2.val) (hkOf s)) (dst := stgM sM s.1.val s.2.1.val s.2.2.val (512 * s.2.2.val) (hkOf s))
    (sS := .dma (sendS s)) (sem := .dma (recvS s)) (k := fun x => k x)
    (q := fullShare) (fs := lift (rowsAt X s.2.1 (opIdx s.1) c))
    (r₁ := 0) (r₂ := 0) (d₁ := 0) (d₂ := 0) (fd := f)
    (by rw [duties_tc, kd_send]; exact Finset.mem_singleton_self _) (by rw [duties_tc, kd_recv]; exact Finset.mem_singleton_self _)
    () () N rfl (by rw [amount_tc]; exact (congrArg amtOf (kd_send s))) (by rw [amount_tc]; exact (congrArg amtOf (kd_recv s)))
    (ow c (S.erase s) E B) (ow_send c hs E B) (W := W)
    (by
      rw [payload_tc, kd_send]
      show _ ⊢ sendPay X c s
      unfold sendPay wk
      rw [win_set (hkOf s)]
      exact Entails.refl _)
    (by
      rw [payload_tc, kd_recv]
      show _ ⊢ recvPay X (peer (dE s.1) c) s
      unfold recvPay stg
      rw [stg_set (hkOf s)]
      refine Entails.of_eq (pointsTo_congr fun (i : S15x2x1024x128.Idx) hi => ?_)
      refine (stg_written (hkOf s) _ f i hi).trans ?_
      obtain ⟨h0, h1, h2⟩ := mem_spc.mp hi
      have e0 : i 0 = s.1 := Fin.ext h0
      have e1 : i 1 = s.2.1 := Fin.ext h1
      show _ = rowsAt X (i 1) (opIdx (i 0)) (peer (dE (i 0)) (peer (dE s.1) c)) _ _
      rw [e0, e1, peer_peer])) $$ [Hw Hf HO Ht1 Ht2]
  · isplitr; · iapply (rec_inv X K (c, some (some (s, false)))); iexact HR
    isplitr; · iapply (rec_inv X K (peer (dE s.1) c, some (some (s, true)))); iexact HR
    isplitl [Hw]; · iexact Hw
    isplitl [Hf]; · iexact Hf
    isplitl [HO]; · iexact HO
    isplitl [Ht1]; · iexact Ht1
    isplitr; · iapply (rec_reached X K (c, some (some (s, false)))); iexact HR
    isplitl [Ht2]; · iexact Ht2
    iapply (rec_reached X K (peer (dE s.1) c, some (some (s, true)))); iexact HR
  iintro ⟨Hc', HO⟩
  iapply Hk
  isplitr [HO]
  · isplitl [Hc']; · iexact Hc'
    isplitl [Ha1]; · iexact Ha1
    isplitl [Ha2]; · iexact Ha2
    iexact Hc
  · iexists W; iexact HO

set_option maxRecDepth 8000 in
theorem wait_spec (K : Dev nD × CK → ℕ) (c : Dev nD) (s : Slot) (S : Finset Slot) (E : Finset (Fin 5))
    (hS : ∀ s' ∈ S, 2 * opIdx s.1 + 3 * s.2.1.val < 2 * opIdx s'.1 + 3 * s'.2.1.val) :
    Tri c iprop(Rec X K ∗ Fl c s ∗ Ow c S E ∅)
      (waitH wM wW sM sW cc0_scratch2 cc0_scratch3 s.1.val s.2.1.val s.2.2.val (512 * s.2.2.val) (hkOf s))
      iprop(sendPay X c s ∗ Dn X c s ∗ Ow c S E ∅) := fun α k Q => by
  have hl : lvK (kd (.dma (recvS s))) = 2 * opIdx s.1 + 3 * s.2.1.val + 2 := by rw [kd_recv]; rfl
  have hl' : lvK (kd (.dma (sendS s))) = 0 := by rw [kd_send]; rfl
  have hb := opIdx_lt s.1
  have hg : s.2.1.val < 2 := s.2.1.isLt
  have hm1 : Rec X K ⊢ MayWait (c : Thread nD τ) (.dma (sendS s)) () (ow c S E ∅) :=
    (@rec_lev F _ X K).trans (mayWait (F := F) c (.dma (sendS s)) S E ∅ (fun s' hs' => by rw [hl']; omega) (fun i hi => by rw [hl']; decide) (fun i hi => absurd hi (Finset.notMem_empty i)))
  have hm2 : Rec X K ⊢ MayWait (c : Thread nD τ) (.dma (recvS s)) () (ow c S E ∅) :=
    (@rec_lev F _ X K).trans (mayWait (F := F) c (.dma (recvS s)) S E ∅ (fun s' hs' => by rw [hl]; have := hS s' hs'; omega) (fun i hi => by rw [hl]; omega) (fun i hi => absurd hi (Finset.notMem_empty i)))
  unfold waitH Fl Dn Ow
  simp only [bind_assoc]
  iintro ⟨#HR, ⟨Hc1, Ha1, Ha2, Hc2⟩, ⟨%W, HO⟩⟩ Hk
  iapply (Rounds.wp_wait_rest_token 𝒱₀ ER (sch X) (c : Thread nD τ) none (κ := K (c, some (some (s, false)))) (sm := .dma (sendS s))
      (wpE_waitDma2_eq 𝒱₀ (c : Thread nD τ) none Set.univ) (Set.mem_univ _) () (O := ow c S E ∅) (W := W) (R := 0) (m := 0) (T := ∅)
      (by rw [Nat.zero_add]; exact (expect_send X c s).symm)) $$ [Hc1 HO Ha1]
  · isplitr; · iapply (rec_inv X K (c, some (some (s, false)))); iexact HR
    isplitl [Hc1]; · iexact Hc1
    isplitl [HO]; · iexact HO
    isplitr
    · iapply hm1
      iexact HR
    iexact Ha1
  iintro ⟨HO, Ha1, -, Hp⟩
  ihave Hp1 := (Entails.of_eq (rest_send X c s)) $$ Hp
  iapply (Rounds.wp_wait_rest_token 𝒱₀ ER (sch X) (c : Thread nD τ) none (κ := K (c, some (some (s, true)))) (sm := .dma (recvS s))
      (wpE_waitDma2_eq 𝒱₀ (c : Thread nD τ) none Set.univ) (Set.mem_univ _) () (O := ow c S E ∅) (W := insert (SemLoc.dma (sendS s), ()) W) (R := 0) (m := 0) (T := ∅)
      (by rw [Nat.zero_add]; exact (expect_recv X c s).symm)) $$ [Hc2 HO Ha2]
  · isplitr; · iapply (rec_inv X K (c, some (some (s, true)))); iexact HR
    isplitl [Hc2]; · iexact Hc2
    isplitl [HO]; · iexact HO
    isplitr
    · iapply hm2
      iexact HR
    iexact Ha2
  iintro ⟨HO, Ha2, -, Hp⟩
  ihave Hp2 := (Entails.of_eq (rest_recv X c s)) $$ Hp
  imod (Rounds.cell_close ER (sch X) (Set.mem_univ (K (c, some (some (s, false))))) (fun h => h) (R := 0 + 1) (duties_later X (sendCell c s))) $$ [Ha1] with Hz1
  · isplitr; · iapply (rec_inv X K (c, some (some (s, false)))); iexact HR
    iexact Ha1
  imod (Rounds.cell_close ER (sch X) (Set.mem_univ (K (c, some (some (s, true))))) (fun h => h) (R := 0 + 1) (duties_later X (recvCell c s))) $$ [Ha2] with Hz2
  · isplitr; · iapply (rec_inv X K (c, some (some (s, true)))); iexact HR
    iexact Ha2
  iapply Hk
  isplitl [Hp1]; · iexact Hp1
  isplitl [Hz1 Hz2 Hp2]
  · isplitl [Hz1]; · iexact Hz1
    isplitl [Hz2] <;> iassumption
  iexists _; iexact HO

/-- The end of half `s`: its two waits, then keeping the smaller or the larger rows. -/
theorem recv_spec (K : Dev nD × CK → ℕ) (c : Dev nD) (s : Slot) (S : Finset Slot) (E : Finset (Fin 5))
    (hS : ∀ s' ∈ S, 2 * opIdx s.1 + 3 * s.2.1.val < 2 * opIdx s'.1 + 3 * s'.2.1.val) :
    Tri c iprop(Rec X K ∗ Fl c s ∗ Ow c S E ∅)
      (recvP wM wW sM sW cc0_scratch2 cc0_scratch3 allOk s.2.1.val s.2.1.isLt s.1.val s.1.isLt s.2.2.val s.2.2.isLt (kW (kE s.1)) (dW (dE s.1)) (v2W c))
      iprop(wk c s.2.1.val (512 * s.2.2.val) 512 (rowsAt X s.2.1 (opIdx s.1 + 1) c) ∗ Dn X c s ∗ Ow c S E ∅) := fun α k Q => by
  have e : rowsAt X s.2.1 (opIdx s.1 + 1) c = exA (kW (kE s.1)) (dW (dE s.1)) (v2W c) (rowsAt X s.2.1 (opIdx s.1) c) (rowsAt X s.2.1 (opIdx s.1) (peer (dE s.1) c)) := by
    rw [rowsAt, ops_opIdx]
  rw [e]
  unfold recvP
  simp only [bind_assoc]
  iintro H Hk
  iapply (wait_spec X K c s S E hS α _ Q) $$ H
  unfold Dn
  iintro ⟨Hw, ⟨Hz1, Hz2, Hp⟩, HO⟩
  unfold sendPay recvPay
  iapply (keep_spec c (hkOf s) (allOk.w512 s.2.1.val s.2.2.val s.2.1.isLt s.2.2.isLt) (kW (kE s.1)) (dW (dE s.1)) (v2W c) (stgAll X c)
    (rowsAt X s.2.1 (opIdx s.1) c) (rowsAt X s.2.1 (opIdx s.1) (peer (dE s.1) c)) (fun i hi => by
      obtain ⟨h0, h1, h2⟩ := mem_spc.mp hi
      have e0 : i 0 = s.1 := Fin.ext h0
      have e1 : i 1 = s.2.1 := Fin.ext h1
      show rowsAt X (i 1) (opIdx (i 0)) (peer (dE (i 0)) c) _ _ = _
      rw [e0, e1]) α k Q) $$ [Hw Hp]
  · isplitl [Hw] <;> iassumption
  iintro ⟨Hw, Hp⟩
  iapply Hk
  isplitl [Hw]; · iexact Hw
  isplitl [Hz1 Hz2 Hp]
  · isplitl [Hz1]; · iexact Hz1
    isplitl [Hz2] <;> iassumption
  iexact HO

end Cert.KernelIdeal.BS
-- ==== Proof.Path.lean ====
/- A device's way through the operations, from the first meeting to the last. -/
module

public import proofs.«01_k».proof.Proof.Proto

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S1024x256.Idx → Elt F .f32)

/-! ## A group's state -/

/-- A half's state with `u` operations started and `v` ended. -/
def sl (u v : ℕ) (c : Dev nD) (s : Slot) : sProp 𝕄 :=
  if opIdx s.1 < v then Dn X c s else if opIdx s.1 < u then Fl c s else Pre c s

theorem sl_dn {u v : ℕ} {c : Dev nD} {s : Slot} (h : opIdx s.1 < v) : sl X u v c s = Dn X c s := if_pos h
theorem sl_fl {u v : ℕ} {c : Dev nD} {s : Slot} (h : ¬ opIdx s.1 < v) (h' : opIdx s.1 < u) : sl X u v c s = Fl c s := (if_neg h).trans (if_pos h')
theorem sl_pre {u v : ℕ} {c : Dev nD} {s : Slot} (h : ¬ opIdx s.1 < v) (h' : ¬ opIdx s.1 < u) : sl X u v c s = Pre c s := (if_neg h).trans (if_neg h')

theorem sl_congr {u v u' v' : ℕ} {c : Dev nD} {s : Slot} (hv : opIdx s.1 < v ↔ opIdx s.1 < v') (hu : opIdx s.1 < u ↔ opIdx s.1 < u') :
    sl X u v c s = sl X u' v' c s := by
  unfold sl
  rw [if_congr hv rfl (if_congr hu rfl rfl)]

/-- The two halves of exchange `t` of group `g`. -/
def sl2 (u v : ℕ) (c : Dev nD) (g : Fin 2) (t : Fin 15) : sProp 𝕄 := iprop(sl X u v c (t, g, 0) ∗ sl X u v c (t, g, 1))

/-- All halves of group `g`. -/
def Slots (c : Dev nD) (g : Fin 2) (u v : ℕ) : sProp 𝕄 := bigSep Finset.univ fun t : Fin 15 => sl2 X u v c g t

theorem Slots_at (c : Dev nD) (g : Fin 2) (u v u' v' : ℕ) (t : Fin 15)
    (h : ∀ t', t' ≠ t → (opIdx t' < v ↔ opIdx t' < v') ∧ (opIdx t' < u ↔ opIdx t' < u')) :
    Slots X c g u v ⊢ iprop(sl2 X u v c g t ∗ (sl2 X u' v' c g t -∗ Slots X c g u' v')) := by
  unfold Slots
  rw [bigSep_univ_at _ t, bigSep_univ_at (fun t => sl2 X u' v' c g t) t]
  have e : bigSep (Finset.univ.erase t) (fun t' => sl2 X u v c g t') = bigSep (Finset.univ.erase t) (fun t' => sl2 X u' v' c g t') :=
    bigSep_congr fun t' ht' => by
      have h' := h t' (Finset.ne_of_mem_erase ht')
      unfold sl2
      rw [sl_congr X (s := (t', g, 0)) h'.1 h'.2, sl_congr X (s := (t', g, 1)) h'.1 h'.2]
  rw [e]
  iintro ⟨H1, H2⟩
  isplitl [H1]; · iexact H1
  iintro H
  isplitl [H]; · iexact H
  iexact H2

theorem Slots_same (c : Dev nD) (g : Fin 2) (u v u' v' : ℕ)
    (h : ∀ t', (opIdx t' < v ↔ opIdx t' < v') ∧ (opIdx t' < u ↔ opIdx t' < u')) : Slots X c g u v = Slots X c g u' v' := by
  unfold Slots
  refine bigSep_congr fun t' _ => ?_
  unfold sl2
  rw [sl_congr X (s := (t', g, 0)) (h t').1 (h t').2, sl_congr X (s := (t', g, 1)) (h t').1 (h t').2]

/-- Between operations, before operation `i` starts. -/
def Mid (c : Dev nD) (g : Fin 2) (i : ℕ) : sProp 𝕄 := iprop(wk c g.val 0 1024 (rowsAt X g i c) ∗ Slots X c g i i)

/-- What of the rows stays with the device while an operation is under way: an exchange has them all lent out. -/
def left (c : Dev nD) (g : Fin 2) (i : ℕ) : Option Op → sProp 𝕄
  | some (.ex _ _ _) => iprop(emp)
  | _ => wk c g.val 0 1024 (rowsAt X g i c)

/-- Operation `i` under way. -/
def Run (c : Dev nD) (g : Fin 2) (i : ℕ) : sProp 𝕄 := iprop(left X c g i ops[i]? ∗ Slots X c g (i + 1) i)

/-- The halves not yet sent when group `g` has started `u g` operations. -/
def uns (u : Fin 2 → ℕ) : Finset Slot := Finset.univ.filter fun s => u s.2.1 ≤ opIdx s.1
theorem mem_uns {u : Fin 2 → ℕ} {s : Slot} : s ∈ uns u ↔ u s.2.1 ≤ opIdx s.1 :=
  ⟨fun h => (Finset.mem_filter.mp h).2, fun h => Finset.mem_filter.mpr ⟨Finset.mem_univ _, h⟩⟩

theorem uns_ex {u : Fin 2 → ℕ} {g : Fin 2} {t : Fin 15} (hu : u g = opIdx t) :
    ((uns u).erase (t, g, 0)).erase (t, g, 1) = uns (Function.update u g (opIdx t + 1)) := by
  ext ⟨t', g', h'⟩
  rw [Finset.mem_erase, Finset.mem_erase, mem_uns, mem_uns]
  by_cases hg : g' = g
  · subst hg
    dsimp only
    rw [Function.update_self, hu]
    constructor
    · rintro ⟨n1, n0, hle⟩
      refine Nat.lt_of_le_of_ne hle fun e => ?_
      have := opIdx_inj _ _ e
      subst this
      match h' with
      | 0 => exact n0 rfl
      | 1 => exact n1 rfl
    · intro hlt
      refine ⟨fun e => ?_, fun e => ?_, by omega⟩ <;>
      · have : t' = t := congrArg (fun s : Slot => s.1) e
        subst this
        omega
  · dsimp only
    rw [Function.update_of_ne hg]
    constructor
    · exact fun h => h.2.2
    · exact fun h => ⟨fun e => hg (congrArg (fun s : Slot => s.2.1) e), fun e => hg (congrArg (fun s : Slot => s.2.1) e), h⟩

theorem uns_loc {u : Fin 2 → ℕ} {g : Fin 2} {i : ℕ} (hu : u g = i) (hn : ∀ t, opIdx t ≠ i) : uns u = uns (Function.update u g (i + 1)) := by
  ext ⟨t', g', h'⟩
  rw [mem_uns, mem_uns]
  by_cases hg : g' = g
  · subst hg
    dsimp only
    rw [Function.update_self, hu]
    have := hn t'
    omega
  · dsimp only
    rw [Function.update_of_ne hg]

/-! ## Starting and ending an operation -/

theorem start_spec (K : Dev nD × CK → ℕ) (c : Dev nD) (g : Fin 2) (hg : g.val < 2) (i : ℕ) (o : Option Op) (ho : OpAt i o) (u : Fin 2 → ℕ) (hu : u g = i) (E : Finset (Fin 5)) :
    Tri c iprop(Rec X K ∗ Mid X c g i ∗ Ow c (uns u) E ∅)
      (nextP wM wW sM sW cc0_scratch2 cc0_scratch3 allOk g.val hg c o)
      iprop((left X c g i o ∗ Slots X c g (i + 1) i) ∗ Ow c (uns (Function.update u g (i + 1))) E ∅) := by
  match o, ho with
  | some (.ex t K' d), ⟨h1, h2, h3⟩ =>
    subst h1 h2 h3
    intro α k Q
    have hx : ∀ t', t' ≠ t → (opIdx t' < opIdx t ↔ opIdx t' < opIdx t) ∧ (opIdx t' < opIdx t ↔ opIdx t' < opIdx t + 1) := fun t' ht' => by
      have : opIdx t' ≠ opIdx t := fun e => ht' (opIdx_inj _ _ e)
      omega
    have m0 : ((t, g, 0) : Slot) ∈ uns u := mem_uns.mpr (le_of_eq hu)
    have m1 : ((t, g, 1) : Slot) ∈ (uns u).erase (t, g, 0) := Finset.mem_erase.mpr ⟨fun e => absurd (congrArg (fun s : Slot => s.2.2) e) (by decide : ¬ (1 : Fin 2) = 0), mem_uns.mpr (le_of_eq hu)⟩
    show _ ⊢ iprop(_ -∗ wpD c (startP wM wW sM sW cc0_scratch2 cc0_scratch3 allOk g.val hg t.val t.isLt (dW (dE t)) (dW_mem (dE t)) c >>= k) Q)
    unfold startP Mid
    simp only [bind_assoc]
    iintro ⟨#HR, ⟨Hw, Hs⟩, HO⟩ Hk
    ihave Hw := (wk_halves c g.val (rowsAt X g (opIdx t) c)).1 $$ Hw
    icases Hw with ⟨Hw0, Hw1⟩
    ihave Hw0 := (Entails.of_eq (show wk c g.val (512 * 0) 512 (rowsAt X g (opIdx t) c) = sendPay X c (t, g, 0) from rfl)) $$ Hw0
    ihave Hw1 := (Entails.of_eq (show wk c g.val (512 * 1) 512 (rowsAt X g (opIdx t) c) = sendPay X c (t, g, 1) from rfl)) $$ Hw1
    ihave Hs := (Slots_at X c g (opIdx t) (opIdx t) (opIdx t + 1) (opIdx t) t hx) $$ Hs
    unfold sl2
    rw [sl_pre X (s := (t, g, 0)) (lt_irrefl _) (lt_irrefl _), sl_pre X (s := (t, g, 1)) (lt_irrefl _) (lt_irrefl _),
      sl_fl X (s := (t, g, 0)) (lt_irrefl _) (Nat.lt_succ_self _), sl_fl X (s := (t, g, 1)) (lt_irrefl _) (Nat.lt_succ_self _)]
    icases Hs with ⟨⟨Hp0, Hp1⟩, Hs⟩
    iapply (send_spec X K c (t, g, 0) (uns u) m0 E ∅ (allOk.pdev _ (dW_mem (dE t))) α _ Q) $$ [Hw0 Hp0 HO]
    · isplitr; · iexact HR
      isplitl [Hw0]; · iexact Hw0
      isplitl [Hp0] <;> iassumption
    iintro ⟨Hf0, HO⟩
    iapply (send_spec X K c (t, g, 1) ((uns u).erase (t, g, 0)) m1 E ∅ (allOk.pdev _ (dW_mem (dE t))) α _ Q) $$ [Hw1 Hp1 HO]
    · isplitr; · iexact HR
      isplitl [Hw1]; · iexact Hw1
      isplitl [Hp1] <;> iassumption
    rw [uns_ex hu]
    iintro ⟨Hf1, HO⟩
    iapply Hk
    isplitr [HO]
    · isplitr
      · unfold left; iempintro
      iapply Hs
      isplitl [Hf0] <;> iassumption
    · iexact HO
  | some (.loc K'), ho =>
    have e : Slots X c g i i = Slots X c g (i + 1) i := Slots_same X c g _ _ _ _ fun t' => by have := ho t'; omega
    rw [← uns_loc hu ho]
    unfold Mid
    rw [e]
    refine Tri.conseq ?_ (Tri.skip (P := iprop((left X c g i (some (.loc K')) ∗ Slots X c g (i + 1) i) ∗ Ow c (uns u) E ∅))) (Entails.refl _)
    iintro ⟨-, H1, H2⟩
    isplitl [H1]; · iexact H1
    iexact H2
  | none, ho =>
    have e : Slots X c g i i = Slots X c g (i + 1) i := Slots_same X c g _ _ _ _ fun t' => by have := ho t'; omega
    rw [← uns_loc hu ho]
    unfold Mid
    rw [e]
    refine Tri.conseq ?_ (Tri.skip (P := iprop((left X c g i none ∗ Slots X c g (i + 1) i) ∗ Ow c (uns u) E ∅))) (Entails.refl _)
    iintro ⟨-, H1, H2⟩
    isplitl [H1]; · iexact H1
    iexact H2

theorem op_spec (K : Dev nD × CK → ℕ) (c : Dev nD) (g : Fin 2) (hg : g.val < 2) (i : ℕ) (o : Option Op) (hoi : ops[i]? = o) (ho : OpAt i o) (S : Finset Slot)
    (hS : (∃ t, opIdx t = i) → ∀ s' ∈ S, 2 * i + 3 * g.val < 2 * opIdx s'.1 + 3 * s'.2.1.val) (E : Finset (Fin 5)) :
    Tri c iprop(Rec X K ∗ (left X c g i o ∗ Slots X c g (i + 1) i) ∗ Ow c S E ∅)
      (opP wM wW sM sW cc0_scratch2 cc0_scratch3 allOk g.val hg (v2W c) o)
      iprop(Mid X c g (i + 1) ∗ Ow c S E ∅) := by
  match o, ho with
  | some (.ex t K' d), ⟨h1, h2, h3⟩ =>
    subst h1 h2 h3
    intro α k Q
    have hx : ∀ t', t' ≠ t → (opIdx t' < opIdx t ↔ opIdx t' < opIdx t + 1) ∧ (opIdx t' < opIdx t + 1 ↔ opIdx t' < opIdx t + 1) := fun t' ht' => by
      have : opIdx t' ≠ opIdx t := fun e => ht' (opIdx_inj _ _ e)
      omega
    unfold opP Mid
    simp only [bind_assoc]
    iintro ⟨#HR, ⟨-, Hs⟩, HO⟩ Hk
    ihave Hs := (Slots_at X c g (opIdx t + 1) (opIdx t) (opIdx t + 1) (opIdx t + 1) t hx) $$ Hs
    unfold sl2
    rw [sl_fl X (s := (t, g, 0)) (lt_irrefl _) (Nat.lt_succ_self _), sl_fl X (s := (t, g, 1)) (lt_irrefl _) (Nat.lt_succ_self _),
      sl_dn X (s := (t, g, 0)) (Nat.lt_succ_self _), sl_dn X (s := (t, g, 1)) (Nat.lt_succ_self _)]
    icases Hs with ⟨⟨Hp0, Hp1⟩, Hs⟩
    iapply (recv_spec X K c (t, g, 0) S E (hS ⟨t, rfl⟩) α _ Q) $$ [Hp0 HO]
    · isplitr; · iexact HR
      isplitl [Hp0] <;> iassumption
    iintro ⟨Hw0, Hd0, HO⟩
    iapply (recv_spec X K c (t, g, 1) S E (hS ⟨t, rfl⟩) α _ Q) $$ [Hp1 HO]
    · isplitr; · iexact HR
      isplitl [Hp1] <;> iassumption
    iintro ⟨Hw1, Hd1, HO⟩
    iapply Hk
    isplitr [HO]
    · isplitl [Hw0 Hw1]
      · iapply (wk_halves c g.val (rowsAt X g (opIdx t + 1) c)).2
        isplitl [Hw0]; · iexact Hw0
        iexact Hw1
      iapply Hs
      isplitl [Hd0] <;> iassumption
    · iexact HO
  | some (.loc K'), ho =>
    have e : Slots X c g (i + 1) i = Slots X c g (i + 1) (i + 1) := Slots_same X c g _ _ _ _ fun t' => by have := ho t'; omega
    have er : rowsAt X g (i + 1) c = mergeA (kW K') (v2W c) (rowsAt X g i c) := by rw [rowsAt, hoi]
    unfold Mid left
    rw [e, er]
    refine Tri.conseq ?_ (Tri.frame iprop(Slots X c g (i + 1) (i + 1) ∗ Ow c S E ∅) (merge_spec c g.val hg (kW K') (v2W c) (rowsAt X g i c))) ?_
    · iintro ⟨-, ⟨H1, H2⟩, H3⟩
      isplitl [H1]; · iexact H1
      isplitl [H2] <;> iassumption
    · iintro ⟨H1, H2, H3⟩
      isplitr [H3]
      · isplitl [H1] <;> iassumption
      · iexact H3
  | none, ho =>
    have e : Slots X c g (i + 1) i = Slots X c g (i + 1) (i + 1) := Slots_same X c g _ _ _ _ fun t' => by have := ho t'; omega
    have er : rowsAt X g (i + 1) c = rowsAt X g i c := by rw [rowsAt, hoi]
    unfold Mid
    rw [e, er]
    refine Tri.conseq ?_ (Tri.skip (P := iprop((left X c g i none ∗ Slots X c g (i + 1) (i + 1)) ∗ Ow c S E ∅))) (Entails.refl _)
    iintro ⟨-, H1, H2⟩
    isplitl [H1]; · iexact H1
    iexact H2

/-- Step `i` of group `g`. -/
theorem step_spec (K : Dev nD × CK → ℕ) (c : Dev nD) (gi : Fin 2 × Fin 20) (u : Fin 2 → ℕ) (hu : u gi.1 = gi.2.val + 1) (E : Finset (Fin 5))
    (hS : (∃ t, opIdx t = gi.2.val) → ∀ s' ∈ uns u, 2 * gi.2.val + 3 * gi.1.val < 2 * opIdx s'.1 + 3 * s'.2.1.val) :
    Tri c iprop(Rec X K ∗ Run X c gi.1 gi.2.val ∗ Ow c (uns u) E ∅)
      (stepP wM wW sM sW cc0_scratch2 cc0_scratch3 allOk (v2W c) c gi)
      iprop(Run X c gi.1 (gi.2.val + 1) ∗ Ow c (uns (Function.update u gi.1 (gi.2.val + 2))) E ∅) := fun α k Q => by
  unfold stepP Run
  simp only [bind_assoc]
  iintro ⟨#HR, H1, HO⟩ Hk
  iapply (op_spec X K c gi.1 gi.1.isLt gi.2.val _ rfl (opAt _ (by have := gi.2.isLt; omega)) (uns u) hS E α _ Q) $$ [H1 HO]
  · isplitr; · iexact HR
    isplitl [H1] <;> iassumption
  iintro ⟨H1, HO⟩
  iapply (start_spec X K c gi.1 gi.1.isLt (gi.2.val + 1) _ (opAt _ (by have := gi.2.isLt; omega)) u hu E α _ Q) $$ [H1 HO]
  · isplitr; · iexact HR
    isplitl [H1] <;> iassumption
  iexact Hk

/-! ## The steps in order -/

/-- The steps lead from `i0`, `i1` operations ended to all twenty of each group, each wait below what is still owed. -/
def good : List (Fin 2 × Fin 20) → ℕ → ℕ → Bool
  | [], i0, i1 => decide (i0 = 20 ∧ i1 = 20)
  | gi :: l, i0, i1 => if gi.1 = 0 then decide (gi.2.val = i0 ∧ i0 ≤ i1 + 2) && good l (i0 + 1) i1 else decide (gi.2.val = i1 ∧ i1 < i0) && good l i0 (i1 + 1)

theorem good_path : good path 0 0 = true := by decide +kernel

theorem path_spec {α : Type} (K : Dev nD × CK → ℕ) (c : Dev nD) (E : Finset (Fin 5)) (l : List (Fin 2 × Fin 20)) (i0 i1 : ℕ) (h : good l i0 i1 = true)
    (k : Code F α) (Q : α → sProp 𝕄) :
    iprop(Rec X K ∗ Run X c 0 i0 ∗ Run X c 1 i1 ∗ Ow c (uns ![i0 + 1, i1 + 1]) E ∅)
      ⊢ iprop(((Run X c 0 20 ∗ Run X c 1 20 ∗ Ow c (uns ![20 + 1, 20 + 1]) E ∅) -∗ wpD c k Q)
        -∗ wpD c (seqP (l.map fun gi => stepP wM wW sM sW cc0_scratch2 cc0_scratch3 allOk (v2W c) c gi) k) Q) := by
  induction l generalizing i0 i1 with
  | nil =>
    obtain ⟨rfl, rfl⟩ := of_decide_eq_true h
    show _ ⊢ iprop(_ -∗ wpD c k Q)
    iintro ⟨-, H⟩ Hk
    iapply Hk
    iexact H
  | cons gi l ih =>
    obtain ⟨g, i⟩ := gi
    unfold good at h
    show _ ⊢ iprop(_ -∗ wpD c (stepP wM wW sM sW cc0_scratch2 cc0_scratch3 allOk (v2W c) c (g, i) >>= fun _ => seqP (l.map fun gi => stepP wM wW sM sW cc0_scratch2 cc0_scratch3 allOk (v2W c) c gi) k) Q)
    by_cases hg : g = 0
    · subst hg
      rw [if_pos rfl, Bool.and_eq_true] at h
      obtain ⟨hi, hle⟩ := of_decide_eq_true h.1
      have hi : i.val = i0 := hi
      subst hi
      have eu : Function.update (![i.val + 1, i1 + 1] : Fin 2 → ℕ) 0 (i.val + 2) = ![i.val + 1 + 1, i1 + 1] := by
        funext a; match a with
        | 0 => rfl
        | 1 => rfl
      iintro ⟨#HR, H0, H1, HO⟩ Hk
      iapply (step_spec X K c (0, i) ![i.val + 1, i1 + 1] rfl E (fun _ s' hs' => by
        have hm := mem_uns.mp hs'
        obtain ⟨t', g', h'⟩ := s'
        match g', hm with
        | 0, hm => have hm : i.val + 1 ≤ opIdx t' := hm; show 2 * i.val + 3 * 0 < 2 * opIdx t' + 3 * 0; omega
        | 1, hm => have hm : i1 + 1 ≤ opIdx t' := hm; show 2 * i.val + 3 * 0 < 2 * opIdx t' + 3 * 1; omega) α _ Q) $$ [H0 HO]
      · isplitr; · iexact HR
        isplitl [H0] <;> iassumption
      dsimp only
      rw [eu]
      iintro ⟨H0, HO⟩
      iapply (ih (i.val + 1) i1 h.2) $$ [H0 H1 HO]
      · isplitr; · iexact HR
        isplitl [H0]; · iexact H0
        isplitl [H1] <;> iassumption
      iexact Hk
    · have hg1 : g = 1 := by
        match g, hg with
        | 0, hg => exact absurd rfl hg
        | 1, _ => rfl
      subst hg1
      rw [if_neg hg, Bool.and_eq_true] at h
      obtain ⟨hi, hle⟩ := of_decide_eq_true h.1
      have hi : i.val = i1 := hi
      subst hi
      have eu : Function.update (![i0 + 1, i.val + 1] : Fin 2 → ℕ) 1 (i.val + 2) = ![i0 + 1, i.val + 1 + 1] := by
        funext a; match a with
        | 0 => rfl
        | 1 => rfl
      iintro ⟨#HR, H0, H1, HO⟩ Hk
      iapply (step_spec X K c (1, i) ![i0 + 1, i.val + 1] rfl E (fun _ s' hs' => by
        have hm := mem_uns.mp hs'
        obtain ⟨t', g', h'⟩ := s'
        match g', hm with
        | 0, hm => have hm : i0 + 1 ≤ opIdx t' := hm; show 2 * i.val + 3 * 1 < 2 * opIdx t' + 3 * 0; omega
        | 1, hm => have hm : i.val + 1 ≤ opIdx t' := hm; show 2 * i.val + 3 * 1 < 2 * opIdx t' + 3 * 1; omega) α _ Q) $$ [H1 HO]
      · isplitr; · iexact HR
        isplitl [H1] <;> iassumption
      dsimp only
      rw [eu]
      iintro ⟨H1, HO⟩
      iapply (ih i0 (i.val + 1) h.2) $$ [H0 H1 HO]
      · isplitr; · iexact HR
        isplitl [H0]; · iexact H0
        isplitl [H1] <;> iassumption
      iexact Hk

/-! ## A meeting -/

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The five partners signalled and their five signals taken: what each signal hands over goes out, and what the partners' hand over comes in. -/
theorem meet_spec (K : Dev nD × CK → ℕ) (c : Dev nD) (sm : Sem sig) (ck : CK) (hck : csem ck = .reg sm) (hd : dutOf (kd (.reg sm)) = Finset.univ) (ha : amtOf (kd (.reg sm)) = 1)
    (O0 O1 O2 O3 O4 O5 : CellTallies nD τ sig Unit) (h0 : O0 = O1 + tallyAt ((peer 0 c : Thread nD τ), .reg sm) () 1) (h1 : O1 = O2 + tallyAt ((peer 1 c : Thread nD τ), .reg sm) () 1)
    (h2 : O2 = O3 + tallyAt ((peer 2 c : Thread nD τ), .reg sm) () 1) (h3 : O3 = O4 + tallyAt ((peer 3 c : Thread nD τ), .reg sm) () 1)
    (h4 : O4 = O5 + tallyAt ((peer 4 c : Thread nD τ), .reg sm) () 1) (hw : Rec X K ⊢ MayWait (c : Thread nD τ) (.reg sm) () O5) :
    Tri c iprop(Rec X K ∗ (∃ W, owes (c : Thread nD τ) O0 W) ∗ (bigSep Finset.univ fun i : Fin 5 => dutyTok ER ((peer i c : Thread nD τ), .reg sm) 0 i)
        ∗ (bigSep Finset.univ fun i : Fin 5 => payOf X (peer i c) i (kd (.reg sm))) ∗ cred (tallyAt ((c : Thread nD τ), .reg sm) () 5) ∗ atPos ER ((c : Thread nD τ), .reg sm) 0 ∅ 0)
      (meetP allOk sm c)
      iprop((∃ W, owes (c : Thread nD τ) O5 W) ∗ semVal ((c : Thread nD τ), .reg sm) 0 ∗ bigSep Finset.univ fun i : Fin 5 => payOf X c i (kd (.reg sm))) := fun α k Q => by
  have hdut : ∀ (e : Dev nD) (d : Fin 5), d ∈ (sch X).duties ((e : Thread nD τ), .reg sm) 0 := fun e d => by rw [duties_tc, hd]; exact Finset.mem_univ _
  have hex : (sch X).expect ((c : Thread nD τ), .reg sm) 0 = 5 := by rw [expect_tc, hd, ha]; rfl
  have hcell : ∀ e : Dev nD, kcell (e, ck) = ((e : Thread nD τ), .reg sm) := fun e => by unfold kcell; dsimp only; rw [hck]
  have hinv : ∀ e : Dev nD, Rec X K ⊢ cellInv ER (sch X) (K (e, ck)) ((e : Thread nD τ), .reg sm) := fun e => by rw [← hcell]; exact rec_inv X K (e, ck)
  have hrch : ∀ e : Dev nD, Rec X K ⊢ reached ER ((e : Thread nD τ), .reg sm) 0 := fun e => by rw [← hcell]; exact rec_reached X K (e, ck)
  have hpay : ∀ (e : Dev nD) (d : Fin 5), payOf X e d (kd (.reg sm)) ⊢ (sch X).payload ((e : Thread nD τ), .reg sm) 0 d := fun e d => Entails.of_eq (payload_tc X e _ 0 d).symm
  unfold meetP
  simp only [semSignalWord, semWaitWord, Prog.lift, Prog.bind_op, Prog.bind_ret, Prog.pure_eq_ret]
  rw [bigSep_fin5, bigSep_fin5 fun i : Fin 5 => payOf X (peer i c) i (kd (.reg sm))]
  iintro ⟨#HR, ⟨%W, HO⟩, ⟨Ht0, Ht1, Ht2, Ht3, Ht4⟩, ⟨Hp0, Hp1, Hp2, Hp3, Hp4⟩, Hc, Ha⟩ Hk
  iapply (Rounds.wp_signal 𝒱₀ ER (sch X) (c : Thread nD τ) none (dst := (peer 0 c : Thread nD τ)) (κ := K (peer 0 c, ck)) (d := 0) (hdut _ _) ((amount_tc X _ 0 0).trans ha) () O1 h0) $$ [HO Ht0 Hp0]
  · isplitr; · iapply (hinv (peer 0 c)); iexact HR
    isplitl [HO]; · iexact HO
    isplitl [Ht0]; · iexact Ht0
    isplitl [Hp0]; · iapply (hpay (peer 0 c) 0); iexact Hp0
    iapply (hrch (peer 0 c)); iexact HR
  iintro HO
  iapply (Rounds.wp_signal 𝒱₀ ER (sch X) (c : Thread nD τ) none (dst := (peer 1 c : Thread nD τ)) (κ := K (peer 1 c, ck)) (d := 1) (hdut _ _) ((amount_tc X _ 0 1).trans ha) () O2 h1) $$ [HO Ht1 Hp1]
  · isplitr; · iapply (hinv (peer 1 c)); iexact HR
    isplitl [HO]; · iexact HO
    isplitl [Ht1]; · iexact Ht1
    isplitl [Hp1]; · iapply (hpay (peer 1 c) 1); iexact Hp1
    iapply (hrch (peer 1 c)); iexact HR
  iintro HO
  iapply (Rounds.wp_signal 𝒱₀ ER (sch X) (c : Thread nD τ) none (dst := (peer 2 c : Thread nD τ)) (κ := K (peer 2 c, ck)) (d := 2) (hdut _ _) ((amount_tc X _ 0 2).trans ha) () O3 h2) $$ [HO Ht2 Hp2]
  · isplitr; · iapply (hinv (peer 2 c)); iexact HR
    isplitl [HO]; · iexact HO
    isplitl [Ht2]; · iexact Ht2
    isplitl [Hp2]; · iapply (hpay (peer 2 c) 2); iexact Hp2
    iapply (hrch (peer 2 c)); iexact HR
  iintro HO
  iapply (Rounds.wp_signal 𝒱₀ ER (sch X) (c : Thread nD τ) none (dst := (peer 3 c : Thread nD τ)) (κ := K (peer 3 c, ck)) (d := 3) (hdut _ _) ((amount_tc X _ 0 3).trans ha) () O4 h3) $$ [HO Ht3 Hp3]
  · isplitr; · iapply (hinv (peer 3 c)); iexact HR
    isplitl [HO]; · iexact HO
    isplitl [Ht3]; · iexact Ht3
    isplitl [Hp3]; · iapply (hpay (peer 3 c) 3); iexact Hp3
    iapply (hrch (peer 3 c)); iexact HR
  iintro HO
  iapply (Rounds.wp_signal 𝒱₀ ER (sch X) (c : Thread nD τ) none (dst := (peer 4 c : Thread nD τ)) (κ := K (peer 4 c, ck)) (d := 4) (hdut _ _) ((amount_tc X _ 0 4).trans ha) () O5 h4) $$ [HO Ht4 Hp4]
  · isplitr; · iapply (hinv (peer 4 c)); iexact HR
    isplitl [HO]; · iexact HO
    isplitl [Ht4]; · iexact Ht4
    isplitl [Hp4]; · iapply (hpay (peer 4 c) 4); iexact Hp4
    iapply (hrch (peer 4 c)); iexact HR
  iintro HO
  iapply (Rounds.wp_wait_rest_token 𝒱₀ ER (sch X) (c : Thread nD τ) none (κ := K (c, ck)) (sm := .reg sm)
      (wpE_semWait_eq 𝒱₀ (c : Thread nD τ) none Set.univ) (Set.mem_univ _) () (O := O5) (W := W) (R := 0) (m := 0) (T := ∅) (by rw [hex]; decide)) $$ [Hc HO Ha]
  · isplitr; · iapply (hinv c); iexact HR
    isplitl [Hc]; · iexact Hc
    isplitl [HO]; · iexact HO
    isplitr; · iapply hw; iexact HR
    iexact Ha
  iintro ⟨HO, Ha, -, Hp⟩
  ihave Hp := (Entails.of_eq (show bigSep ((sch X).duties ((c : Thread nD τ), .reg sm) 0 \ ∅) (fun d => (sch X).payload ((c : Thread nD τ), .reg sm) 0 d)
      = bigSep Finset.univ fun i : Fin 5 => payOf X c i (kd (.reg sm)) by rw [Finset.sdiff_empty, duties_tc, hd]; rfl)) $$ Hp
  imod (Rounds.cell_close ER (sch X) (Set.mem_univ (K (c, ck))) (fun h => h) (R := 0 + 1) (duties_later X ((c : Thread nD τ), .reg sm))) $$ [Ha] with Hz
  · isplitr; · iapply (hinv c); iexact HR
    iexact Ha
  iapply Hk
  isplitl [HO]; · iexists _; iexact HO
  isplitl [Hz] <;> iassumption

end Cert.KernelIdeal.BS
-- ==== Proof.Tail.lean ====
module

public import proofs.«01_k».proof.Proof.Body
public import Idealize.ShloMosaic.Lib.Pipeline.Regions

@[expose] public section

noncomputable section

namespace Cert.KernelIdeal.BS

open Idealize.ShloMosaic Idealize.SL.Sem
open Facts₀ Facts

variable {F : FTy → Type} [FloatOps F] {α β : Type}

/-- A program followed by `k`: the sequencing, named so that it is told apart from the program's own. -/
def thenC (m : Code F β) (k : β → Code F α) : Code F α := m >>= k

/-! The pieces of the body again, each with what follows it as an argument. -/

section

variable (arg1 : Memref sig .tc .vmem S1024x256 .f32)
  (arg2 : Memref sig .tc .vmem S2x1024x128 .bf16) (harg2 : arg2.IsWhole)
  (arg3 : Memref sig .tc .vmem S15x2x1024x128 .bf16) (harg3 : arg3.IsWhole)
  (arg4 arg5 : DmaSems sig S15x2x2) (ex : Sems sig S_)

def ldC (g o c : Nat) (h : WIn g o c) (k : FVec F (sh2 c 128) .bf16 → Code F α) : Code F α :=
  .op (.load arg2 (Rect.unit (s := S2x1024x128) ![g, o, 0] (sh3 1 c 128).size h.inb).toLoadRect (View.loadsAt_vmem h.pos)) fun v =>
    k (shapeCast (sh2 c 128) v h.cast32)

def stC (g o c : Nat) (h : WIn g o c) (v : FVec F (sh2 c 128) .bf16) (k : Code F α) : Code F α :=
  .op (.load arg2 (Rect.unit (s := S2x1024x128) ![g, o, 0] (sh3 1 c 128).size h.inb).toLoadRect (View.loadsAt_vmem h.pos)) fun _ =>
    .op (.store arg2 (Rect.unit (s := S2x1024x128) ![g, o, 0] (sh3 1 c 128).size h.inb) (shapeCast (sh3 1 c 128) v h.cast23) Finset.univ
      (View.stores_vmem h.pos (harg2.storeExact_slice rfl _ h.packed) (fun _ => rfl)) (.inl rfl)) fun _ => k

def pairC (g oA oB c : Nat) (hA : WIn g oA c) (hB : WIn g oB c) (asc : BitVec 1) (k : Code F α) : Code F α :=
  ldC arg2 g oA c hA fun x => ldC arg2 g oB c hB fun y =>
    stC arg2 harg2 g oA c hA (Scalar.select asc (minimumf x y) (maximumf x y))
      (stC arg2 harg2 g oB c hB (Scalar.select asc (maximumf x y) (minimumf x y)) k)

def copyOutC (g o q : Nat) (h : WIn g o 256) (hx : XIn o q) (k : Code F α) : Code F α :=
  ldC arg2 g o 256 h fun v =>
    .op (.load arg1 (Rect.unit (s := S1024x256) ![o, q] S256x128.size hx.inb).toLoadRect (View.loadsAt_vmem h_S256x128)) fun _ =>
      .op (.store arg1 (Rect.unit (s := S1024x256) ![o, q] S256x128.size hx.inb) (extf .f32 v bitsLt_bf16_f32) Finset.univ
        (View.stores_vmem_bits_univ h_S256x128 rfl) (.inl rfl)) fun _ => k

def recvC (E : AllOk) (g : Nat) (hg : g < 2) (t : Nat) (ht : t < 15) (h : Nat) (hh : h < 2) (K d v2 : BitVec 32) (k : Code F α) : Code F α :=
  have hk := E.hk t g h ht hg hh
  .op (.waitDma2 (cellS arg4 t g h (512 * h) hk).sem (stgM arg3 t g h (512 * h) hk) (winM arg2 t g h (512 * h) hk) ((harg3.wordExact_slice rfl _ hk.stgw).reshape _ _) ((harg2.wordExact_slice rfl _ hk.winw).reshape _ _)) fun _ =>
  .op (.waitDma2 (cellS arg5 t g h (512 * h) hk).sem (winM arg2 t g h (512 * h) hk) (stgM arg3 t g h (512 * h) hk) ((harg2.wordExact_slice rfl _ hk.winw).reshape _ _) ((harg3.wordExact_slice rfl _ hk.stgw).reshape _ _)) fun _ =>
  ldC arg2 g (512 * h) 512 (E.w512 g h hg hh) fun x =>
  .op (.load arg3 (Rect.unit (s := S15x2x1024x128) ![t, g, 512 * h, 0] S1x1x512x128.size hk.stg).toLoadRect (View.loadsAt_vmem h_S1x1x512x128)) fun y =>
  stC arg2 harg2 g (512 * h) 512 (E.w512 g h hg hh)
    (Scalar.select (Scalar.xori (Scalar.xori (Scalar.cmpi .eq (Scalar.andi v2 K) 0#32) (Scalar.cmpi .eq (Scalar.andi v2 d) 0#32)) 1#1)
      (minimumf x (shapeCast S512x128 y shapeCasts_S1x1x512x128_S512x128)) (maximumf x (shapeCast S512x128 y shapeCasts_S1x1x512x128_S512x128))) k

def sendC (t g h o : Nat) (hk : HOk t g h o) (d : BitVec 32) (hd : ∀ d0, pdevN d d0 < nD) (d0 : Dev nD) (k : Code F α) : Code F α :=
  .op (.enqueueDma (winM arg2 t g h o hk) (.remote (Dev.tc (⟨pdevN d d0, hd d0⟩ : Dev nD)) (stgM arg3 t g h o hk) (.dma (cellS arg4 t g h o hk).sem))
    (.dma (cellS arg5 t g h o hk).sem) ((harg2.wordExact_slice rfl _ hk.winw).reshape _ _) ((harg3.wordExact_slice rfl _ hk.stgw).reshape _ _) ⟨⟨rfl, Or.inl rfl⟩, trivial⟩) fun _ => k

def mblkC (E : AllOk) (g : Nat) (hg : g < 2) (s : Nat) (hs : s < 4) (asc : BitVec 1) (rio : IVec S256x1 32) (k : Code F α) : Code F α :=
  ldC arg2 g (256 * s) 256 (E.w256 g s hg hs) fun x => stC arg2 harg2 g (256 * s) 256 (E.w256 g s hg hs) (mergeW E.mg asc rio x) k

def mpairC (E : AllOk) (g : Nat) (hg : g < 2) (s s' : Nat) (hs : s < 4) (hs' : s' < 4) (asc : BitVec 1) (k : Code F α) : Code F α :=
  pairC arg2 harg2 g (256 * s) (256 * s') 256 (E.w256 g s hg hs) (E.w256 g s' hg hs') asc k

def mergeC (E : AllOk) (g : Nat) (hg : g < 2) (asc : BitVec 1) (rio : IVec S256x1 32) (k : Code F α) : Code F α :=
  mpairC arg2 harg2 E g hg 0 2 (by decide) (by decide) asc <| mpairC arg2 harg2 E g hg 1 3 (by decide) (by decide) asc <|
  mpairC arg2 harg2 E g hg 0 1 (by decide) (by decide) asc <| mpairC arg2 harg2 E g hg 2 3 (by decide) (by decide) asc <|
  mblkC arg2 harg2 E g hg 0 (by decide) asc rio <| mblkC arg2 harg2 E g hg 1 (by decide) asc rio <|
  mblkC arg2 harg2 E g hg 2 (by decide) asc rio <| mblkC arg2 harg2 E g hg 3 (by decide) asc rio k

def nextC (E : AllOk) (g : Nat) (hg : g < 2) (d0 : Dev nD) (k : Code F α) : Option Op → Code F α
  | some (.ex t _ d) =>
    sendC arg2 harg2 arg3 harg3 arg4 arg5 t.val g 0 (512 * 0) (E.hk t.val g 0 t.isLt hg (by decide)) (dW d) (E.pdev _ (dW_mem d)) d0
      (sendC arg2 harg2 arg3 harg3 arg4 arg5 t.val g 1 (512 * 1) (E.hk t.val g 1 t.isLt hg (by decide)) (dW d) (E.pdev _ (dW_mem d)) d0 k)
  | _ => k

def opC (E : AllOk) (g : Nat) (hg : g < 2) (v2 : BitVec 32) (k : Code F α) : Option Op → Code F α
  | some (.ex t K d) =>
    recvC arg2 harg2 arg3 harg3 arg4 arg5 E g hg t.val t.isLt 0 (by decide) (kW K) (dW d) v2
      (recvC arg2 harg2 arg3 harg3 arg4 arg5 E g hg t.val t.isLt 1 (by decide) (kW K) (dW d) v2 k)
  | some (.loc K) => mergeC arg2 harg2 E g hg (Scalar.cmpi .eq (Scalar.andi v2 (kW K)) 0#32) (iota .tc S256x1 32 [0] iota_S256x1_d0_w32) k
  | none => k

def stepC (E : AllOk) (v2 : BitVec 32) (d0 : Dev nD) (gi : Fin 2 × Fin 20) (k : Code F α) : Code F α :=
  opC arg2 harg2 arg3 harg3 arg4 arg5 E gi.1.val gi.1.isLt v2
    (nextC arg2 harg2 arg3 harg3 arg4 arg5 E gi.1.val gi.1.isLt d0 k ops[gi.2.val + 1]?) ops[gi.2.val]?

def outC (E : AllOk) (g : Nat) (hg : g < 2) (k : Code F α) : Code F α :=
  copyOutC arg1 arg2 g (256 * 0) (128 * g) (E.w256 g 0 hg (by decide)) (E.x g 0 hg (by decide)) <|
  copyOutC arg1 arg2 g (256 * 1) (128 * g) (E.w256 g 1 hg (by decide)) (E.x g 1 hg (by decide)) <|
  copyOutC arg1 arg2 g (256 * 2) (128 * g) (E.w256 g 2 hg (by decide)) (E.x g 2 hg (by decide)) <|
  copyOutC arg1 arg2 g (256 * 3) (128 * g) (E.w256 g 3 hg (by decide)) (E.x g 3 hg (by decide)) k

def stepsC (E : AllOk) (v2 : BitVec 32) (d0 : Dev nD) : List (Fin 2 × Fin 20) → Code F α → Code F α
  | [], k => k
  | gi :: l, k => stepC arg2 harg2 arg3 harg3 arg4 arg5 E v2 d0 gi (stepsC E v2 d0 l k)

theorem stepC_eq (E : AllOk) (v2 : BitVec 32) (d0 : Dev nD) (gi : Fin 2 × Fin 20) (k : Code F α) :
    (stepP arg2 harg2 arg3 harg3 arg4 arg5 E v2 d0 gi >>= fun _ => k) = stepC arg2 harg2 arg3 harg3 arg4 arg5 E v2 d0 gi k := by
  unfold stepP stepC
  generalize ops[gi.2.val + 1]? = o2
  generalize ops[gi.2.val]? = o1
  rw [bind_assoc]
  have h2 : (nextP arg2 harg2 arg3 harg3 arg4 arg5 E gi.1.val gi.1.isLt d0 o2 >>= fun _ => k)
      = nextC arg2 harg2 arg3 harg3 arg4 arg5 E gi.1.val gi.1.isLt d0 k o2 := by
    match o2 with
    | some (.ex t K d) => refine Eq.trans ?_ rfl; chain_rfl
    | some (.loc K) => rfl
    | none => rfl
  rw [h2]
  generalize nextC arg2 harg2 arg3 harg3 arg4 arg5 E gi.1.val gi.1.isLt d0 k o2 = k'
  match o1 with
  | some (.ex t K d) => rfl
  | some (.loc K) => rfl
  | none => rfl

theorem stepsC_eq (E : AllOk) (v2 : BitVec 32) (d0 : Dev nD) (l : List (Fin 2 × Fin 20)) (k : Code F α) :
    seqP (l.map fun gi => stepP arg2 harg2 arg3 harg3 arg4 arg5 E v2 d0 gi) k = stepsC arg2 harg2 arg3 harg3 arg4 arg5 E v2 d0 l k := by
  induction l with
  | nil => rfl
  | cons gi l ih =>
    show (stepP arg2 harg2 arg3 harg3 arg4 arg5 E v2 d0 gi >>= fun _ => seqP (l.map _) k) = _
    rw [ih, stepC_eq]; rfl

theorem outC_eq (E : AllOk) (g : Nat) (hg : g < 2) (k : Code F α) :
    (outP arg1 arg2 E g hg >>= fun _ => k) = outC arg1 arg2 E g hg k := by chain_rfl

end

end Cert.KernelIdeal.BS
-- ==== Proof.BodyEq.lean ====
/- The kernel's body is the structured one. -/
module

public import proofs.«01_k».proof.Proof.Tail
public import Idealize.ShloMosaic.Lib.Pipeline.Regions

@[expose] public section

noncomputable section

namespace Cert.KernelIdeal.BS

open Idealize.ShloMosaic Idealize.SL.Sem
open Facts₀ Facts

variable {F : FTy → Type} [FloatOps F]

theorem bind_seqP {α β : Type} (xs : List (Code F PUnit)) (k : Code F α) (f : α → Code F β) :
    (seqP xs k >>= f) = seqP xs (k >>= f) := by
  induction xs with
  | nil => rfl
  | cons x xs ih => simp only [seqP, bind_assoc, ih]

theorem seqP_seqP {α : Type} (xs ys : List (Code F PUnit)) (k : Code F α) : seqP xs (seqP ys k) = seqP (xs ++ ys) k := by
  induction xs with
  | nil => rfl
  | cons x xs ih => simp only [seqP, List.cons_append, ih]

section

variable (arg0 : Memref sig .tc .vmem S1024x256 .f32) (harg0 : arg0.IsWhole)
  (arg1 : Memref sig .tc .vmem S1024x256 .f32) (harg1 : arg1.IsWhole)
  (arg2 : Memref sig .tc .vmem S2x1024x128 .bf16) (harg2 : arg2.IsWhole)
  (arg3 : Memref sig .tc .vmem S15x2x1024x128 .bf16) (harg3 : arg3.IsWhole)
  (arg4 arg5 : DmaSems sig S15x2x2) (ex : Sems sig S_)

theorem part43_eq : k0_part43 (F := F) arg0 harg0 arg1 harg1 arg2 harg2 arg3 harg3 arg4 arg5 ex = (do
    let d0 : Dev nD ← Prog.lift .deviceId
    have v2 : BitVec 32 := Scalar.remsi (Scalar.divsi (Dev.word d0) 1#32) 32#32
    have v3 : BitVec 32 := Scalar.muli v2 1024#32
    meetP allOk barS d0
    let v : Vec F S256x128 .f32 ← Prog.lift (.load arg0 (Rect.unit (s := S1024x256) ![256 * 0, 128 * 0] S256x128.size (allOk.x 0 0 (by decide) (by decide)).inb).toLoadRect (View.loadsAt_vmem h_S256x128))
    have v1 : FVec F S256x128 .f32 := shapeCast S256x128 v shapeCasts_S256x128_S256x128
    pure ⟨d0, v2, v3, truncf .bf16 v1 bitsLt_bf16_f32⟩) := by chain_rfl

theorem part44_eq (v3 : BitVec 32) (v22 : FVec F S256x128 .bf16) : k0_part44 (F := F) arg0 harg0 arg1 harg1 arg2 harg2 arg3 harg3 arg4 arg5 ex v22 = (do
    stW arg2 harg2 0 (256 * 0) 256 (allOk.w256 0 0 (by decide) (by decide)) v22
    copyIn arg0 arg2 harg2 0 (256 * 1) (128 * 0) (allOk.w256 0 1 (by decide) (by decide)) (allOk.x 0 1 (by decide) (by decide))
    copyIn arg0 arg2 harg2 0 (256 * 2) (128 * 0) (allOk.w256 0 2 (by decide) (by decide)) (allOk.x 0 2 (by decide) (by decide))
    copyIn arg0 arg2 harg2 0 (256 * 3) (128 * 0) (allOk.w256 0 3 (by decide) (by decide)) (allOk.x 0 3 (by decide) (by decide))
    seqP (lvs (F := F) arg2 harg2 0 (by decide) v3 0 3) (pure ⟨0#32, 4#32⟩)) := by chain_rfl

theorem part45_eq (v3 : BitVec 32) : k0_part45 (F := F) arg0 harg0 arg1 harg1 arg2 harg2 arg3 harg3 arg4 arg5 ex v3 0#32 4#32 = (seqP (lvs (F := F) arg2 harg2 0 (by decide) v3 3 10) (pure ⟨0#32, 4#32⟩)) := by chain_rfl

theorem part46_eq (v3 : BitVec 32) : k0_part46 (F := F) arg0 harg0 arg1 harg1 arg2 harg2 arg3 harg3 arg4 arg5 ex v3 0#32 4#32 = (seqP (lvs (F := F) arg2 harg2 0 (by decide) v3 13 10) (pure ⟨0#32, 32#32⟩)) := by chain_rfl

theorem part47_eq (v3 : BitVec 32) : k0_part47 (F := F) arg0 harg0 arg1 harg1 arg2 harg2 arg3 harg3 arg4 arg5 ex v3 0#32 32#32 = (seqP (lvs (F := F) arg2 harg2 0 (by decide) v3 23 10) (pure ⟨0#32, 4#32⟩)) := by chain_rfl

theorem part48_eq (v3 : BitVec 32) : k0_part48 (F := F) arg0 harg0 arg1 harg1 arg2 harg2 arg3 harg3 arg4 arg5 ex v3 0#32 4#32 = (seqP (lvs (F := F) arg2 harg2 0 (by decide) v3 33 10) (pure ⟨0#32, 4#32⟩)) := by chain_rfl

theorem part49_eq (v3 : BitVec 32) : k0_part49 (F := F) arg0 harg0 arg1 harg1 arg2 harg2 arg3 harg3 arg4 arg5 ex v3 0#32 4#32 = (seqP (lvs (F := F) arg2 harg2 0 (by decide) v3 43 10) (pure ⟨0#32, 4#32⟩)) := by chain_rfl

theorem part50_eq (d0 : Dev nD) (v2 v3 : BitVec 32) : k0_part50 (F := F) arg0 harg0 arg1 harg1 arg2 harg2 arg3 harg3 arg4 arg5 ex d0 v2 v3 0#32 4#32 = (seqP (lvs (F := F) arg2 harg2 0 (by decide) v3 53 2) (do
    sendH arg2 harg2 arg3 harg3 arg4 arg5 0 0 0 (512 * 0) (allOk.hk 0 0 0 (by decide) (by decide) (by decide)) 1#32 (allOk.pdev 1#32 (dW_mem 0)) d0
    pure ⟨Scalar.xori v2 1#32, Scalar.xori v2 1#32⟩)) := by chain_rfl

theorem part51_eq (d0 : Dev nD) (v3 : BitVec 32) : k0_part51 (F := F) arg0 harg0 arg1 harg1 arg2 harg2 arg3 harg3 arg4 arg5 ex d0 = (do
    sendH arg2 harg2 arg3 harg3 arg4 arg5 0 0 1 (512 * 1) (allOk.hk 0 0 1 (by decide) (by decide) (by decide)) 1#32 (allOk.pdev 1#32 (dW_mem 0)) d0
    copyIn arg0 arg2 harg2 1 (256 * 0) (128 * 1) (allOk.w256 1 0 (by decide) (by decide)) (allOk.x 1 0 (by decide) (by decide))
    copyIn arg0 arg2 harg2 1 (256 * 1) (128 * 1) (allOk.w256 1 1 (by decide) (by decide)) (allOk.x 1 1 (by decide) (by decide))
    copyIn arg0 arg2 harg2 1 (256 * 2) (128 * 1) (allOk.w256 1 2 (by decide) (by decide)) (allOk.x 1 2 (by decide) (by decide))
    copyIn arg0 arg2 harg2 1 (256 * 3) (128 * 1) (allOk.w256 1 3 (by decide) (by decide)) (allOk.x 1 3 (by decide) (by decide))
    seqP (lvs (F := F) arg2 harg2 1 (by decide) v3 0 1) (pure ⟨⟩)) := by chain_rfl

theorem part52_eq (v3 : BitVec 32) : k0_part52 (F := F) arg0 harg0 arg1 harg1 arg2 harg2 arg3 harg3 arg4 arg5 ex v3 = (seqP (lvs (F := F) arg2 harg2 1 (by decide) v3 1 10) (pure ⟨⟩)) := by chain_rfl

theorem part53_eq (v3 : BitVec 32) : k0_part53 (F := F) arg0 harg0 arg1 harg1 arg2 harg2 arg3 harg3 arg4 arg5 ex v3 = (seqP (lvs (F := F) arg2 harg2 1 (by decide) v3 11 10) (pure ⟨⟩)) := by chain_rfl

theorem part54_eq (v3 : BitVec 32) : k0_part54 (F := F) arg0 harg0 arg1 harg1 arg2 harg2 arg3 harg3 arg4 arg5 ex v3 = (seqP (lvs (F := F) arg2 harg2 1 (by decide) v3 21 10) (pure ⟨⟩)) := by chain_rfl

theorem part55_eq (v3 : BitVec 32) : k0_part55 (F := F) arg0 harg0 arg1 harg1 arg2 harg2 arg3 harg3 arg4 arg5 ex v3 = (seqP (lvs (F := F) arg2 harg2 1 (by decide) v3 31 10) (pure ⟨⟩)) := by chain_rfl

theorem part56_eq (v3 : BitVec 32) : k0_part56 (F := F) arg0 harg0 arg1 harg1 arg2 harg2 arg3 harg3 arg4 arg5 ex v3 = (seqP (lvs (F := F) arg2 harg2 1 (by decide) v3 41 10) (pure ⟨⟩)) := by chain_rfl

theorem part57_eq (d0 : Dev nD) (v2 v3 : BitVec 32) : k0_part57 (F := F) arg0 harg0 arg1 harg1 arg2 harg2 arg3 harg3 arg4 arg5 ex d0 v2 v3 = (seqP (lvs (F := F) arg2 harg2 1 (by decide) v3 51 4) (do
    sendH arg2 harg2 arg3 harg3 arg4 arg5 0 1 0 (512 * 0) (allOk.hk 0 1 0 (by decide) (by decide) (by decide)) 1#32 (allOk.pdev 1#32 (dW_mem 0)) d0
    pure ⟨Scalar.xori v2 1#32, Scalar.xori v2 1#32⟩)) := by chain_rfl

/-- The steps of a local sort from `i` on. -/
def rest (g : Nat) (hg : g < 2) (v3 : BitVec 32) (i : Nat) : List (Code F PUnit) :=
  (levels.drop i).map fun ls => levelP arg2 harg2 g hg v3 ls.1 ls.2

theorem rest_split (g : Nat) (hg : g < 2) (v3 : BitVec 32) (i n : Nat) {α : Type} (k : Code F α) :
    seqP (rest arg2 harg2 g hg v3 i) k = seqP (lvs arg2 harg2 g hg v3 i n) (seqP (rest arg2 harg2 g hg v3 (i + n)) k) := by
  rw [seqP_seqP]; unfold rest lvs
  rw [← List.map_append, ← List.drop_drop, List.take_append_drop]

set_option maxHeartbeats 4000000 in
/-- The kernel's body is the structured one: the two are the same operations in the same order. -/
theorem cc0_body_eq : cc0_body (F := F) arg0 harg0 arg1 harg1 arg2 harg2 arg3 harg3 arg4 arg5 ex
      = bodyP arg0 arg1 arg2 harg2 arg3 harg3 arg4 arg5 ex allOk := by
  unfold cc0_body k0_part324 k0_part320 bodyP groupP
  simp only [bind_assoc, pure_bind, part43_eq]
  refine congrArg (bind (Prog.lift TpuEff.deviceId)) (funext fun d0 => ?_)
  generalize hv : Scalar.muli (Scalar.remsi (Scalar.divsi d0.word 1#32) 32#32) 1024#32 = v3
  have hr (g : Nat) (hg : g < 2) : (levels.map fun ls => levelP (F := F) arg2 harg2 g hg v3 ls.1 ls.2) = rest arg2 harg2 g hg v3 0 := rfl
  have h55 (g : Nat) (hg : g < 2) : rest (F := F) arg2 harg2 g hg v3 55 = [] := rfl
  rw [hr, hr]
  simp only [part44_eq (v3 := v3), part51_eq (v3 := v3), bind_assoc, pure_bind, part45_eq, part46_eq, part47_eq, part48_eq, part49_eq, part50_eq,
    part52_eq, part53_eq, part54_eq, part55_eq, part56_eq, part57_eq, bind_seqP, inP, copyIn]
  refine congrArg (bind _) (funext fun _ => ?_)
  iterate 4
    refine congrArg (bind _) (funext fun _ => ?_)
    refine congrArg (bind _) (funext fun _ => ?_)
  rw [rest_split _ _ _ _ _ 0 3, rest_split _ _ _ _ _ 3 10, rest_split _ _ _ _ _ 13 10, rest_split _ _ _ _ _ 23 10, rest_split _ _ _ _ _ 33 10,
    rest_split _ _ _ _ _ 43 10, rest_split _ _ _ _ _ 53 2, h55]
  iterate 7 refine congrArg (seqP _) ?_
  simp only [startP, seqP, bind_assoc]
  iterate 2 refine congrArg (bind _) (funext fun _ => ?_)
  iterate 4
    refine congrArg (bind _) (funext fun _ => ?_)
    refine congrArg (bind _) (funext fun _ => ?_)
  rw [rest_split _ _ _ _ _ 0 1, rest_split _ _ _ _ _ 1 10, rest_split _ _ _ _ _ 11 10, rest_split _ _ _ _ _ 21 10, rest_split _ _ _ _ _ 31 10,
    rest_split _ _ _ _ _ 41 10, rest_split _ _ _ _ _ 51 4, h55]
  iterate 7 refine congrArg (seqP _) ?_
  simp only [seqP, bind_assoc]
  refine congrArg (bind _) (funext fun _ => ?_)
  rw [stepsC_eq, outC_eq, outC_eq]
  chain_rfl

end

end Cert.KernelIdeal.BS
-- ==== Proof.Whole.lean ====
/- A device's whole body: from its columns, its tickets and its buffers to its sorted rows. -/
module

public import proofs.«01_k».proof.Proof.Path
public import proofs.«01_k».proof.Proof.BodyEq

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S1024x256.Idx → Elt F .f32)

/-! ## The operand's and the result's columns -/

theorem xblk_apply (Y : S1024x256.Idx → Elt F .f32) {o q : ℕ} (hx : XIn o q) (i : (sh2 256 128).Idx) (j : S1024x256.Idx)
    (h0 : (j 0).val = o + (i 0).val) (h1 : (j 1).val = q + (i 1).val) : xblk Y hx i = FloatOps.truncf .bf16 bitsLt_bf16_f32 (Y j) := by
  unfold xblk
  refine congrArg (FloatOps.truncf .bf16 bitsLt_bf16_f32) ?_
  refine (shapeCast_apply _ shapeCasts_S256x128_S256x128 i i rfl).trans ?_
  refine congrArg Y (funext fun b => Fin.ext ?_)
  match b with
  | 0 => show o + 1 * (i 0).val = (j 0).val; omega
  | 1 => show q + 1 * (i 1).val = (j 1).val; omega

/-- The rows a group's copies in leave. -/
theorem inA_apply (g : Fin 2) (hg : g.val < 2) (Y : S1024x256.Idx → Elt F .f32) (a : Arr F) (r l : ℕ) (hr : r < 1024) (hl : l < 128) :
    inA g.val hg Y a r l = inG g Y r l := by
  have hg' : g.val < 2 := g.isLt
  have key : ∀ (s : ℕ) (hx : XIn (256 * s) (128 * g.val)) (b : Arr F), upd b (256 * s) 256 (xblk Y hx) r l
      = if 256 * s ≤ r ∧ r < 256 * s + 256 then inG g Y r l else b r l := fun s hx b => by
    unfold upd
    by_cases h : 256 * s ≤ r ∧ r < 256 * s + 256
    · rw [dif_pos ⟨h, hl⟩, if_pos h]
      refine xblk_apply Y hx _ _ ?_ ?_
      · show r % 1024 = 256 * s + (r - 256 * s); omega
      · show (128 * g.val + l % 128) % 256 = 128 * g.val + l; omega
    · rw [dif_neg (fun h' => h h'.1), if_neg h]
  unfold inA
  rw [key, key, key, key]
  by_cases h3 : 256 * 3 ≤ r ∧ r < 256 * 3 + 256
  · rw [if_pos h3]
  by_cases h2 : 256 * 2 ≤ r ∧ r < 256 * 2 + 256
  · rw [if_neg h3, if_pos h2]
  by_cases h1 : 256 * 1 ≤ r ∧ r < 256 * 1 + 256
  · rw [if_neg h3, if_neg h2, if_pos h1]
  rw [if_neg h3, if_neg h2, if_neg h1, if_pos (by omega)]

theorem wk_congr (c : Dev nD) (g : ℕ) {a b : Arr F} (h : ∀ r l, r < 1024 → l < 128 → a r l = b r l) : wk c g 0 1024 a = wk c g 0 1024 b :=
  pointsTo_congr fun (i : S2x1024x128.Idx) hi => h _ _ (by have := (mem_rows.mp hi).2.2; omega) (i 2).isLt

theorem outW_apply (O : S1024x256.Idx → Elt F .f32) {o q : ℕ} (hx : XIn o q) (v : FVec F (sh2 256 128) .bf16) (i : S1024x256.Idx) :
    outW O hx v i = if h : (o ≤ (i 0).val ∧ (i 0).val < o + 256) ∧ q ≤ (i 1).val ∧ (i 1).val < q + 128 then
      FloatOps.extf .f32 bitsLt_bf16_f32 (v (fun | 0 => ⟨(i 0).val - o, by show _ < 256; omega⟩ | 1 => ⟨(i 1).val - q, by show _ < 128; omega⟩)) else O i := by
  unfold outW
  by_cases h : (o ≤ (i 0).val ∧ (i 0).val < o + 256) ∧ q ≤ (i 1).val ∧ (i 1).val < q + 128
  · rw [dif_pos h]
    let y : S256x128.Idx := fun | 0 => ⟨(i 0).val - o, by show _ < 256; omega⟩ | 1 => ⟨(i 1).val - q, by show _ < 128; omega⟩
    have hy : ((oM : Memref sig .tc .vmem S1024x256 .f32).access (Rect.unit (s := S1024x256) ![o, q] S256x128.size hx.inb)).emb y = i :=
      funext fun b => Fin.ext (match b with
        | 0 => by show o + 1 * ((i 0).val - o) = (i 0).val; omega
        | 1 => by show q + 1 * ((i 1).val - q) = (i 1).val; omega)
    exact (congrArg _ hy.symm).trans (View.write_emb_of_mem _ _ (Finset.mem_univ y))
  · rw [dif_neg h]
    refine (View.write_of_not_mem _ _ _ ?_)
    rw [View.setOn_univ]
    intro hm
    have hm := Finset.mem_of_subset (le_of_eq (View.set_slice_whole cc0_stg1_0 _)) hm
    have hu := Rect.mem_set_unit.mp hm
    exact h ⟨hu 0, hu 1⟩

/-- The result's columns on device `c`. -/
def outF (c : Dev nD) : S1024x256.Idx → Elt F .f32 := fun i =>
  FloatOps.extf .f32 bitsLt_bf16_f32 (rowsAt X ⟨(i 1).val / 128, by have : (i 1).val < 256 := (i 1).isLt; omega⟩ 20 c (i 0).val ((i 1).val % 128))

theorem outA_apply (g : ℕ) (hg : g < 2) (a : Arr F) (O : S1024x256.Idx → Elt F .f32) (i : S1024x256.Idx) :
    outA g hg a O i = if (i 1).val / 128 = g then FloatOps.extf .f32 bitsLt_bf16_f32 (a (i 0).val ((i 1).val % 128)) else O i := by
  have hi0 : (i 0).val < 1024 := (i 0).isLt
  have hi1 : (i 1).val < 256 := (i 1).isLt
  have key : ∀ (s : ℕ) (hx : XIn (256 * s) (128 * g)) (P : S1024x256.Idx → Elt F .f32), outW P hx (blk a (256 * s) 256) i
      = if (256 * s ≤ (i 0).val ∧ (i 0).val < 256 * s + 256) ∧ (i 1).val / 128 = g then FloatOps.extf .f32 bitsLt_bf16_f32 (a (i 0).val ((i 1).val % 128)) else P i := fun s hx P => by
    rw [outW_apply]
    by_cases h : (256 * s ≤ (i 0).val ∧ (i 0).val < 256 * s + 256) ∧ (i 1).val / 128 = g
    · rw [if_pos h, dif_pos ⟨h.1, by omega⟩]
      refine congrArg (FloatOps.extf .f32 bitsLt_bf16_f32) ?_
      show a (256 * s + ((i 0).val - 256 * s)) ((i 1).val - 128 * g) = _
      congr 1 <;> omega
    · rw [if_neg h, dif_neg (fun h' => h ⟨h'.1, by omega⟩)]
  unfold outA
  rw [key, key, key, key]
  by_cases hG : (i 1).val / 128 = g
  · rw [if_pos hG]
    simp only [hG, and_true]
    by_cases h3 : 256 * 3 ≤ (i 0).val ∧ (i 0).val < 256 * 3 + 256
    · rw [if_pos h3]
    by_cases h2 : 256 * 2 ≤ (i 0).val ∧ (i 0).val < 256 * 2 + 256
    · rw [if_neg h3, if_pos h2]
    by_cases h1 : 256 * 1 ≤ (i 0).val ∧ (i 0).val < 256 * 1 + 256
    · rw [if_neg h3, if_neg h2, if_pos h1]
    rw [if_neg h3, if_neg h2, if_neg h1, if_pos (by omega)]
  · rw [if_neg hG, if_neg (fun h => hG h.2), if_neg (fun h => hG h.2), if_neg (fun h => hG h.2), if_neg (fun h => hG h.2)]

theorem out_all (c : Dev nD) (h0 : 0 < 2) (h1 : 1 < 2) (O : S1024x256.Idx → Elt F .f32) :
    outA 1 h1 (rowsAt X 1 20 c) (outA 0 h0 (rowsAt X 0 20 c) O) = outF X c := by
  funext i
  have hi1 : (i 1).val < 256 := (i 1).isLt
  rw [outA_apply, outA_apply]
  unfold outF
  by_cases h : (i 1).val / 128 = 1
  · rw [if_pos h]
    have : (⟨(i 1).val / 128, by omega⟩ : Fin 2) = 1 := Fin.ext h
    rw [this]
  · have h' : (i 1).val / 128 = 0 := by omega
    rw [if_neg h, if_pos h']
    have : (⟨(i 1).val / 128, by omega⟩ : Fin 2) = 0 := Fin.ext h'
    rw [this]

/-! ## A group's first part -/

theorem local_spec {α : Type} (c : Dev nD) (g : Fin 2) (hg : g.val < 2) (a : Arr F) (k : Code F α) (Q : α → sProp 𝕄) :
    wk c g.val 0 1024 a ⊢ iprop((wk c g.val 0 1024 (localA (v3W c) a) -∗ wpD c k Q)
      -∗ wpD c (seqP (levels.map fun ls => levelP wM wW g.val hg (v3W c) ls.1 ls.2) k) Q) := by
  have h : ∀ (ls : Fin 10 × Fin 10) (a : Arr F), Tri c (wk c g.val 0 1024 a) (levelP wM wW g.val hg (v3W c) ls.1 ls.2) (wk c g.val 0 1024 (levelA (v3W c) ls.1 ls.2 a)) :=
    fun ls a => level_spec c g.val hg (v3W c) ls.1 ls.2 a
  unfold localA
  generalize levels = l
  have h2 := seqP_spec (σ := Arr F) (ι := Fin 10 × Fin 10) (fun a => wk c g.val 0 1024 a) (fun ls a => levelA (v3W c) ls.1 ls.2 a) (fun ls => levelP wM wW g.val hg (v3W c) ls.1 ls.2)
    h l a k Q
  exact h2

theorem group_spec (K : Dev nD × CK → ℕ) (c : Dev nD) (g : Fin 2) (hg : g.val < 2) (a : Arr F) (u : Fin 2 → ℕ) (hu : u g = 0) (E : Finset (Fin 5)) :
    Tri c iprop(Rec X K ∗ xin c (X c) ∗ wk c g.val 0 1024 a ∗ Slots X c g 0 0 ∗ Ow c (uns u) E ∅)
      (groupP xM wM wW sM sW cc0_scratch2 cc0_scratch3 allOk g.val hg (v3W c) c)
      iprop(xin c (X c) ∗ Run X c g 0 ∗ Ow c (uns (Function.update u g 1)) E ∅) := fun α k Q => by
  unfold groupP
  simp only [bind_assoc]
  iintro ⟨#HR, Hx, Hw, Hs, HO⟩ Hk
  iapply (in_spec c g.val hg (X c) a α _ Q) $$ [Hx Hw]
  · isplitl [Hw] <;> iassumption
  rw [wk_congr c g.val (fun r l hr hl => inA_apply g hg (X c) a r l hr hl)]
  iintro ⟨Hw, Hx⟩
  rw [bind_seqP]
  iapply (local_spec c g hg (inG g (X c)) _ Q) $$ Hw
  iintro Hw
  iapply (start_spec X K c g hg 0 ops[0]? (opAt 0 (by decide)) u hu E α k Q) $$ [Hw Hs HO]
  · isplitr; · iexact HR
    isplitl [Hw Hs]
    · unfold Mid
      isplitl [Hw]; · iexact Hw
      iexact Hs
    · iexact HO
  unfold Run
  iintro ⟨H1, HO⟩
  iapply Hk
  isplitl [Hx]; · iexact Hx
  isplitl [H1] <;> iassumption

/-! ## All halves at once -/

theorem slots_all (Φ : Slot → sProp 𝕄) :
    bigSep Finset.univ Φ = iprop((bigSep Finset.univ fun t : Fin 15 => iprop(Φ (t, 0, 0) ∗ Φ (t, 0, 1))) ∗ (bigSep Finset.univ fun t : Fin 15 => iprop(Φ (t, 1, 0) ∗ Φ (t, 1, 1)))) := by
  have h2 : ∀ Ψ : Fin 2 → sProp 𝕄, bigSep Finset.univ Ψ = iprop(Ψ 0 ∗ Ψ 1) := fun Ψ => bigSep_univ_eq_bigSepL [0, 1] (by decide) (by decide) Ψ
  rw [← bigSep_sep', bigSep_univ_prod]
  refine bigSep_congr fun t _ => ?_
  rw [bigSep_univ_prod, h2, h2, h2]

theorem slots_pre (c : Dev nD) : (bigSep Finset.univ fun s : Slot => Pre (F := F) c s) = iprop(Slots X c 0 0 0 ∗ Slots X c 1 0 0) := by
  rw [slots_all]
  unfold Slots sl2
  have e : ∀ s, sl X 0 0 c s = Pre c s := fun s => sl_pre X (Nat.not_lt_zero _) (Nat.not_lt_zero _)
  simp only [e]

theorem slots_dn (c : Dev nD) : (bigSep Finset.univ fun s : Slot => Dn X c s) = iprop(Slots X c 0 21 20 ∗ Slots X c 1 21 20) := by
  rw [slots_all]
  unfold Slots sl2
  have e : ∀ s : Slot, sl X 21 20 c s = Dn X c s := fun s => sl_dn X (by have := opIdx_lt s.1; omega)
  simp only [e]

/-- What a device holds of a half apart from the partner's rows of the staging buffer. -/
def PreA (c : Dev nD) (s : Slot) : sProp 𝕄 :=
  iprop(dutyTok ER (sendCell c s) 0 0 ∗ dutyTok ER (recvCell (peer (dE s.1) c) s) 0 0
    ∗ atPos ER (sendCell c s) 0 ∅ 0 ∗ atPos ER (recvCell c s) 0 ∅ 0 ∗ cred (tallyAt (recvCell c s) () N))

/-- Some contents of the half's rows of device `c`'s staging buffer. -/
def stgS (c : Dev nD) (s : Slot) : sProp 𝕄 := iprop(∃ f, stg c s.1.val s.2.1.val s.2.2.val f)

theorem one_of (Φ : Fin 5 → sProp 𝕄) (i : Fin 5) : (bigSep Finset.univ fun j : Fin 5 => if j = i then Φ j else iprop(emp)) = Φ i := by
  refine (bigSep_filter Finset.univ (fun j => j = i) Φ).symm.trans ?_
  rw [Finset.filter_eq', if_pos (Finset.mem_univ _), bigSep_singleton]

/-- The five signals of the first meeting hand over a device's own staging rows, each to the partner that fills it. -/
theorem bar_out (c : Dev nD) : (bigSep Finset.univ fun s : Slot => stgS (F := F) c s) = bigSep Finset.univ fun i : Fin 5 => payOf X (peer i c) i (kd (.reg barS)) := by
  rw [kd_bar]
  show _ = bigSep Finset.univ fun i : Fin 5 => barPay (peer i c) i
  unfold barPay
  rw [bigSep_univ_comm]
  refine bigSep_congr fun s _ => ?_
  have e : (bigSep Finset.univ fun i : Fin 5 => if dE s.1 = i then iprop(∃ f, stg (F := F) (peer i (peer i c)) s.1.val s.2.1.val s.2.2.val f) else iprop(emp))
      = bigSep Finset.univ fun i : Fin 5 => if i = dE s.1 then stgS (F := F) c s else iprop(emp) :=
    bigSep_congr fun i _ => by rw [peer_peer]; exact if_congr eq_comm rfl rfl
  rw [e, one_of (fun _ => stgS (F := F) c s)]

theorem bar_in (c : Dev nD) : (bigSep Finset.univ fun i : Fin 5 => payOf X c i (kd (.reg barS))) = bigSep Finset.univ fun s : Slot => stgS (F := F) (peer (dE s.1) c) s := by
  rw [kd_bar]
  show (bigSep Finset.univ fun i : Fin 5 => barPay (F := F) c i) = _
  unfold barPay
  rw [bigSep_univ_comm]
  refine bigSep_congr fun s _ => ?_
  have e : (bigSep Finset.univ fun i : Fin 5 => if dE s.1 = i then iprop(∃ f, stg (F := F) (peer i c) s.1.val s.2.1.val s.2.2.val f) else iprop(emp))
      = bigSep Finset.univ fun i : Fin 5 => if i = dE s.1 then stgS (F := F) (peer i c) s else iprop(emp) :=
    bigSep_congr fun i _ => if_congr eq_comm rfl rfl
  rw [e, one_of (fun i => stgS (F := F) (peer i c) s)]

theorem pre_one (c : Dev nD) (s : Slot) : iprop(PreA (F := F) c s ∗ stgS (F := F) (peer (dE s.1) c) s) ⊢ Pre (F := F) c s := by
  unfold PreA Pre stgS
  iintro ⟨⟨H1, H2, H3, H4, H5⟩, H6⟩
  isplitl [H1]; · iexact H1
  isplitl [H2]; · iexact H2
  isplitl [H6]; · iexact H6
  isplitl [H3]; · iexact H3
  isplitl [H4] <;> iassumption

theorem pre_all (c : Dev nD) : iprop((bigSep Finset.univ fun s : Slot => PreA (F := F) c s) ∗ bigSep Finset.univ fun s : Slot => stgS (F := F) (peer (dE s.1) c) s)
    ⊢ bigSep Finset.univ fun s : Slot => Pre (F := F) c s := by
  rw [← bigSep_sep']
  exact bigSep_mono fun s _ => pre_one c s

/-! ## The whole body -/

/-- What a device holds of the cells: its signals to come, its places, and its credit. -/
def Tk (c : Dev nD) : sProp 𝕄 :=
  iprop((bigSep Finset.univ fun i : Fin 5 => dutyTok ER (barCell (peer i c)) 0 i) ∗ (bigSep Finset.univ fun i : Fin 5 => dutyTok ER (exitCell (peer i c)) 0 i)
    ∗ atPos ER (barCell c) 0 ∅ 0 ∗ atPos ER (exitCell c) 0 ∅ 0 ∗ cred (tallyAt (barCell c) () 5) ∗ cred (tallyAt (exitCell c) () 5)
    ∗ bigSep Finset.univ fun s : Slot => PreA c s)

theorem body_spec (K : Dev nD × CK → ℕ) (c : Dev nD) (a0 a1 : Arr F) (O : S1024x256.Idx → Elt F .f32) (Q : PUnit → sProp 𝕄) :
    iprop(Rec X K ∗ Tk c ∗ xin c (X c) ∗ oout c O ∗ wk c 0 0 1024 a0 ∗ wk c 1 0 1024 a1 ∗ (bigSep Finset.univ fun s : Slot => stgS c s) ∗ Ow c Finset.univ Finset.univ Finset.univ)
      ⊢ iprop(((xin c (X c) ∗ oout c (outF X c) ∗ wk c 0 0 1024 (rowsAt X 0 20 c) ∗ wk c 1 0 1024 (rowsAt X 1 20 c) ∗ (bigSep Finset.univ fun s : Slot => Dn X c s)
          ∗ semVal (barCell c) 0 ∗ semVal (exitCell c) 0 ∗ ∃ W, owes (c : Thread nD τ) 0 W) -∗ Q ⟨⟩)
        -∗ wpD c (bodyP xM oM wM wW sM sW cc0_scratch2 cc0_scratch3 cc0_scoped0 allOk) Q) := by
  have hmb : Rec X K ⊢ MayWait (c : Thread nD τ) (.reg barS) () (ow c Finset.univ Finset.univ ∅) := (@rec_lev F _ X K).trans
    (mayWait (F := F) c (.reg barS) _ _ _ (fun s _ => by rw [kd_bar]; show 1 < _; omega) (fun i _ => by rw [kd_bar]; decide) (fun i hi => absurd hi (Finset.notMem_empty i)))
  have hme : Rec X K ⊢ MayWait (c : Thread nD τ) (.reg exS) () (ow c ∅ ∅ ∅) := (@rec_lev F _ X K).trans
    (mayWait (F := F) c (.reg exS) _ _ _ (fun s hs => absurd hs (Finset.notMem_empty s)) (fun i hi => absurd hi (Finset.notMem_empty i)) (fun i hi => absurd hi (Finset.notMem_empty i)))
  have hbar := meet_spec X K c barS none rfl (by rw [kd_bar]; rfl) (by rw [kd_bar]; rfl) _ _ _ _ _ _
    (ow_bar c Finset.univ Finset.univ (B := Finset.univ) (i := 0) (by decide)) (ow_bar c Finset.univ Finset.univ (i := 1) (by decide)) (ow_bar c Finset.univ Finset.univ (i := 2) (by decide))
    (ow_bar c Finset.univ Finset.univ (i := 3) (by decide)) (ow_bar c Finset.univ Finset.univ (i := 4) (by decide)) hmb
  have hexit := meet_spec X K c exS (some none) rfl (by rw [kd_exit]; rfl) (by rw [kd_exit]; rfl) _ _ _ _ _ _
    (ow_exit c ∅ (E := Finset.univ) (i := 0) (by decide) ∅) (ow_exit c ∅ (i := 1) (by decide) ∅) (ow_exit c ∅ (i := 2) (by decide) ∅)
    (ow_exit c ∅ (i := 3) (by decide) ∅) (ow_exit c ∅ (i := 4) (by decide) ∅) hme
  have hz : ((((((Finset.univ : Finset (Fin 5)).erase 0).erase 1).erase 2).erase 3).erase 4) = ∅ := by decide
  rw [hz] at hbar hexit
  have hu0 : (Finset.univ : Finset Slot) = uns ![0, 0] := by
    ext ⟨t, g, h⟩
    refine ⟨fun _ => mem_uns.mpr ?_, fun _ => Finset.mem_univ _⟩
    match g with
    | 0 => exact Nat.zero_le _
    | 1 => exact Nat.zero_le _
  have hu1 : uns ![20 + 1, 20 + 1] = ∅ := by
    refine Finset.eq_empty_of_forall_notMem fun s hs => ?_
    obtain ⟨t, g, h⟩ := s
    have hm := mem_uns.mp hs
    have hl := opIdx_lt t
    match g, hm with
    | 0, hm => have hm : 21 ≤ opIdx t := hm; omega
    | 1, hm => have hm : 21 ≤ opIdx t := hm; omega
  have e0 : Function.update (![0, 0] : Fin 2 → ℕ) 0 1 = ![1, 0] := by
    funext a; match a with
    | 0 => rfl
    | 1 => rfl
  have e1 : Function.update (![1, 0] : Fin 2 → ℕ) 1 1 = ![0 + 1, 0 + 1] := by
    funext a; match a with
    | 0 => rfl
    | 1 => rfl
  have h02 : (0 : ℕ) < 2 := by decide
  have h12 : (1 : ℕ) < 2 := by decide
  have hl0 : left X c 0 20 ops[20]? = wk c 0 0 1024 (rowsAt X 0 20 c) := rfl
  have hl1 : left X c 1 20 ops[20]? = wk c 1 0 1024 (rowsAt X 1 20 c) := rfl
  have hpe : (iprop(emp) : sProp 𝕄) ⊢ bigSep Finset.univ fun i : Fin 5 => payOf X (peer i c) i (kd (.reg exS)) := by
    rw [bigSep_fin5, kd_exit]
    show iprop(emp) ⊢ iprop(emp ∗ emp ∗ emp ∗ emp ∗ emp)
    iintro -
    isplitr; · iempintro
    isplitr; · iempintro
    isplitr; · iempintro
    isplitr <;> iempintro
  unfold bodyP Tk
  rw [show Ow (F := F) c Finset.univ Finset.univ Finset.univ = iprop(∃ W, owes (c : Thread nD τ) (ow c Finset.univ Finset.univ Finset.univ) W) from rfl]
  simp only [Prog.lift, Prog.bind_op, Prog.bind_ret, Prog.pure_eq_ret, wp_deviceId]
  iintro ⟨#HR, ⟨Htb, Hte, Hab, Hae, Hcb, Hce, Hp⟩, Hx, Ho, Hw0, Hw1, Hs, HO⟩ Hk
  ihave Hs := (Entails.of_eq (bar_out X c)) $$ Hs
  iapply (hbar PUnit _ Q) $$ [HO Htb Hs Hcb Hab]
  · isplitr; · iexact HR
    isplitl [HO]; · iexact HO
    isplitl [Htb]; · iexact Htb
    isplitl [Hs]; · iexact Hs
    isplitl [Hcb] <;> iassumption
  iintro ⟨HO, Hzb, Hs⟩
  ihave Hs := (Entails.of_eq (bar_in X c)) $$ Hs
  ihave Hp := (pre_all c) $$ [Hp Hs]
  · isplitl [Hp] <;> iassumption
  ihave Hp := (Entails.of_eq (slots_pre X c)) $$ Hp
  icases Hp with ⟨Hs0, Hs1⟩
  ihave HO := (Entails.of_eq (show iprop(∃ W, owes (c : Thread nD τ) (ow c Finset.univ Finset.univ ∅) W) = Ow (F := F) c (uns ![0, 0]) Finset.univ ∅ by rw [← hu0]; rfl)) $$ HO
  iapply (group_spec X K c 0 (by decide) a0 ![0, 0] rfl Finset.univ PUnit _ Q) $$ [Hx Hw0 Hs0 HO]
  · isplitr; · iexact HR
    isplitl [Hx]; · iexact Hx
    isplitl [Hw0]; · iexact Hw0
    isplitl [Hs0] <;> iassumption
  rw [e0]
  iintro ⟨Hx, Hr0, HO⟩
  iapply (group_spec X K c 1 (by decide) a1 ![1, 0] rfl Finset.univ PUnit _ Q) $$ [Hx Hw1 Hs1 HO]
  · isplitr; · iexact HR
    isplitl [Hx]; · iexact Hx
    isplitl [Hw1]; · iexact Hw1
    isplitl [Hs1] <;> iassumption
  rw [e1]
  iintro ⟨Hx, Hr1, HO⟩
  iapply (path_spec X K c Finset.univ path 0 0 good_path _ Q) $$ [Hr0 Hr1 HO]
  · isplitr; · iexact HR
    isplitl [Hr0]; · iexact Hr0
    isplitl [Hr1] <;> iassumption
  unfold Run
  rw [hl0, hl1, hu1]
  iintro ⟨⟨Hw0, Hs0⟩, ⟨Hw1, Hs1⟩, HO⟩
  iapply (out_spec c 0 h02 O (rowsAt X 0 20 c) PUnit _ Q) $$ [Hw0 Ho]
  · isplitl [Hw0]; · iexact Hw0
    iexact Ho
  iintro ⟨Hw0, Ho⟩
  iapply (out_spec c 1 h12 _ (rowsAt X 1 20 c) PUnit _ Q) $$ [Hw1 Ho]
  · isplitl [Hw1]; · iexact Hw1
    iexact Ho
  iintro ⟨Hw1, Ho⟩
  rw [out_all X c]
  ihave Hd := (Entails.of_eq (slots_dn X c).symm) $$ [Hs0 Hs1]
  · isplitl [Hs0] <;> iassumption
  have hbp : (meetP (F := F) allOk (cc0_scoped0 : Sems sig S_).sem c) = (meetP (F := F) allOk exS c >>= fun _ => Prog.ret ⟨⟩) := by
    rw [show (fun _ : PUnit => (Prog.ret ⟨⟩ : Code F PUnit)) = Pure.pure from rfl, bind_pure]; rfl
  rw [hbp]
  ihave HO := (Entails.of_eq (show Ow (F := F) c ∅ Finset.univ ∅ = iprop(∃ W, owes (c : Thread nD τ) (ow c ∅ Finset.univ ∅) W) from rfl)) $$ HO
  iapply (hexit PUnit _ Q) $$ [HO Hte Hce Hae]
  · isplitr; · iexact HR
    isplitl [HO]; · iexact HO
    isplitl [Hte]; · iexact Hte
    isplitr
    · iapply hpe; iempintro
    isplitl [Hce] <;> iassumption
  iintro ⟨HO, Hze, -⟩
  unfold wpD
  rw [wp_ret]
  imodintro
  iapply Hk
  isplitl [Hx]; · iexact Hx
  isplitl [Ho]; · iexact Ho
  isplitl [Hw0]; · iexact Hw0
  isplitl [Hw1]; · iexact Hw1
  isplitl [Hd]; · iexact Hd
  isplitl [Hzb]; · iexact Hzb
  isplitl [Hze]; · iexact Hze
  rw [← ow_zero c]
  iexact HO

end Cert.KernelIdeal.BS
-- ==== Proof.Deal.lean ====
/- What the launch deals the devices: buffers in pieces, semaphores' tickets, and credit. -/
module

public import proofs.«01_k».proof.Proof.Whole
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S1024x256.Idx → Elt F .f32)

/-! ## The buffers in pieces -/

/-- The work buffer is the two groups' rows. -/
theorem work_split (c : Dev nD) (f : S2x1024x128.Idx → Elt F .bf16) :
    (((c : Thread nD τ).loc cc0_scratch0) ↦{fullShare} f : sProp 𝕄) ⊢ iprop(∃ a0 a1 : Arr F, wk c 0 0 1024 a0 ∗ wk c 1 0 1024 a1) := by
  have e : (Finset.univ : Finset S2x1024x128.Idx) = rows 0 0 1024 ∪ rows 1 0 1024 := by
    ext i
    have h0 : (i 0).val < 2 := (i 0).isLt
    have h1 : (i 1).val < 1024 := (i 1).isLt
    rw [Finset.mem_union, mem_rows, mem_rows]
    exact ⟨fun _ => by omega, fun _ => Finset.mem_univ _⟩
  have d : Disjoint (rows 0 0 1024) (rows 1 0 1024) := Finset.disjoint_left.mpr fun i h1 h2 => by
    rw [mem_rows] at h1 h2
    omega
  have hp (g : Fin 2) : (((c : Thread nD τ).loc cc0_scratch0) ↦[rows g.val 0 1024]{fullShare} f : sProp 𝕄)
      = wk c g.val 0 1024 (fun r l => f (fun | 0 => g | 1 => ⟨r % 1024, Nat.mod_lt _ (by decide)⟩ | 2 => ⟨l % 128, Nat.mod_lt _ (by decide)⟩)) :=
    pointsTo_congr fun (i : S2x1024x128.Idx) hi => by
      have h0 := (mem_rows.mp hi).1
      have h1 : (i 1).val < 1024 := (i 1).isLt
      have h2 : (i 2).val < 128 := (i 2).isLt
      refine congrArg f (funext fun b => Fin.ext ?_)
      match b with
      | 0 => exact h0
      | 1 => exact (Nat.mod_eq_of_lt h1).symm
      | 2 => exact (Nat.mod_eq_of_lt h2).symm
  have hu : (((c : Thread nD τ).loc cc0_scratch0) ↦{fullShare} f : sProp 𝕄)
      ⊢ iprop((((c : Thread nD τ).loc cc0_scratch0) ↦[rows (0 : Fin 2).val 0 1024]{fullShare} f) ∗ (((c : Thread nD τ).loc cc0_scratch0) ↦[rows (1 : Fin 2).val 0 1024]{fullShare} f)) := by
    rw [show (Finset.univ : Finset (Idx ((c : Thread nD τ).loc cc0_scratch0))) = rows 0 0 1024 ∪ rows 1 0 1024 from e]
    exact (pointsTo_union d).1
  refine hu.trans ?_
  rw [hp 0, hp 1]
  iintro ⟨H1, H2⟩
  iexists _, _
  isplitl [H1]; · iexact H1
  iexact H2

theorem work_join (c : Dev nD) (a0 a1 : Arr F) :
    iprop(wk c 0 0 1024 a0 ∗ wk c 1 0 1024 a1) ⊢ (iprop(∃ f : Buf (Elt F) ((c : Thread nD τ).loc cc0_scratch0), ((c : Thread nD τ).loc cc0_scratch0) ↦{fullShare} f) : sProp 𝕄) := by
  have e : (Finset.univ : Finset S2x1024x128.Idx) = rows 0 0 1024 ∪ rows 1 0 1024 := by
    ext i
    have h0 : (i 0).val < 2 := (i 0).isLt
    have h1 : (i 1).val < 1024 := (i 1).isLt
    rw [Finset.mem_union, mem_rows, mem_rows]
    exact ⟨fun _ => by omega, fun _ => Finset.mem_univ _⟩
  have d : Disjoint (rows 0 0 1024) (rows 1 0 1024) := Finset.disjoint_left.mpr fun i h1 h2 => by
    rw [mem_rows] at h1 h2
    omega
  unfold wk
  iintro H
  ihave H := (pointsTo_join d) $$ H
  iexists _
  rw [show (Finset.univ : Finset (Idx ((c : Thread nD τ).loc cc0_scratch0))) = rows 0 0 1024 ∪ rows 1 0 1024 from e]
  iexact H

theorem spc_cover (i : S15x2x1024x128.Idx) : ∃ s : Slot, i ∈ spc s.1.val s.2.1.val s.2.2.val := by
  have h2 : (i 2).val < 1024 := (i 2).isLt
  refine ⟨(i 0, i 1, ⟨(i 2).val / 512, by omega⟩), mem_spc.mpr ⟨rfl, rfl, ?_⟩⟩
  show 512 * ((i 2).val / 512) ≤ _ ∧ _ < 512 * ((i 2).val / 512) + 512
  omega
theorem spc_disjoint : ∀ s ∈ (Finset.univ : Finset Slot), ∀ s' ∈ (Finset.univ : Finset Slot), s ≠ s' → Disjoint (spc s.1.val s.2.1.val s.2.2.val) (spc s'.1.val s'.2.1.val s'.2.2.val) :=
  fun s _ s' _ hne => Finset.disjoint_left.mpr fun i h1 h2 => by
    rw [mem_spc] at h1 h2
    exact hne (Prod.ext (Fin.ext (by omega)) (Prod.ext (Fin.ext (by omega)) (Fin.ext (by omega))))

/-- The staging buffer is its sixty pieces. -/
theorem stg_whole (c : Dev nD) (f : S15x2x1024x128.Idx → Elt F .bf16) :
    (((c : Thread nD τ).loc cc0_scratch1) ↦{fullShare} f : sProp 𝕄) = bigSep Finset.univ fun s : Slot => stg c s.1.val s.2.1.val s.2.2.val f := by
  refine Eq.trans ?_ (pointsTo_biUnion (ℓ := (c : Thread nD τ).loc cc0_scratch1) (q := fullShare) (f := f) Finset.univ (fun s : Slot => spc s.1.val s.2.1.val s.2.2.val) spc_disjoint)
  refine congrArg (fun K => (((c : Thread nD τ).loc cc0_scratch1) ↦[K]{fullShare} f : sProp 𝕄)) ?_
  refine Finset.ext fun i => ⟨fun _ => ?_, fun _ => Finset.mem_univ i⟩
  obtain ⟨s, hs⟩ := spc_cover i
  exact Finset.mem_biUnion.mpr ⟨s, Finset.mem_univ s, hs⟩

theorem stg_one (c : Dev nD) (f : S15x2x1024x128.Idx → Elt F .bf16) (s : Slot) : stg c s.1.val s.2.1.val s.2.2.val f ⊢ stgS (F := F) c s := by
  unfold stgS
  iintro H
  iexists f; iexact H
theorem stg_split (c : Dev nD) (f : S15x2x1024x128.Idx → Elt F .bf16) :
    (((c : Thread nD τ).loc cc0_scratch1) ↦{fullShare} f : sProp 𝕄) ⊢ bigSep Finset.univ fun s : Slot => stgS (F := F) c s := by
  rw [stg_whole]
  exact bigSep_mono fun s _ => stg_one c f s

/-! ## A device's semaphores -/

theorem bigSep_opt {α : Type} [Fintype α] [DecidableEq α] (Φ : Option α → sProp 𝕄) : bigSep Finset.univ Φ = iprop(Φ none ∗ bigSep Finset.univ fun a => Φ (some a)) := by
  rw [bigSep_univ_at Φ none]
  congr 1
  rw [show (Finset.univ : Finset (Option α)).erase none = (Finset.univ : Finset α).map Function.Embedding.some from ?_]
  · exact bigSep_map _
  · ext o
    cases o <;> simp

theorem own_all (Φ : Option (Slot × Bool) → sProp 𝕄) :
    bigSep Finset.univ Φ = iprop(Φ none ∗ (bigSep Finset.univ fun s : Slot => Φ (some (s, false))) ∗ bigSep Finset.univ fun s : Slot => Φ (some (s, true))) := by
  rw [bigSep_opt, bigSep_univ_prod, ← bigSep_sep']
  congr 1
  exact bigSep_congr fun s _ => bigSep_univ_eq_bigSepL [false, true] (by decide) (by decide) _

theorem ck_all (Φ : CK → sProp 𝕄) :
    bigSep Finset.univ Φ = iprop(Φ none ∗ Φ (some none) ∗ (bigSep Finset.univ fun s : Slot => Φ (some (some (s, false)))) ∗ bigSep Finset.univ fun s : Slot => Φ (some (some (s, true)))) := by
  rw [← own_all fun o => Φ (some o)]
  exact bigSep_opt (α := Option (Slot × Bool)) Φ

def ckKd : CK → Kd
  | none => .bar
  | some none => .exit
  | some (some (s, false)) => .send s
  | some (some (s, true)) => .recv s
theorem kd_csem : ∀ k : CK, kd (csem k) = ckKd k
  | none => kd_bar
  | some none => kd_exit
  | some (some (s, false)) => kd_send s
  | some (some (s, true)) => kd_recv s
theorem ckKd_inj : Function.Injective ckKd
  | none, none, _ => rfl
  | some none, some none, _ => rfl
  | some (some (s, false)), some (some (s', false)), h => by have : s = s' := by injection h
                                                             rw [this]
  | some (some (s, true)), some (some (s', true)), h => by have : s = s' := by injection h
                                                           rw [this]
  | none, some none, h => by cases h
  | none, some (some (_, false)), h => by cases h
  | none, some (some (_, true)), h => by cases h
  | some none, none, h => by cases h
  | some none, some (some (_, false)), h => by cases h
  | some none, some (some (_, true)), h => by cases h
  | some (some (_, false)), none, h => by cases h
  | some (some (_, false)), some none, h => by cases h
  | some (some (_, false)), some (some (_, true)), h => by cases h
  | some (some (_, true)), none, h => by cases h
  | some (some (_, true)), some none, h => by cases h
  | some (some (_, true)), some (some (_, false)), h => by cases h
theorem csem_inj : Function.Injective csem := fun k k' h => ckKd_inj (by rw [← kd_csem, ← kd_csem, h])
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_inj⟩

def tokOf (x : (Dev nD × CK) × Fin 5) : GSem nD τ sig × ℕ × Fin 5 := (kcell x.1, 0, x.2)
theorem tokOf_inj : Function.Injective tokOf := by
  rintro ⟨ck, i⟩ ⟨ck', i'⟩ h
  have h1 : ck = ck' := kcell_inj (congrArg Prod.fst h)
  have h2 : i = i' := congrArg (fun x : GSem nD τ sig × ℕ × Fin 5 => x.2.2) h
  rw [h1, h2]
def allToks : Finset (GSem nD τ sig × ℕ × Fin 5) := Finset.univ.map ⟨tokOf, tokOf_inj⟩

/-- The tokens of device `c`'s own semaphores. -/
def toks (c : Dev nD) : sProp 𝕄 := bigSep Finset.univ fun k : CK => bigSep Finset.univ fun i : Fin 5 => dutyTok ER (kcell (c, k)) 0 i

def G (c : Dev nD) : sProp 𝕄 :=
  iprop((bigSep Finset.univ fun k : CK => roundState ER (sch X) (kcell (c, k)) 0)
    ∗ (bigSep Finset.univ fun k : CK => iprop(atPos ER (kcell (c, k)) 0 ∅ 0 ∗ reached ER (kcell (c, k)) 0)) ∗ toks c)

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (sch X) allCells allToks) $$ HX with ⟨Hst, Hr, Hat, Htok⟩
  imodintro
  ihave Hst' := (Entails.of_eq (hX fun g => roundState ER (sch X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem send_scoped : ∀ s : Slot, (SemLoc.dma (sendS s) : SemLoc sig).isScoped .tc = true := by decide +kernel
theorem recv_scoped : ∀ s : Slot, (SemLoc.dma (recvS s) : SemLoc sig).isScoped .tc = true := by decide +kernel
theorem ownSemFacts : Pipeline.OwnSemFacts cfg0.spec osem where
  isScoped
    | none => by decide
    | some (s, false) => send_scoped s
    | some (s, true) => recv_scoped s
  inj := fun a b h => Option.some_injective _ (csem_inj (show csem (some a) = csem (some b) from h))
  disj := fun k w s h => by
    have h1 : ckKd (some k) = kd (.dma ((cfg0.spec w).sem s)) := by rw [← kd_csem]; exact congrArg kd h
    have h2 : kd (.dma ((cfg0.spec w).sem s)) = .other := by
      match w, s with
      | 0, s => rw [show s = (0 : Fin 1) from Subsingleton.elim _ _]; rfl
      | 1, s => rw [show s = (0 : Fin 1) from Subsingleton.elim _ _]; rfl
    rw [h2] at h1
    match k, h1 with
    | none, h1 => cases h1
    | some (s, false), h1 => cases h1
    | some (s, true), h1 => cases h1

theorem unscoped_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscoped_eq]
  exact (bigSep_opt (α := Option (Slot × Bool)) fun k => semVal (kcell (c, k)) 0).symm

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : CK => iprop(∃ κ : ℕ, cellInv ER (sch X) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (kcell (c, k)) 0) ∗ bigSep Finset.univ fun k : CK => roundState ER (sch X) (kcell (c, k)) 0)
      ⊢ (|={Set.univ}=> bigSep Finset.univ fun k : CK => iprop(∃ κ : ℕ, cellInv ER (sch X) κ (kcell (c, k))) : sProp 𝕄) from by
        rw [← bigSep_sep']
        exact (bigSep_mono fun k _ => (Rounds.body_intro ER (sch X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the partners -/

/-- The tokens of the duties device `c` pays. -/
def payToks (c : Dev nD) : sProp 𝕄 :=
  iprop((bigSep Finset.univ fun i : Fin 5 => dutyTok ER (barCell (peer i c)) 0 i) ∗ (bigSep Finset.univ fun i : Fin 5 => dutyTok ER (exitCell (peer i c)) 0 i)
    ∗ (bigSep Finset.univ fun s : Slot => dutyTok ER (sendCell c s) 0 0) ∗ bigSep Finset.univ fun s : Slot => dutyTok ER (recvCell (peer (dE s.1) c) s) 0 0)

theorem dealt (cell : Dev nD → GSem nD τ sig) :
    (bigSep Finset.univ fun c : Dev nD => bigSep Finset.univ fun i : Fin 5 => (dutyTok ER (cell c) 0 i : sProp 𝕄))
      = bigSep Finset.univ fun c : Dev nD => bigSep Finset.univ fun i : Fin 5 => dutyTok ER (cell (peer i c)) 0 i := by
  rw [bigSep_univ_comm, bigSep_univ_comm (fun c i => (dutyTok ER (cell (peer i c)) 0 i : sProp 𝕄))]
  exact bigSep_congr fun i _ => bigSep_univ_equiv (peerE i) fun c : Dev nD => (dutyTok ER (cell c) 0 i : sProp 𝕄)

theorem dealt_recv :
    (bigSep Finset.univ fun c : Dev nD => bigSep Finset.univ fun s : Slot => (dutyTok ER (recvCell c s) 0 (0 : Fin 5) : sProp 𝕄))
      = bigSep Finset.univ fun c : Dev nD => bigSep Finset.univ fun s : Slot => dutyTok ER (recvCell (peer (dE s.1) c) s) 0 (0 : Fin 5) := by
  rw [bigSep_univ_comm, bigSep_univ_comm (fun (c : Dev nD) (s : Slot) => (dutyTok ER (recvCell (peer (dE s.1) c) s) 0 (0 : Fin 5) : sProp 𝕄))]
  exact bigSep_congr fun s _ => bigSep_univ_equiv (peerE (dE s.1)) fun c : Dev nD => (dutyTok ER (recvCell c s) 0 (0 : Fin 5) : sProp 𝕄)

theorem tok0 (cell : GSem nD τ sig) : (bigSep Finset.univ fun i : Fin 5 => (dutyTok ER cell 0 i : sProp 𝕄)) ⊢ dutyTok ER cell 0 (0 : Fin 5) :=
  bigSep_elim (Finset.mem_univ 0)

theorem toks_own (c : Dev nD) : (toks c : sProp 𝕄)
    ⊢ iprop((bigSep Finset.univ fun i : Fin 5 => dutyTok ER (barCell c) 0 i) ∗ (bigSep Finset.univ fun i : Fin 5 => dutyTok ER (exitCell c) 0 i)
      ∗ (bigSep Finset.univ fun s : Slot => dutyTok ER (sendCell c s) 0 (0 : Fin 5)) ∗ bigSep Finset.univ fun s : Slot => dutyTok ER (recvCell c s) 0 (0 : Fin 5)) := by
  unfold toks
  rw [ck_all]
  have h1 : (bigSep Finset.univ fun s : Slot => bigSep Finset.univ fun i : Fin 5 => (dutyTok ER (sendCell c s) 0 i : sProp 𝕄)) ⊢ bigSep Finset.univ fun s : Slot => dutyTok ER (sendCell c s) 0 (0 : Fin 5) :=
    bigSep_mono fun s _ => tok0 _
  have h2 : (bigSep Finset.univ fun s : Slot => bigSep Finset.univ fun i : Fin 5 => (dutyTok ER (recvCell c s) 0 i : sProp 𝕄)) ⊢ bigSep Finset.univ fun s : Slot => dutyTok ER (recvCell c s) 0 (0 : Fin 5) :=
    bigSep_mono fun s _ => tok0 _
  iintro ⟨H1, H2, H3, H4⟩
  isplitl [H1]; · iexact H1
  isplitl [H2]; · iexact H2
  isplitl [H3]
  · iapply h1; iexact H3
  · iapply h2; iexact H4

theorem toks_around : (bigSep Finset.univ fun c : Dev nD => (toks c : sProp 𝕄)) ⊢ bigSep Finset.univ fun c : Dev nD => payToks c := by
  have h : (bigSep Finset.univ fun c : Dev nD => (toks c : sProp 𝕄)) ⊢ bigSep Finset.univ fun c : Dev nD =>
      iprop((bigSep Finset.univ fun i : Fin 5 => dutyTok ER (barCell c) 0 i) ∗ (bigSep Finset.univ fun i : Fin 5 => dutyTok ER (exitCell c) 0 i)
      ∗ (bigSep Finset.univ fun s : Slot => dutyTok ER (sendCell c s) 0 (0 : Fin 5)) ∗ bigSep Finset.univ fun s : Slot => dutyTok ER (recvCell c s) 0 (0 : Fin 5)) :=
    bigSep_mono fun c _ => toks_own c
  refine h.trans (Entails.of_eq ?_)
  unfold payToks
  rw [bigSep_sep', bigSep_sep', bigSep_sep', bigSep_sep', bigSep_sep', bigSep_sep', dealt barCell, dealt exitCell, dealt_recv]

/-! ## What each device starts from -/

/-- A device's places at its own semaphores. -/
def places (c : Dev nD) : sProp 𝕄 :=
  iprop(atPos ER (barCell c) 0 ∅ 0 ∗ atPos ER (exitCell c) 0 ∅ 0 ∗ (bigSep Finset.univ fun s : Slot => atPos ER (sendCell c s) 0 ∅ 0) ∗ bigSep Finset.univ fun s : Slot => atPos ER (recvCell c s) 0 ∅ 0)

def RecN (K : Dev nD × CK → ℕ) : sProp 𝕄 :=
  iprop((bigSep Finset.univ fun ck : Dev nD × CK => cellInv ER (sch X) (K ck) (kcell ck)) ∗ bigSep Finset.univ fun ck : Dev nD × CK => reached ER (kcell ck) 0)
instance RecN_persistent (K : Dev nD × CK → ℕ) : BI.Persistent (RecN X K) := by unfold RecN; infer_instance

def G' (c : Dev nD) : sProp 𝕄 := iprop(∃ K, RecN X K ∗ places c ∗ payToks c)

theorem g'_intro (K : Dev nD × CK → ℕ) (c : Dev nD) : iprop(RecN X K ∗ (places c ∗ payToks c)) ⊢ G' X c := by
  unfold G'
  iintro ⟨H1, H2⟩
  iexists K
  isplitl [H1] <;> iassumption

theorem regroup :
    (bigSep Finset.univ fun c : Dev nD => iprop((bigSep Finset.univ fun k : CK => iprop(∃ κ : ℕ, cellInv ER (sch X) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × CK => iprop(∃ κ : ℕ, cellInv ER (sch X) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)),
    bigSep_congr (s := Finset.univ) (fun (c : Dev nD) _ => show (bigSep Finset.univ fun k : CK => (atPos ER (kcell (c, k)) 0 ∅ 0 : sProp 𝕄)) = places c from ck_all _)]
  iintro ⟨HI, ⟨Hat, #HR⟩, Htok⟩
  ihave HK := (BI.bigSep_exists_pi Finset.univ (fun (ck : Dev nD × CK) (κ : ℕ) => (cellInv ER (sch X) κ (kcell ck) : sProp 𝕄))) $$ HI
  icases HK with ⟨%K, #HI⟩
  ihave Htk := (toks_around (F := F)) $$ Htok
  iapply (BI.bigSep_with_persistent (R := RecN X K) fun c _ => g'_intro X K c)
  isplitr
  · unfold RecN; isplitl; · iexact HI
    iexact HR
  · iapply (Entails.of_eq (bigSep_sep' Finset.univ (fun c : Dev nD => places (F := F) c) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit -/

/-- What a device owes at the start. -/
def O₀ (c : Dev nD) : CellTallies nD τ sig Unit := ow c Finset.univ Finset.univ Finset.univ

theorem tally_tc (a b : Dev nD) (k k' : CK) (n : ℕ) : tallyAt (kcell (a, k)) () n (kcell (b, k')) () = if b = a ∧ k' = k then n else 0 := by
  rw [tallyAt_apply]
  refine if_congr ⟨fun h => ?_, fun h => ?_⟩ rfl rfl
  · have := kcell_inj h.1
    exact ⟨congrArg Prod.fst this, congrArg Prod.snd this⟩
  · exact ⟨by rw [h.1, h.2], rfl⟩

theorem owed_eq (d b : Dev nD) (k' : CK) : O₀ d (kcell (b, k')) ()
    = (∑ s : Slot, if b = peer (dE s.1) d ∧ k' = some (some (s, true)) then N else 0) + (∑ i : Fin 5, if b = peer i d ∧ k' = some none then 1 else 0)
      + ∑ i : Fin 5, if b = peer i d ∧ k' = none then 1 else 0 := by
  unfold O₀ ow owR owE owB
  rw [Pi.add_apply, Finsupp.add_apply, Pi.add_apply, Finsupp.add_apply, Finset.sum_apply, Finset.sum_apply, Finset.sum_apply,
    Finsupp.finset_sum_apply, Finsupp.finset_sum_apply, Finsupp.finset_sum_apply]
  refine congrArg₂ (· + ·) (congrArg₂ (· + ·) ?_ ?_) ?_
  · exact Finset.sum_congr rfl fun s _ => tally_tc (peer (dE s.1) d) b (some (some (s, true))) k' N
  · exact Finset.sum_congr rfl fun i _ => tally_tc (peer i d) b (some none) k' 1
  · exact Finset.sum_congr rfl fun i _ => tally_tc (peer i d) b none k' 1

theorem sum_peer (b : Dev nD) (i : Fin 5) (n : ℕ) : (∑ d : Dev nD, if b = peer i d then n else 0) = n := by
  rw [Finset.sum_eq_single (peer i b)]
  · rw [if_pos (peer_peer i b).symm]
  · intro d _ hd
    exact if_neg fun h => hd (by rw [h, peer_peer])
  · exact fun h => absurd (Finset.mem_univ _) h

def ckCred : CK → ℕ
  | none => 5
  | some none => 5
  | some (some (_, false)) => 0
  | some (some (_, true)) => N

theorem sum_not {I : Type} [Fintype I] (p : I → Dev nD → Prop) [∀ i d, Decidable (p i d)] (q : I → Prop) [∀ i, Decidable (q i)] (n : ℕ) (h : ∀ i, ¬ q i) :
    (∑ d : Dev nD, ∑ i : I, if p i d ∧ q i then n else 0) = 0 :=
  Finset.sum_eq_zero fun d _ => Finset.sum_eq_zero fun i _ => if_neg fun h' => h i h'.2
theorem sum_five (b : Dev nD) (q : Prop) [Decidable q] (h : q) : (∑ d : Dev nD, ∑ i : Fin 5, if b = peer i d ∧ q then 1 else 0) = 5 := by
  rw [Finset.sum_comm, Finset.sum_congr rfl fun i _ => (Finset.sum_congr rfl fun d _ => if_congr (and_iff_left h) rfl rfl).trans (sum_peer b i 1)]
  rfl
theorem sum_slot (b : Dev nD) (s : Slot) : (∑ d : Dev nD, ∑ s' : Slot, if b = peer (dE s'.1) d ∧ (some (some (s, true)) : CK) = some (some (s', true)) then N else 0) = N := by
  rw [Finset.sum_comm, Finset.sum_eq_single s]
  · exact (Finset.sum_congr rfl fun d _ => if_congr (and_iff_left rfl) rfl rfl).trans (sum_peer b (dE s.1) N)
  · intro s' _ hs'
    refine Finset.sum_eq_zero fun d _ => if_neg fun h => hs' ?_
    have h2 : ckKd (some (some (s, true))) = ckKd (some (some (s', true))) := congrArg ckKd h.2
    injection h2 with h3
    exact h3.symm
  · exact fun h => absurd (Finset.mem_univ _) h

theorem owed_sum (b : Dev nD) (k : CK) : (∑ d : Dev nD, O₀ d (kcell (b, k)) ()) = ckCred k := by
  rw [Finset.sum_congr rfl fun d _ => owed_eq d b k, Finset.sum_add_distrib, Finset.sum_add_distrib]
  match k with
  | none => rw [sum_not _ _ _ (fun s h => by cases h), sum_not _ _ _ (fun s h => by cases h), sum_five _ _ rfl]; rfl
  | some none => rw [sum_not _ _ _ (fun s h => by cases h), sum_five _ _ rfl, sum_not _ _ _ (fun s h => by cases h)]; rfl
  | some (some (s, false)) => rw [sum_not _ _ _ (fun s h => by cases h), sum_not _ _ _ (fun s h => by cases h), sum_not _ _ _ (fun s h => by cases h)]; rfl
  | some (some (s, true)) => rw [sum_slot, sum_not _ _ _ (fun s h => by cases h), sum_not _ _ _ (fun s h => by cases h)]; rfl

theorem launch_at (c : Dev nD) (k : CK) :
    tallyOn (kcell (c, k)) (launchCredit (Pipeline.owing O₀) 0 (kcell (c, k))) = (tallyAt (kcell (c, k)) () (ckCred k) : CellTallies nD τ sig Unit) := by
  unfold tallyAt; refine congrArg _ (Finsupp.ext fun u => ?_); cases u
  rw [Pipeline.launchCredit_owing, Finsupp.single_eq_same, owed_sum]

theorem creds (c : Dev nD) :
    (Pipeline.launchCred O₀ c : sProp 𝕄) ⊢ iprop(cred (tallyAt (barCell c) () 5) ∗ cred (tallyAt (exitCell c) () 5) ∗ bigSep Finset.univ fun s : Slot => cred (tallyAt (recvCell c s) () N)) := by
  have h : (Pipeline.launchCred O₀ c : sProp 𝕄) ⊢ bigSep Finset.univ fun k : CK => cred (tallyAt (kcell (c, k)) () (ckCred k)) := by
    unfold Pipeline.launchCred
    have h1 : (bigSep Finset.univ fun sm : SemLoc sig => (cred (tallyOn ((c : Thread nD τ), sm) (launchCredit (Pipeline.owing O₀) 0 ((c : Thread nD τ), sm))) : sProp 𝕄))
        ⊢ bigSep ((Finset.univ : Finset CK).map ⟨csem, csem_inj⟩) fun sm : SemLoc sig => cred (tallyOn ((c : Thread nD τ), sm) (launchCredit (Pipeline.owing O₀) 0 ((c : Thread nD τ), sm))) :=
      bigSep_subset (Finset.subset_univ _)
    refine h1.trans (Entails.of_eq ?_)
    rw [bigSep_map]
    exact bigSep_congr fun k _ => congrArg cred (launch_at c k)
  refine h.trans ?_
  rw [ck_all]
  iintro ⟨H1, H2, -, H3⟩
  isplitl [H1]; · iexact H1
  isplitl [H2]; · iexact H2
  iexact H3

end Cert.KernelIdeal.BS
-- ==== Proof.RunMain.lean ====
/- The kernel's run on the mesh: every device's result, and everything else as it was. -/
module

public import proofs.«01_k».proof.Proof.Deal
public import Idealize.ShloMosaic.Lib.Pipeline.CollectiveSegs

@[expose] public section

noncomputable section

namespace Cert.KernelIdeal.BS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- Each device's operand as its window brings it in. -/
def xs (c : Dev nD) : S1024x256.Idx → Elt F .f32 := (win0_0.blk (0 : Fin 1)).view.read (Elt F) ((s₀ m ρ).mem ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from: the records, its tickets and credit. -/
def start (c : Dev nD) : sProp 𝕄 := iprop(∃ K, Rec (xs m ρ) K ∗ Tk c)

def Φ₀ (c : Dev nD) : sProp 𝕄 :=
  iprop(start m ρ c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
def Φ₁ (c : Dev nD) : sProp 𝕄 :=
  iprop(((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
    ∗ Pipeline.ownSems0 osem c ∗ unscopedSems0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outF (xs m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgW (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stgW c cc0_stg0_0 ((dats m ρ 0 c).before (0 : Fin 2) t₀ d))
    ∗ (∃ d, stgW c cc0_stg1_0 ((dats m ρ 0 c).before (1 : Fin 2) t₀ d)))
def bodyPost (c : Dev nD) : sProp 𝕄 :=
  iprop(Φ₁ c ∗ (dats m ρ 0 c).owesAt () t₀.succ ∗ stgW c cc0_stg0_0 (xs m ρ c) ∗ stgW c cc0_stg1_0 (outF (xs m ρ) c))

/-- The halves done give back the staging buffer whole and their semaphores at zero. -/
theorem dn_all (X : Dev nD → S1024x256.Idx → Elt F .f32) (c : Dev nD) : (bigSep Finset.univ fun s : Slot => Dn X c s)
    ⊢ iprop((bigSep Finset.univ fun s : Slot => semVal (sendCell c s) 0) ∗ (bigSep Finset.univ fun s : Slot => semVal (recvCell c s) 0)
      ∗ ∃ f : Buf (Elt F) ((c : Thread nD τ).loc cc0_scratch1), ((c : Thread nD τ).loc cc0_scratch1) ↦{fullShare} f) := by
  have e : (bigSep Finset.univ fun s : Slot => recvPay X c s) = (((c : Thread nD τ).loc cc0_scratch1) ↦{fullShare} stgAll X c : sProp 𝕄) := (stg_whole c (stgAll X c)).symm
  unfold Dn
  rw [bigSep_sep', bigSep_sep', e]
  iintro ⟨H1, H2, H3⟩
  isplitl [H1]; · iexact H1
  isplitl [H2]; · iexact H2
  iexists _; iexact H3

theorem sems_back (c : Dev nD) : iprop(semVal (barCell c) 0 ∗ semVal (exitCell c) 0 ∗ (bigSep Finset.univ fun s : Slot => semVal (sendCell c s) 0) ∗ bigSep Finset.univ fun s : Slot => semVal (recvCell c s) 0)
    ⊢ (iprop(Pipeline.ownSems0 osem c ∗ unscopedSems0 c) : sProp 𝕄) := by
  rw [unscoped_eq, show (Pipeline.ownSems0 (Ix := Unit) (Name := ℕ) (U := UU) (Lvl := ℕ) (Val := Elt F) (τ := τ) osem c : sProp 𝕄)
    = iprop(semVal (exitCell c) 0 ∗ (bigSep Finset.univ fun s : Slot => semVal (sendCell c s) 0) ∗ bigSep Finset.univ fun s : Slot => semVal (recvCell c s) 0) from own_all _]
  iintro ⟨H1, H2⟩
  isplitl [H2]; · iexact H2
  iexact H1

theorem sound_body (c : Dev nD) : bodyPre m ρ c ⊢ wpD c (bodyP xM oM wM wW sM sW cc0_scratch2 cc0_scratch3 cc0_scoped0 allOk) fun _ => bodyPost m ρ c := by
  unfold bodyPre Φ₀ start
  iintro ⟨⟨⟨%K, #HR, Htk⟩, ⟨%f0, Hw⟩, ⟨%f1, Hs⟩⟩, Ho, ⟨%d0, %g0, %hg0, Hx⟩, ⟨%d1, %g1, %hg1, Hout⟩⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hw := (work_split c f0) $$ Hw
  icases Hw with ⟨%a0, %a1, Hw0, Hw1⟩
  ihave Hs := (stg_split c f1) $$ Hs
  iapply (body_spec (xs m ρ) K c a0 a1 g1 (fun _ => bodyPost m ρ c)) $$ [Htk Hx Hout Hw0 Hw1 Hs HO]
  · isplitr; · iexact HR
    isplitl [Htk]; · iexact Htk
    isplitl [Hx]
    · ihave H := (Entails.of_eq (show (((c : Thread nD τ).loc cc0_stg0_0) ↦{fullShare} xs m ρ c : sProp 𝕄) = xin c (xs m ρ c) from rfl)) $$ Hx
      iexact H
    isplitl [Hout]
    · ihave H := (Entails.of_eq (show (((c : Thread nD τ).loc cc0_stg1_0) ↦{fullShare} g1 : sProp 𝕄) = oout c g1 from rfl)) $$ Hout
      iexact H
    isplitl [Hw0]; · iexact Hw0
    isplitl [Hw1]; · iexact Hw1
    isplitl [Hs]; · iexact Hs
    unfold Ow O₀
    iexists W; iexact HO
  iintro ⟨Hx, Ho, Hw0, Hw1, Hd, Hzb, Hze, ⟨%W', HO⟩⟩
  ihave Hd := (dn_all (xs m ρ) c) $$ Hd
  icases Hd with ⟨Hz1, Hz2, Hs⟩
  ihave Hw := (work_join c _ _) $$ [Hw0 Hw1]
  · isplitl [Hw0]; · iexact Hw0
    iexact Hw1
  ihave Hz := (sems_back c) $$ [Hzb Hze Hz1 Hz2]
  · isplitl [Hzb]; · iexact Hzb
    isplitl [Hze]; · iexact Hze
    isplitl [Hz1] <;> iassumption
  unfold bodyPost Φ₁ Dat.owesAt Pipeline.owesWithin
  rw [show (dats m ρ 0 c).owed t₀.succ = 0 from rfl]
  isplitl [Hw Hs Hz]
  · isplitl [Hw Hs]
    · isplitl [Hw]; · iexact Hw
      iexact Hs
    iexact Hz
  isplitl [HO]
  · iexists W'
    isplitr; · ipureintro; exact fun _ _ => Or.inl trivial
    iexact HO
  isplitl [Hx]
  · iexists _; isplitr; · (ipureintro; rfl)
    ihave H := (Entails.of_eq (show (xin c (xs m ρ c) : sProp 𝕄) = (((c : Thread nD τ).loc cc0_stg0_0) ↦{fullShare} xs m ρ c) from rfl)) $$ Hx
    iexact H
  iexists _; isplitr; · (ipureintro; rfl)
  ihave H := (Entails.of_eq (show (oout c (outF (xs m ρ) c) : sProp 𝕄) = (((c : Thread nD τ).loc cc0_stg1_0) ↦{fullShare} outF (xs m ρ) c) from rfl)) $$ Ho
  iexact H

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpD c
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scoped0) (fun _ => bodyPost m ρ c)
  rw [cc0_body_eq]
  exact sound_body m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem tk_intro (c : Dev nD) : iprop(places c ∗ payToks c ∗ cred (tallyAt (barCell c) () 5) ∗ cred (tallyAt (exitCell c) () 5) ∗ bigSep Finset.univ fun s : Slot => cred (tallyAt (recvCell c s) () N))
    ⊢ (Tk c : sProp 𝕄) := by
  have e : (bigSep Finset.univ fun s : Slot => (PreA c s : sProp 𝕄)) = iprop((bigSep Finset.univ fun s : Slot => dutyTok ER (sendCell c s) 0 0) ∗ (bigSep Finset.univ fun s : Slot => dutyTok ER (recvCell (peer (dE s.1) c) s) 0 0)
      ∗ (bigSep Finset.univ fun s : Slot => atPos ER (sendCell c s) 0 ∅ 0) ∗ (bigSep Finset.univ fun s : Slot => atPos ER (recvCell c s) 0 ∅ 0) ∗ bigSep Finset.univ fun s : Slot => cred (tallyAt (recvCell c s) () N)) := by
    unfold PreA
    rw [bigSep_sep', bigSep_sep', bigSep_sep', bigSep_sep']
  unfold places payToks Tk
  rw [e]
  iintro ⟨⟨Ha1, Ha2, Ha3, Ha4⟩, ⟨Ht1, Ht2, Ht3, Ht4⟩, Hc1, Hc2, Hc3⟩
  isplitl [Ht1]; · iexact Ht1
  isplitl [Ht2]; · iexact Ht2
  isplitl [Ha1]; · iexact Ha1
  isplitl [Ha2]; · iexact Ha2
  isplitl [Hc1]; · iexact Hc1
  isplitl [Hc2]; · iexact Hc2
  isplitl [Ht3]; · iexact Ht3
  isplitl [Ht4]; · iexact Ht4
  isplitl [Ha3]; · iexact Ha3
  isplitl [Ha4] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m ρ) c)
      ⊢ |={Set.univ}=> iprop(start m ρ c ∗ emp) := by
  unfold G' RecN
  iintro ⟨-, Hlev, Hcr, -, ⟨%K, ⟨HI, Hr⟩, Hp, Ht⟩⟩
  ihave Hc := (creds (F := F) c) $$ Hcr
  icases Hc with ⟨H1, H2, H3⟩
  imodintro
  unfold start Rec
  isplitl
  · iexists K
    isplitl [HI Hr Hlev]
    · isplitl [HI]; · iexact HI
      isplitl [Hr] <;> iassumption
    · iapply (tk_intro c)
      isplitl [Hp]; · iexact Hp
      isplitl [Ht]; · iexact Ht
      isplitl [H1]; · iexact H1
      isplitl [H2] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Ho, Hu⟩
  isplitl [Hu]; · iexact Hu
  isplitl [Ho]; · iexact Ho
  iexact Hr

theorem stage_kd : ∀ (w : Fin 2) (s : Fin (cfg0.spec w).nbuf), kd (.dma ((cfg0.spec w).sem s)) = .other
  | 0, s => by rw [show s = (0 : Fin 1) from Subsingleton.elim _ _]; rfl
  | 1, s => by rw [show s = (0 : Fin 1) from Subsingleton.elim _ _]; rfl

theorem mayWait_stage (c : Dev nD) (q : DmaSem sig) (hq : kd (.dma q) = .other) (O : CellTallies nD τ sig Unit) (hO : O = O₀ c ∨ O = 0) :
    (levAts L lv : sProp 𝕄) ⊢ MayWait (c : Thread nD τ) (.dma q) () O := by
  rcases hO with rfl | rfl
  · exact mayWait (F := F) c (.dma q) _ _ _ (fun s _ => by rw [hq]; exact Nat.succ_pos _) (fun i _ => by rw [hq]; decide) (fun i _ => by rw [hq]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_kd w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every run of the program ends, its windows' arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund_all (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) : (win0_1.blk (0 : Fin 1)).view.read (Elt F) (finalA m ρ c (1 : Fin 2)) = outF (xs m ρ) c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- A device's operand is its argument buffer. -/
theorem xs_eq (c : Dev nD) : xs m ρ c = m ((c : Thread nD τ).loc main_arg0) := by
  have hz0 : (fun a => (win0_0.index (0 : Fin 1)) a * main_arg0.ty.shape.size a) = fun _ => 0 := funext fun a => by fin_cases a <;> decide
  exact Memref.read_access_unit_zero (Elt F) main_arg0 hz0 (fun a => by fin_cases a <;> decide) _

/-- A device's result buffer after the run. -/
theorem finalA_eq (c : Dev nD) : finalA m ρ c (1 : Fin 2) = outF (fun c : Dev nD => m ((c : Thread nD τ).loc main_arg0)) c := by
  have hz1 : (fun a => (win0_1.index (0 : Fin 1)) a * main_v1.ty.shape.size a) = fun _ => 0 := funext fun a => by fin_cases a <;> decide
  have h := Memref.read_access_unit_zero (Elt F) main_v1 hz1 (fun a => by fin_cases a <;> decide) (finalA m ρ c (1 : Fin 2))
  refine h.symm.trans ((finalA_o m ρ c).trans ?_)
  rw [show xs m ρ = fun c : Dev nD => m ((c : Thread nD τ).loc main_arg0) from funext fun c => xs_eq m ρ c]

/-- The run, read at the argument and the result buffers. -/
theorem run_out : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outF (fun c : Dev nD => m ((c : Thread nD τ).loc main_arg0)) c) ∧ r.2.sem = fun _ => 0) :=
  (θ_run defs _ _).mono (fun _ h => ⟨fun c => ⟨(h.1 c (0 : Fin 2)).trans (finalA_x m ρ c), (h.1 c (1 : Fin 2)).trans (finalA_eq m ρ c)⟩, h.2⟩) (run_main m ρ)

end Cert.KernelIdeal.BS
-- ==== Proof.Net.lean ====
/- One column of the array as a function of the row's number: the stages of the bitonic network by arithmetic on that number. -/
module

public import Idealize.ShloMosaic.Lib.SortNet.Sorts

@[expose] public section

namespace Cert.KernelIdeal.Net

open Idealize.ShloMosaic Idealize.ShloMosaic.SortNet

variable {α : Type*} [LinearOrder α]

/-- Rows `2 ^ s` apart compared: where `up`, the smaller goes to the earlier row. -/
def stN (s : ℕ) (up : ℕ → Prop) [DecidablePred up] (v : ℕ → α) (i : ℕ) : α :=
  if i / 2 ^ s % 2 = 0 then (if up i then min (v i) (v (i + 2 ^ s)) else max (v i) (v (i + 2 ^ s)))
  else (if up i then max (v (i - 2 ^ s)) (v i) else min (v (i - 2 ^ s)) (v i))

/-- Ascending blocks of `2 ^ (l + 1)` rows alternate with descending ones. -/
abbrev dirN (l i : ℕ) : Prop := i / 2 ^ (l + 1) % 2 = 0

theorem and_two_pow_eq_zero (i e : ℕ) : i &&& 2 ^ e = 0 ↔ i / 2 ^ e % 2 = 0 := by
  have h2 : i.testBit e = decide (i / 2 ^ e % 2 = 1) := Nat.testBit_eq_decide_div_mod_eq
  constructor
  · intro h
    have h3 : (i &&& 2 ^ e).testBit e = false := by rw [h]; exact Nat.zero_testBit e
    rw [Nat.testBit_and, Nat.testBit_two_pow_self, Bool.and_true, h2] at h3
    have := of_decide_eq_false h3
    omega
  · intro h
    apply Nat.eq_of_testBit_eq
    intro k
    rw [Nat.testBit_and, Nat.zero_testBit, Nat.testBit_two_pow]
    by_cases hk : e = k
    · subst hk
      rw [h2, h]; rfl
    · simp [hk]

theorem div_add_pow (s i : ℕ) (h : i / 2 ^ s % 2 = 0) : (i + 2 ^ s) / 2 ^ s % 2 = 1 ∧ (∀ e, s < e → (i + 2 ^ s) / 2 ^ e = i / 2 ^ e) := by
  have hp : 0 < 2 ^ s := Nat.two_pow_pos s
  refine ⟨by rw [Nat.add_div_right _ hp]; omega, fun e he => ?_⟩
  obtain ⟨d, rfl⟩ : ∃ d, e = s + 1 + d := ⟨e - (s + 1), by omega⟩
  rw [Nat.pow_add, Nat.pow_add, Nat.pow_one, Nat.mul_assoc, ← Nat.div_div_eq_div_mul, ← Nat.div_div_eq_div_mul, ← Nat.div_div_eq_div_mul, ← Nat.div_div_eq_div_mul,
    Nat.add_div_right _ hp]
  congr 1
  omega

theorem div_sub_pow (s i : ℕ) (h : i / 2 ^ s % 2 ≠ 0) : 2 ^ s ≤ i ∧ (i - 2 ^ s) / 2 ^ s % 2 = 0 ∧ (∀ e, s < e → (i - 2 ^ s) / 2 ^ e = i / 2 ^ e) := by
  have hp : 0 < 2 ^ s := Nat.two_pow_pos s
  have hle : 2 ^ s ≤ i := by
    by_contra hc
    exact h (by rw [Nat.div_eq_of_lt (by omega)])
  obtain ⟨j, rfl⟩ : ∃ j, i = j + 2 ^ s := ⟨i - 2 ^ s, by omega⟩
  rw [Nat.add_div_right _ hp] at h
  have hj : j / 2 ^ s % 2 = 0 := by omega
  rw [Nat.add_sub_cancel]
  exact ⟨hle, hj, fun e he => ((div_add_pow s j hj).2 e he).symm⟩

/-- A stage of the network, at a place. -/
theorem apply_stage_eq {p s l : ℕ} (hs : s < p) (hl : s ≤ l) (f : ℕ → α) (i : Fin (2 ^ p)) :
    Network.apply (stage p s fun i => (decide (i.val &&& 2 ^ (l + 1) = 0)) == false) (fun i => f i.val) i = stN s (dirN l) f i.val := by
  unfold stN dirN
  by_cases hi : i.val &&& 2 ^ s = 0
  · have h := (apply_stage hs (fun i => (decide (i.val &&& 2 ^ (l + 1) = 0)) == false) (fun i => f i.val) i hi).1
    rw [h, if_pos ((and_two_pow_eq_zero _ _).mp hi)]
    show (if _ then max (f i.val) (f (partner p s i).val) else min (f i.val) (f (partner p s i).val)) = _
    rw [partner_val_of_clear hs i hi]
    by_cases hd : i.val &&& 2 ^ (l + 1) = 0
    · rw [if_neg (by simp [hd]), if_pos ((and_two_pow_eq_zero _ _).mp hd)]
    · rw [if_pos (by simp [hd]), if_neg (fun hh => hd ((and_two_pow_eq_zero _ _).mpr hh))]
  · have hi' : i.val / 2 ^ s % 2 ≠ 0 := fun hh => hi ((and_two_pow_eq_zero _ _).mpr hh)
    obtain ⟨h1, h2, h3⟩ := div_sub_pow s i.val hi'
    obtain ⟨_, hv⟩ := partner_val_of_set hs i hi
    have hc : (partner p s i).val &&& 2 ^ s = 0 := by rw [hv, and_two_pow_eq_zero]; exact h2
    have h := (apply_stage hs (fun i => (decide (i.val &&& 2 ^ (l + 1) = 0)) == false) (fun i => f i.val) (partner p s i) hc).2
    rw [partner_partner hs] at h
    rw [h, if_neg hi']
    show (if _ then min (f (partner p s i).val) (f i.val) else max (f (partner p s i).val) (f i.val)) = _
    rw [hv]
    by_cases hd : i.val / 2 ^ (l + 1) % 2 = 0
    · have hd' : (partner p s i).val &&& 2 ^ (l + 1) = 0 := by rw [hv, and_two_pow_eq_zero, h3 _ (by omega)]; exact hd
      rw [if_neg (by simp [← hv, hd']), if_pos hd]
    · have hd' : (partner p s i).val &&& 2 ^ (l + 1) ≠ 0 := by rw [hv, Ne, and_two_pow_eq_zero, h3 _ (by omega)]; exact hd
      rw [if_pos (by simp [← hv, hd']), if_neg hd]

/-- Stages one after another. -/
def netN (L : List (ℕ × ℕ)) (v : ℕ → α) : ℕ → α := L.foldl (fun v ls => stN ls.2 (dirN ls.1) v) v

/-- A stage reads rows of the first `2 ^ p` only. -/
theorem stN_congr {p s : ℕ} (hs : s < p) (up : ℕ → Prop) [DecidablePred up] (v w : ℕ → α) (h : ∀ i < 2 ^ p, v i = w i) (i : ℕ) (hi : i < 2 ^ p) :
    stN s up v i = stN s up w i := by
  unfold stN
  rw [h i hi]
  by_cases hb : i / 2 ^ s % 2 = 0
  · rw [if_pos hb, if_pos hb]
    have hk : i + 2 ^ s < 2 ^ p := by
      have := (div_add_pow s i hb).2 p hs
      rw [Nat.div_eq_of_lt hi] at this
      exact (Nat.div_eq_zero_iff.mp this).resolve_left (Nat.two_pow_pos p).ne'
    rw [h _ hk]
  · rw [if_neg hb, if_neg hb, h (i - 2 ^ s) (lt_of_le_of_lt (Nat.sub_le _ _) hi)]

theorem netN_congr {p : ℕ} (L : List (ℕ × ℕ)) (hL : ∀ ls ∈ L, ls.2 < p) (v w : ℕ → α) (h : ∀ i < 2 ^ p, v i = w i) (i : ℕ) (hi : i < 2 ^ p) :
    netN L v i = netN L w i := by
  induction L generalizing v w with
  | nil => exact h i hi
  | cons a L ih =>
    exact ih (fun ls hl => hL ls (List.mem_cons_of_mem _ hl)) _ _ (fun j hj => stN_congr (hL a List.mem_cons_self) _ _ _ h j hj)

theorem netN_append (L M : List (ℕ × ℕ)) (v : ℕ → α) : netN (L ++ M) v = netN M (netN L v) := List.foldl_append

/-- The stages of the sort of `2 ^ p` rows. -/
def allLs (p : ℕ) : List (ℕ × ℕ) := (List.range p).flatMap fun l => (List.range (l + 1)).reverse.map fun s => (l, s)

theorem apply_list {p : ℕ} (L : List (ℕ × ℕ)) (hL : ∀ ls ∈ L, ls.2 < p ∧ ls.2 ≤ ls.1) (f : ℕ → α) (g : Fin (2 ^ p) → α) (hfg : ∀ i, g i = f i.val) (i : Fin (2 ^ p)) :
    Network.apply (L.flatMap fun ls => stage p ls.2 fun i => (decide (i.val &&& 2 ^ (ls.1 + 1) = 0)) == false) g i = netN L f i.val := by
  induction L generalizing f g with
  | nil => exact hfg i
  | cons a L ih =>
    rw [List.flatMap_cons, Network.apply_append]
    have ha := hL a List.mem_cons_self
    refine ih (fun ls hl => hL ls (List.mem_cons_of_mem _ hl)) (stN a.2 (dirN a.1) f) _ (fun j => ?_)
    rw [show g = fun i => f i.val from funext hfg]
    exact apply_stage_eq ha.1 ha.2 f j

/-- The network of stages sorts: its rows ascend, and are the given rows rearranged. -/
theorem net_sorts (p : ℕ) (f : ℕ → α) : Monotone (fun i : Fin (2 ^ p) => netN (allLs p) f i.val)
    ∧ ∃ σ : Equiv.Perm (Fin (2 ^ p)), ∀ i : Fin (2 ^ p), netN (allLs p) f i.val = f (σ i).val := by
  have e : Network.apply (sortNet p false) (fun i => f i.val) = fun i : Fin (2 ^ p) => netN (allLs p) f i.val := funext fun i => by
    rw [← apply_list (allLs p) (fun ls hl => by
      obtain ⟨l, hl1, hl2⟩ := List.mem_flatMap.mp hl
      obtain ⟨s, hs1, rfl⟩ := List.mem_map.mp hl2
      have h1 := List.mem_range.mp hl1
      have h2 := List.mem_range.mp (List.mem_reverse.mp hs1)
      exact ⟨by show s < p; omega, by show s ≤ l; omega⟩) f (fun i => f i.val) (fun _ => rfl) i]
    unfold sortNet allLs
    rw [List.flatMap_assoc]
    simp only [List.flatMap_map]
  refine ⟨?_, ?_⟩
  · rw [← e]; exact sortNet_apply_monotone p _
  · obtain ⟨σ, hσ⟩ := Network.exists_perm (sortNet p false) (fun i : Fin (2 ^ p) => f i.val)
    exact ⟨σ, fun i => by rw [← congrFun e i, hσ]; rfl⟩

theorem net_sorts_of {n : ℕ} (p : ℕ) (hn : n = 2 ^ p) (f : ℕ → α) : Monotone (fun i : Fin n => netN (allLs p) f i.val)
    ∧ ∃ σ : Equiv.Perm (Fin n), ∀ i : Fin n, netN (allLs p) f i.val = f (σ i).val := by
  subst hn
  exact net_sorts p f

end Cert.KernelIdeal.Net
-- ==== Proof.Stages.lean ====
/- The pieces of the sort on a block of rows, over the extended reals: each is one stage of the network on every column. -/
module

public import proofs.«01_k».proof.Proof.Triples
public import proofs.«01_k».proof.Proof.Net
public import Idealize.ShloMosaic.PureOps.Ideal

@[expose] public section

noncomputable section

namespace Cert.KernelIdeal.BS

open Idealize.ShloMosaic
open Cert.KernelIdeal.Gen Cert.KernelIdeal.Net

/-- Rows of extended reals. -/
abbrev Rows := ℕ → ℕ → EReal

/-- A block of `c` rows as a vector. -/
def ofN (c : ℕ) (v : Rows) : FVec Ideal (sh2 c 128) .bf16 := fun i => v (i 0).val (i 1).val

theorem blk_ofN (a : Rows) (o c : ℕ) : (blk (F := Ideal) a o c) = ofN c (fun r l => a (o + r) l) := rfl

/-- One stage on every column. -/
def stR (s : ℕ) (up : ℕ → Prop) [DecidablePred up] (a : Rows) : Rows := fun r l => stN (α := EReal) s up (fun r => a r l) r

/-- The row a stage compares with. -/
def par (s r : ℕ) : ℕ := if r / 2 ^ s % 2 = 0 then r + 2 ^ s else r - 2 ^ s

theorem stN_local {α : Type*} [LinearOrder α] (s : ℕ) (up up' : ℕ → Prop) [DecidablePred up] [DecidablePred up'] (v w : ℕ → α) (i : ℕ) (h1 : v i = w i) (h2 : v (par s i) = w (par s i))
    (hu : up i ↔ up' i) : stN s up v i = stN s up' w i := by
  unfold stN
  unfold par at h2
  by_cases hb : i / 2 ^ s % 2 = 0
  · rw [if_pos hb] at h2
    rw [if_pos hb, if_pos hb, h1, h2]
    simp only [hu]
  · rw [if_neg hb] at h2
    rw [if_neg hb, if_neg hb, h1, h2]
    simp only [hu]

theorem stR_local (s : ℕ) (up up' : ℕ → Prop) [DecidablePred up] [DecidablePred up'] (a b : Rows) (r l : ℕ) (h1 : a r l = b r l) (h2 : a (par s r) l = b (par s r) l)
    (hu : up r ↔ up' r) : stR s up a r l = stR s up' b r l := stN_local s up up' _ _ r h1 h2 hu

theorem sel_one {α : Type} (c : BitVec 1) (p : Prop) [Decidable p] (h : c = 1#1 ↔ p) (x y : α) : Scalar.select c x y = if p then x else y := by
  show (if c = 1#1 then x else y) = _
  by_cases hp : p
  · rw [if_pos hp, if_pos (h.mpr hp)]
  · rw [if_neg hp, if_neg (fun hc => hp (h.mp hc))]

theorem ite_fun {ι α : Type} (p : Prop) [Decidable p] (f g : ι → α) (i : ι) : (if p then f else g) i = if p then f i else g i := by
  by_cases hp : p
  · rw [if_pos hp, if_pos hp]
  · rw [if_neg hp, if_neg hp]

/-! ## Many steps, each on its own rows -/

theorem fold_local (G : Rows → Rows) {n : ℕ} (f : Fin n → Rows → Rows) (ix : ℕ → ℕ)
    (hS : ∀ t a r l, r < 1024 → l < 128 → ix r = t.val → f t a r l = G a r l)
    (hN : ∀ t a r l, r < 1024 → l < 128 → ix r ≠ t.val → f t a r l = a r l)
    (hG : ∀ a b r l, r < 1024 → l < 128 → (∀ r' < 1024, ix r' = ix r → a r' l = b r' l) → G a r l = G b r l)
    (hc : ∀ r < 1024, ix r < n) (a : Rows) (r l : ℕ) (hr : r < 1024) (hl : l < 128) :
    (List.finRange n).foldl (fun a t => f t a) a r l = G a r l := by
  have H : ∀ (L : List (Fin n)), L.Nodup → ∀ a : Rows, ∀ r l, r < 1024 → l < 128 →
      ((∃ t ∈ L, ix r = t.val) → L.foldl (fun a t => f t a) a r l = G a r l)
        ∧ ((∀ t ∈ L, ix r ≠ t.val) → L.foldl (fun a t => f t a) a r l = a r l) := by
    intro L
    induction L with
    | nil => exact fun _ a r l _ _ => ⟨fun ⟨t, ht, _⟩ => (List.not_mem_nil ht).elim, fun _ => rfl⟩
    | cons t L ih =>
      intro hd a r l hr hl
      obtain ⟨hd1, hd2⟩ := List.nodup_cons.mp hd
      have I := ih hd2 (f t a) r l hr hl
      refine ⟨?_, ?_⟩
      · intro hex
        by_cases hrt : ix r = t.val
        · refine (I.2 fun t' ht' he => hd1 ?_).trans (hS t a r l hr hl hrt)
          have : t' = t := Fin.ext (he.symm.trans hrt)
          exact this ▸ ht'
        · refine (I.1 ?_).trans (hG _ _ r l hr hl fun r' hr' he => hN t a r' l hr' hl (by rw [he]; exact hrt))
          obtain ⟨t', ht', he⟩ := hex
          rcases List.mem_cons.mp ht' with rfl | h
          · exact (hrt he).elim
          · exact ⟨t', h, he⟩
      · intro hno
        exact (I.2 fun t' ht' => hno t' (List.mem_cons_of_mem _ ht')).trans (hN t a r l hr hl (hno t List.mem_cons_self))
  exact (H _ (List.nodup_finRange n) a r l hr hl).1 ⟨⟨ix r, hc r hr⟩, List.mem_finRange _, rfl⟩

theorem fold_st (s : ℕ) (up : ℕ → Prop) [DecidablePred up] {n : ℕ} (f : Fin n → Rows → Rows) (ix : ℕ → ℕ)
    (hS : ∀ t a r l, r < 1024 → l < 128 → ix r = t.val → f t a r l = stR s up a r l)
    (hN : ∀ t a r l, r < 1024 → l < 128 → ix r ≠ t.val → f t a r l = a r l)
    (hp : ∀ r < 1024, par s r < 1024 ∧ ix (par s r) = ix r) (hc : ∀ r < 1024, ix r < n) (a : Rows) (r l : ℕ) (hr : r < 1024) (hl : l < 128) :
    (List.finRange n).foldl (fun a t => f t a) a r l = stR s up a r l :=
  fold_local (stR s up) f ix hS hN (fun a b r l hr hl h => stR_local s up up a b r l (h r hr rfl) (h _ (hp r hr).1 (hp r hr).2) Iff.rfl) hc a r l hr hl

/-! ## Two blocks of rows compared -/

theorem pairA_st (s oA oB c : ℕ) (asc : BitVec 1) (up : ℕ → Prop) [DecidablePred up] (hB : oB = oA + 2 ^ s) (hcs : c ≤ 2 ^ s)
    (hA : ∀ r, oA ≤ r → r < oA + c → r / 2 ^ s % 2 = 0 ∧ (asc = 1#1 ↔ up r)) (hB' : ∀ r, oB ≤ r → r < oB + c → r / 2 ^ s % 2 ≠ 0 ∧ (asc = 1#1 ↔ up r))
    (a : Rows) (r l : ℕ) (hl : l < 128) :
    (((oA ≤ r ∧ r < oA + c) ∨ (oB ≤ r ∧ r < oB + c)) → pairA (F := Ideal) oA oB c asc a r l = stR s up a r l)
      ∧ (¬ ((oA ≤ r ∧ r < oA + c) ∨ (oB ≤ r ∧ r < oB + c)) → pairA (F := Ideal) oA oB c asc a r l = a r l) := by
  refine ⟨fun h => ?_, fun h => ?_⟩
  · by_cases hb : oB ≤ r ∧ r < oB + c
    · obtain ⟨hbit, hup⟩ := hB' r hb.1 hb.2
      unfold pairA
      rw [upd, dif_pos ⟨hb, hl⟩, sel_one asc (up r) hup, ite_fun]
      unfold stR stN
      rw [if_neg hbit]
      have e1 : oA + (r - oB) = r - 2 ^ s := by omega
      have e2 : oB + (r - oB) = r := by omega
      show (if up r then max (a (oA + (r - oB)) l) (a (oB + (r - oB)) l) else min (a (oA + (r - oB)) l) (a (oB + (r - oB)) l)) = _
      rw [e1, e2]
    · have ha : oA ≤ r ∧ r < oA + c := h.resolve_right hb
      obtain ⟨hbit, hup⟩ := hA r ha.1 ha.2
      unfold pairA
      rw [upd, dif_neg (fun hh => hb hh.1), upd, dif_pos ⟨ha, hl⟩, sel_one asc (up r) hup, ite_fun]
      unfold stR stN
      rw [if_pos hbit]
      have e1 : oA + (r - oA) = r := by omega
      have e2 : oB + (r - oA) = r + 2 ^ s := by omega
      show (if up r then min (a (oA + (r - oA)) l) (a (oB + (r - oA)) l) else max (a (oA + (r - oA)) l) (a (oB + (r - oA)) l)) = _
      rw [e1, e2]
  · unfold pairA
    rw [upd, dif_neg (fun hh => h (Or.inr hh.1)), upd, dif_neg (fun hh => h (Or.inl hh.1))]

/-! ## A small step -/

theorem smallW_st (n j s : ℕ) (h : SmallOk n j) (hj : j = 2 ^ s) (hn : n * (2 * j) = 256) (p : ℕ → Prop) [DecidablePred p]
    (sel : FVec Ideal (sh3 n j 128) .bf16 → FVec Ideal (sh3 n j 128) .bf16 → FVec Ideal (sh3 n j 128) .bf16)
    (hsel : ∀ f g i, sel f g i = if p (i 0).val then f i else g i) (v : Rows) :
    smallW (F := Ideal) n j h sel (ofN 256 v) = ofN 256 (stR s (fun r => p (r / (2 * j))) v) := by
  funext i
  have hr : (i 0).val < 256 := (i 0).isLt
  have hl : (i 1).val < 128 := (i 1).isLt
  have hj0 : 0 < j := hj ▸ Nat.two_pow_pos s
  have hq : (i 0).val / (2 * j) < n := Nat.div_lt_of_lt_mul (by rw [Nat.mul_comm]; omega)
  have he : (i 0).val / j % 2 < 2 := Nat.mod_lt _ (by decide)
  have ht : (i 0).val % j < j := Nat.mod_lt _ hj0
  have hdec : (i 0).val = ((i 0).val / (2 * j) * 2 + (i 0).val / j % 2) * j + (i 0).val % j := by
    have h1 := Nat.div_add_mod (i 0).val j
    have h2 : (i 0).val / (2 * j) = (i 0).val / j / 2 := by rw [Nat.mul_comm 2 j, Nat.div_div_eq_div_mul]
    have h3 := Nat.div_add_mod ((i 0).val / j) 2
    rw [h2, show (i 0).val / j / 2 * 2 + (i 0).val / j % 2 = (i 0).val / j by omega, Nat.mul_comm]
    exact h1.symm
  generalize hqe : (i 0).val / (2 * j) = q at *
  generalize hee : (i 0).val / j % 2 = e at *
  generalize hte : (i 0).val % j = t at *
  -- the two rows compared, as vectors
  have rd : ∀ (e' : ℕ) (he' : e' < 2) (hs : (sh4 n 2 j 128).Slices ![0, e', 0, 0] (sh4 n 1 j 128)) (k : (sh3 n j 128).Idx),
      shapeCast (sh3 n j 128) (extractStridedSlice (sh4 n 1 j 128) ![0, e', 0, 0] (shapeCast (sh4 n 2 j 128) (ofN 256 v) h.split) hs) h.drop k
        = v (((k 0).val * 2 + e') * j + (k 1).val) (k 2).val := fun e' he' hs k => by
    have k0 : (k 0).val < n := (k 0).isLt
    have k1 : (k 1).val < j := (k 1).isLt
    have k2 : (k 2).val < 128 := (k 2).isLt
    have hb : ((k 0).val * 2 + e') * j + (k 1).val < 256 := by
      have : ((k 0).val * 2 + e') + 1 ≤ n * 2 := by omega
      have := Nat.mul_le_mul_right j this
      have e3 : n * 2 * j = 256 := by rw [Nat.mul_assoc]; exact hn
      rw [e3, Nat.add_mul, Nat.one_mul] at this
      omega
    refine (shapeCast_apply _ h.drop k (fun | 0 => k 0 | 1 => (0 : Fin 1) | 2 => k 1 | 3 => k 2) (by
      rw [Shape.rowMajor_val_four, Shape.rowMajor_val_three]
      show (((k 0).val * 1 + 0) * j + (k 1).val) * 128 + (k 2).val = ((k 0).val * j + (k 1).val) * 128 + (k 2).val
      rw [Nat.mul_one, Nat.add_zero])).trans ?_
    refine (shapeCast_apply _ h.split _ (fun | 0 => (⟨((k 0).val * 2 + e') * j + (k 1).val, hb⟩ : Fin 256) | 1 => k 2) (by
      rw [Shape.rowMajor_val_four, Shape.rowMajor_val_two]
      show (((k 0).val * 2 + e') * j + (k 1).val) * 128 + (k 2).val
        = (((0 + (k 0).val) * 2 + (e' + 0)) * j + (0 + (k 1).val)) * 128 + (0 + (k 2).val)
      simp only [Nat.zero_add, Nat.add_zero])).trans rfl
  have bitq : (i 0).val / 2 ^ s % 2 = e := by rw [← hj]; exact hee
  let i3 : (sh3 n j 128).Idx := fun | 0 => (⟨q, hq⟩ : Fin n) | 1 => (⟨t, ht⟩ : Fin j) | 2 => (⟨(i 1).val, hl⟩ : Fin 128)
  let i4 : (sh4 n 2 j 128).Idx := fun | 0 => (⟨q, hq⟩ : Fin n) | 1 => (⟨e, he⟩ : Fin 2) | 2 => (⟨t, ht⟩ : Fin j) | 3 => (⟨(i 1).val, hl⟩ : Fin 128)
  let i4' : (sh4 n 1 j 128).Idx := fun | 0 => (⟨q, hq⟩ : Fin n) | 1 => (0 : Fin 1) | 2 => (⟨t, ht⟩ : Fin j) | 3 => (⟨(i 1).val, hl⟩ : Fin 128)
  have sc : ∀ (g : FVec Ideal (sh3 n j 128) .bf16), shapeCast (sh4 n 1 j 128) g h.add i4' = g i3 := fun g =>
    shapeCast_apply g h.add i4' i3 (by
      rw [Shape.rowMajor_val_four, Shape.rowMajor_val_three]
      show (q * j + t) * 128 + (i 1).val = ((q * 1 + 0) * j + t) * 128 + (i 1).val
      rw [Nat.mul_one, Nat.add_zero])
  unfold smallW
  refine (shapeCast_apply _ h.join i i4 (by
    rw [Shape.rowMajor_val_four, Shape.rowMajor_val_two]
    show ((q * 2 + e) * j + t) * 128 + (i 1).val = (i 0).val * 128 + (i 1).val
    rw [← hdec])).trans ?_
  show _ = stN (α := EReal) s (fun r => p (r / (2 * j))) (fun r => v r (i 1).val) (i 0).val
  unfold stN
  beta_reduce
  rw [bitq, hqe]
  rcases (show e = 0 ∨ e = 1 by omega) with h0 | h1
  · rw [if_pos h0]
    refine (concatenate_pair_apply_left 1 _ _ h.cat i4 rfl i4' (fun b => by
      match b with
      | 0 => rfl
      | 1 => exact h0.symm
      | 2 => rfl
      | 3 => rfl)).trans ?_
    rw [sc, hsel]
    have ea := rd 0 (by decide) h.lo i3
    have eb := rd 1 (by decide) h.hi i3
    have ra : (q * 2 + 0) * j + t = (i 0).val := by rw [hdec, h0]
    have rb : (q * 2 + 1) * j + t = (i 0).val + 2 ^ s := by rw [hdec, h0, ← hj, Nat.add_mul, Nat.add_mul]; omega
    show (if p q then min _ _ else max _ _) = _
    rw [ea, eb]
    show (if p q then min (v ((q * 2 + 0) * j + t) (i 1).val) (v ((q * 2 + 1) * j + t) (i 1).val) else max (v ((q * 2 + 0) * j + t) (i 1).val) (v ((q * 2 + 1) * j + t) (i 1).val)) = _
    rw [ra, rb]
  · rw [if_neg (by omega)]
    refine (concatenate_pair_apply_right 1 _ _ h.cat i4 rfl rfl i4' (fun b hb => by
      match b with
      | 0 => rfl
      | 1 => exact (hb rfl).elim
      | 2 => rfl
      | 3 => rfl) h1.symm).trans ?_
    rw [sc, hsel]
    have ea := rd 0 (by decide) h.lo i3
    have eb := rd 1 (by decide) h.hi i3
    have rb : (q * 2 + 1) * j + t = (i 0).val := by rw [hdec, h1]
    have ra : (q * 2 + 0) * j + t = (i 0).val - 2 ^ s := by rw [hdec, h1, ← hj, Nat.add_mul, Nat.add_mul]; omega
    show (if p q then max _ _ else min _ _) = _
    rw [ea, eb]
    show (if p q then max (v ((q * 2 + 0) * j + t) (i 1).val) (v ((q * 2 + 1) * j + t) (i 1).val) else min (v ((q * 2 + 0) * j + t) (i 1).val) (v ((q * 2 + 1) * j + t) (i 1).val)) = _
    rw [ra, rb]

/-! ## A merge step -/

theorem piecesW_st (n j s : ℕ) (h : PieceOk n j) (hn2 : 2 ∣ n) (hj : j = 2 ^ s) (hn : n * j = 256) (asc : BitVec 1) (v : Rows) (hc) :
    piecesW (F := Ideal) n j h hn2 asc (ofN 256 v) hc = ofN 256 (stR s (fun _ => asc = 1#1) v) := by
  funext i
  have hr : (i 0).val < 256 := (i 0).isLt
  have hl : (i 1).val < 128 := (i 1).isLt
  have hj0 : 0 < j := hj ▸ Nat.two_pow_pos s
  have hq : (i 0).val / j < n := Nat.div_lt_of_lt_mul (by rw [Nat.mul_comm, hn]; exact hr)
  have ht : (i 0).val % j < j := Nat.mod_lt _ hj0
  have hdec := Nat.div_add_mod (i 0).val j
  unfold piecesW
  refine (concatenate_ofFn_apply (s₁ := sh2 j 128) 0 (fun k : Fin n => pieceAt n j h hn2 asc (ofN 256 v) k) hc rfl j rfl i ⟨(i 0).val / j, hq⟩ rfl
    (fun | 0 => (⟨(i 0).val % j, ht⟩ : Fin j) | 1 => (⟨(i 1).val, hl⟩ : Fin 128)) rfl (fun b hb => by
      match b with
      | 0 => exact (hb rfl).elim
      | 1 => rfl)).trans ?_
  show _ = stN (α := EReal) s (fun _ => asc = 1#1) (fun r => v r (i 1).val) (i 0).val
  unfold stN pieceAt piece
  beta_reduce
  rw [← hj]
  generalize (i 0).val / j = q at *
  generalize (i 0).val % j = t at *
  have hev := Nat.div_add_mod q 2
  rcases (show q % 2 = 0 ∨ q % 2 = 1 by omega) with h0 | h1
  · have e1 : j * (2 * (q / 2)) + t = (i 0).val := by rw [← hdec, show 2 * (q / 2) = q by omega]
    have e2 : j * (2 * (q / 2) + 1) + t = (i 0).val + j := by rw [← hdec, show 2 * (q / 2) = q by omega, Nat.mul_add]; omega
    rw [if_pos h0, show (q % 2 == 0) = true by rw [h0]; rfl]
    show (Scalar.select asc _ _ : FVec Ideal (sh2 j 128) .bf16) _ = _
    rw [sel_one asc (asc = 1#1) Iff.rfl, ite_fun]
    show (if asc = 1#1 then min (v (j * (2 * (q / 2)) + t) (0 + (i 1).val)) (v (j * (2 * (q / 2) + 1) + t) (0 + (i 1).val))
      else max (v (j * (2 * (q / 2)) + t) (0 + (i 1).val)) (v (j * (2 * (q / 2) + 1) + t) (0 + (i 1).val))) = _
    rw [e1, e2, Nat.zero_add]
  · have e1 : j * (2 * (q / 2)) + t = (i 0).val - j := by rw [← hdec]; conv_rhs => rw [show q = 2 * (q / 2) + 1 by omega, Nat.mul_add]
                                                          omega
    have e2 : j * (2 * (q / 2) + 1) + t = (i 0).val := by rw [← hdec, show 2 * (q / 2) + 1 = q by omega]
    rw [if_neg (by omega), show (q % 2 == 0) = false by rw [h1]; rfl]
    show (Scalar.select asc _ _ : FVec Ideal (sh2 j 128) .bf16) _ = _
    rw [sel_one asc (asc = 1#1) Iff.rfl, ite_fun]
    show (if asc = 1#1 then max (v (j * (2 * (q / 2)) + t) (0 + (i 1).val)) (v (j * (2 * (q / 2) + 1) + t) (0 + (i 1).val))
      else min (v (j * (2 * (q / 2)) + t) (0 + (i 1).val)) (v (j * (2 * (q / 2) + 1) + t) (0 + (i 1).val))) = _
    rw [e1, e2, Nat.zero_add]

theorem cmp_clear (x : BitVec 32) (e : ℕ) (he : e < 32) : Scalar.cmpi .eq (Scalar.andi x (BitVec.ofNat 32 (2 ^ e))) 0#32 = 1#1 ↔ x.toNat / 2 ^ e % 2 = 0 := by
  have h1 : (x &&& BitVec.ofNat 32 (2 ^ e)) = 0#32 ↔ x.toNat / 2 ^ e % 2 = 0 := by
    rw [← and_two_pow_eq_zero]
    have h2 : (x &&& BitVec.ofNat 32 (2 ^ e)).toNat = x.toNat &&& 2 ^ e := by
      rw [BitVec.toNat_and, BitVec.toNat_ofNat, Nat.mod_eq_of_lt (Nat.pow_lt_pow_right (by decide) he)]
    constructor
    · intro h; rw [← h2, h]; rfl
    · intro h; exact BitVec.eq_of_toNat_eq (by rw [h2, h]; rfl)
  rw [← h1]
  show BitVec.ofBool ((x &&& BitVec.ofNat 32 (2 ^ e)) == 0#32) = 1#1 ↔ _
  generalize (x &&& BitVec.ofNat 32 (2 ^ e)) = y
  by_cases hy : y = 0#32
  · subst hy; exact ⟨fun _ => rfl, fun _ => rfl⟩
  · have : (y == 0#32) = false := by rw [beq_eq_false_iff_ne]; exact hy
    rw [this]
    exact ⟨fun h => absurd h (by decide), fun h => absurd h hy⟩

theorem xor_one (a b : BitVec 1) : Scalar.xori (Scalar.xori a b) 1#1 = 1#1 ↔ (a = 1#1 ↔ b = 1#1) := by
  revert a b; decide

theorem rollW_st (j s : ℕ) (h : RollOk j) (hj : j = 2 ^ s) (hs : s < 8) (asc : BitVec 1) (v : Rows) :
    rollW (F := Ideal) j h (BitVec.ofNat 32 (2 ^ s)) asc (iota .tc S256x1 32 [0] iota_S256x1_d0_w32) (ofN 256 v) = ofN 256 (stR s (fun _ => asc = 1#1) v) := by
  funext i
  have hr : (i 0).val < 256 := (i 0).isLt
  have hl : (i 1).val < 128 := (i 1).isLt
  have hj0 : 0 < j := hj ▸ Nat.two_pow_pos s
  have hj1 : j ≤ 128 := by rw [hj]; exact Nat.pow_le_pow_right (by decide) (show s ≤ 7 by omega)
  let m : IVec S256x1 1 := cmpi .eq (andi (iota .tc S256x1 32 [0] iota_S256x1_d0_w32) (broadcast S256x1 (BitVec.ofNat 32 (2 ^ s)))) (broadcast S256x1 (0#32 : BitVec 32))
  -- a mask of rows, at a place of the block
  have bc : ∀ w : IVec S256x1 1, broadcastTo S256x128 (shapeCast S256x1 w shapeCasts_S256x1_S256x1) broadcasts_S256x1_S256x128 i
      = w (fun | 0 => (⟨(i 0).val, hr⟩ : Fin 256) | 1 => (0 : Fin 1)) := fun w => by
    refine (shapeCast_apply w shapeCasts_S256x1_S256x1 _ _ rfl).trans (congrArg w ?_)
    funext b
    match b with
    | 0 => rfl
    | 1 => rfl
  have low : m (fun | 0 => (⟨(i 0).val, hr⟩ : Fin 256) | 1 => (0 : Fin 1)) = 1#1 ↔ (i 0).val / 2 ^ s % 2 = 0 := by
    have hc2 : ∀ k < 256, Scalar.cmpi .eq (Scalar.andi (BitVec.ofNat 32 (0 * 256 + k)) (BitVec.ofNat 32 (2 ^ s))) 0#32 = 1#1 ↔ k / 2 ^ s % 2 = 0 := fun k hk => by
      have hh := cmp_clear (BitVec.ofNat 32 (0 * 256 + k)) s (by omega)
      rw [BitVec.toNat_ofNat, Nat.zero_mul, Nat.zero_add, Nat.mod_eq_of_lt (show k < 2 ^ 32 by omega)] at hh
      rw [Nat.zero_mul, Nat.zero_add]
      exact hh
    exact hc2 _ hr
  have up : (i 0).val / 2 ^ s % 2 = 0 → concatenate (sh2 256 128) 0
    [⟨sh2 (256 - j) 128, extractStridedSlice (sh2 (256 - j) 128) ![j, 0] (ofN 256 v) h.up⟩, ⟨sh2 j 128, extractStridedSlice (sh2 j 128) ![0, 0] (ofN 256 v) h.upr⟩] h.catu i
      = v ((i 0).val + 2 ^ s) (i 1).val := fun hb => by
    have hlt : (i 0).val + 2 ^ s < 256 := by
      have := (div_add_pow s (i 0).val hb).2 8 hs
      omega
    refine (concatenate_pair_apply_left 0 _ _ h.catu i rfl (fun | 0 => (⟨(i 0).val, by omega⟩ : Fin (256 - j)) | 1 => (⟨(i 1).val, hl⟩ : Fin 128)) (fun b => by
      match b with
      | 0 => rfl
      | 1 => rfl)).trans ?_
    show v (j + (i 0).val) (0 + (i 1).val) = _
    rw [hj, Nat.add_comm, Nat.zero_add]
  have dn : ¬ (i 0).val / 2 ^ s % 2 = 0 → concatenate (sh2 256 128) 0
    [⟨sh2 j 128, extractStridedSlice (sh2 j 128) ![256 - j, 0] (ofN 256 v) h.dn⟩, ⟨sh2 (256 - j) 128, extractStridedSlice (sh2 (256 - j) 128) ![0, 0] (ofN 256 v) h.dnr⟩] h.catd i
      = v ((i 0).val - 2 ^ s) (i 1).val := fun hb => by
    have hle := (div_sub_pow s (i 0).val hb).1
    refine (concatenate_pair_apply_right 0 _ _ h.catd i rfl rfl (fun | 0 => (⟨(i 0).val - j, by omega⟩ : Fin (256 - j)) | 1 => (⟨(i 1).val, hl⟩ : Fin 128)) (fun b hb => by
      match b with
      | 0 => exact (hb rfl).elim
      | 1 => rfl) (by
        show (i 0).val - j + j = (i 0).val
        omega)).trans ?_
    show v (0 + ((i 0).val - j)) (0 + (i 1).val) = _
    rw [hj, Nat.zero_add, Nat.zero_add]
  have key : rollW (F := Ideal) j h (BitVec.ofNat 32 (2 ^ s)) asc (iota .tc S256x1 32 [0] iota_S256x1_d0_w32) (ofN 256 v) i
      = Scalar.select (Scalar.xori (Scalar.xori (m (fun | 0 => (⟨(i 0).val, hr⟩ : Fin 256) | 1 => (0 : Fin 1))) asc) 1#1)
        (min (v (i 0).val (i 1).val) (if (i 0).val / 2 ^ s % 2 = 0 then v ((i 0).val + 2 ^ s) (i 1).val else v ((i 0).val - 2 ^ s) (i 1).val))
        (max (v (i 0).val (i 1).val) (if (i 0).val / 2 ^ s % 2 = 0 then v ((i 0).val + 2 ^ s) (i 1).val else v ((i 0).val - 2 ^ s) (i 1).val)) := by
    unfold rollW
    show Scalar.select (broadcastTo S256x128 (shapeCast S256x1 _ shapeCasts_S256x1_S256x1) broadcasts_S256x1_S256x128 i)
      (min (v (i 0).val (i 1).val) (Scalar.select (broadcastTo S256x128 (shapeCast S256x1 m shapeCasts_S256x1_S256x1) broadcasts_S256x1_S256x128 i) _ _))
      (max (v (i 0).val (i 1).val) (Scalar.select (broadcastTo S256x128 (shapeCast S256x1 m shapeCasts_S256x1_S256x1) broadcasts_S256x1_S256x128 i) _ _)) = _
    rw [bc, bc, sel_one _ _ low]
    by_cases hb : (i 0).val / 2 ^ s % 2 = 0
    · rw [if_pos hb, if_pos hb, up hb]; rfl
    · rw [if_neg hb, if_neg hb, dn hb]; rfl
  rw [key, sel_one _ _ (xor_one _ _)]
  show _ = stN (α := EReal) s (fun _ => asc = 1#1) (fun r => v r (i 1).val) (i 0).val
  unfold stN
  beta_reduce
  by_cases hb : (i 0).val / 2 ^ s % 2 = 0
  · rw [if_pos hb, if_pos hb]
    by_cases ha : asc = 1#1
    · rw [if_pos ha, if_pos ⟨fun _ => ha, fun _ => low.mpr hb⟩]
    · rw [if_neg ha, if_neg (fun hh => ha (hh.mp (low.mpr hb)))]
  · rw [if_neg hb, if_neg hb]
    by_cases ha : asc = 1#1
    · rw [if_pos ha, if_neg (fun hh => hb (low.mp (hh.mpr ha)))]
      exact max_comm _ _
    · rw [if_neg ha, if_pos ⟨fun hh => absurd (low.mp hh) hb, fun hh => absurd hh ha⟩]
      exact min_comm _ _

/-- The stages of a merge, from `s - 1` down, all one way. -/
def downC (up : ℕ → Prop) [DecidablePred up] : ℕ → Rows → Rows
  | 0, a => a
  | s + 1, a => downC up s (stR s up a)

theorem piecesW_of (n j s : ℕ) (h : PieceOk n j) (hn2 : 2 ∣ n) (hj : j = 2 ^ s) (hn : n * j = 256) (asc : BitVec 1) (v : Rows) (x : FVec Ideal (sh2 256 128) .bf16) (hx : x = ofN 256 v) (hc) :
    piecesW (F := Ideal) n j h hn2 asc x hc = ofN 256 (stR s (fun _ => asc = 1#1) v) := by
  subst hx; exact piecesW_st n j s h hn2 hj hn asc v hc

theorem rollW_of (j s : ℕ) (jw : BitVec 32) (h : RollOk j) (hj : j = 2 ^ s) (hs : s < 8) (hw : jw = BitVec.ofNat 32 (2 ^ s)) (asc : BitVec 1) (v : Rows) (x : FVec Ideal (sh2 256 128) .bf16) (hx : x = ofN 256 v) :
    rollW (F := Ideal) j h jw asc (iota .tc S256x1 32 [0] iota_S256x1_d0_w32) x = ofN 256 (stR s (fun _ => asc = 1#1) v) := by
  subst hx hw; exact rollW_st j s h hj hs asc v

theorem mergeW_st (h : MergeOk) (asc : BitVec 1) (v : Rows) :
    mergeW (F := Ideal) h asc (iota .tc S256x1 32 [0] iota_S256x1_d0_w32) (ofN 256 v) = ofN 256 (downC (fun _ => asc = 1#1) 8 v) := by
  unfold mergeW
  exact rollW_of 1 0 _ h.r1 (by decide) (by decide) (by decide) asc _ _ <| rollW_of 2 1 _ h.r2 (by decide) (by decide) (by decide) asc _ _ <|
    rollW_of 4 2 _ h.r4 (by decide) (by decide) (by decide) asc _ _ <| rollW_of 8 3 _ h.r8 (by decide) (by decide) (by decide) asc _ _ <|
    piecesW_of 16 16 4 h.p16 _ (by decide) (by decide) asc _ _ (piecesW_of 8 32 5 h.p32 _ (by decide) (by decide) asc _ _
      (piecesW_of 4 64 6 h.p64 _ (by decide) (by decide) asc _ _ (piecesW_of 2 128 7 h.p128 _ (by decide) (by decide) asc _ _ rfl _) _) _) _

end Cert.KernelIdeal.BS
-- ==== Proof.Levels.lean ====
/- The local sort and the merges on a device's rows, over the extended reals: the stages of the network on every column. -/
module

public import proofs.«01_k».proof.Proof.Stages
public import proofs.«01_k».proof.Proof.Whole

@[expose] public section

noncomputable section

namespace Cert.KernelIdeal.BS

open Idealize.ShloMosaic
open Cert.KernelIdeal.Gen Cert.KernelIdeal.Net

/-! ## Rows counted from a block's first -/

theorem div_off (e f o r : ℕ) (hef : e ≤ f) (ho : 2 ^ e ∣ o) (hr : r < 2 ^ e) : (o + r) / 2 ^ f = o / 2 ^ f := by
  obtain ⟨k, rfl⟩ := ho
  obtain ⟨d, rfl⟩ : ∃ d, f = e + d := ⟨f - e, by omega⟩
  have hp : 0 < 2 ^ e := Nat.two_pow_pos e
  rw [Nat.pow_add, ← Nat.div_div_eq_div_mul, ← Nat.div_div_eq_div_mul, Nat.mul_add_div hp, Nat.div_eq_of_lt hr, Nat.add_zero, Nat.mul_div_cancel_left _ hp]

theorem bit_off (s o r : ℕ) (ho : 2 ^ (s + 1) ∣ o) : (o + r) / 2 ^ s % 2 = r / 2 ^ s % 2 := by
  obtain ⟨k, rfl⟩ := ho
  have hp : 0 < 2 ^ s := Nat.two_pow_pos s
  rw [Nat.pow_succ, Nat.mul_assoc, Nat.mul_add_div hp]
  omega

theorem par_off (s o r : ℕ) (ho : 2 ^ (s + 1) ∣ o) : par s (o + r) = o + par s r := by
  unfold par
  rw [bit_off s o r ho]
  by_cases hb : r / 2 ^ s % 2 = 0
  · rw [if_pos hb, if_pos hb]; omega
  · rw [if_neg hb, if_neg hb]
    have := (div_sub_pow s r hb).1
    omega

theorem stN_off (s o : ℕ) (ho : 2 ^ (s + 1) ∣ o) (up up' : ℕ → Prop) [DecidablePred up] [DecidablePred up'] (v : ℕ → EReal) (r : ℕ) (hu : up' r ↔ up (o + r)) :
    stN s up' (fun r => v (o + r)) r = stN s up v (o + r) := by
  unfold stN
  rw [bit_off s o r ho]
  by_cases hb : r / 2 ^ s % 2 = 0
  · rw [if_pos hb, if_pos hb, Nat.add_assoc]
    simp only [hu]
  · rw [if_neg hb, if_neg hb]
    have h1 := (div_sub_pow s r hb).1
    rw [show o + r - 2 ^ s = o + (r - 2 ^ s) by omega]
    simp only [hu]

/-- Where a stage's row stays in its part of the rows. -/
theorem par_div (s e r : ℕ) (hse : s < e) : par s r / 2 ^ e = r / 2 ^ e := by
  unfold par
  by_cases hb : r / 2 ^ s % 2 = 0
  · rw [if_pos hb]; exact (div_add_pow s r hb).2 e hse
  · rw [if_neg hb]; exact (div_sub_pow s r hb).2.2 e hse

theorem par_lt (s r : ℕ) (hs : s < 10) (hr : r < 1024) : par s r < 1024 := by
  have h := par_div s 10 r hs
  omega

/-! ## The words that decide the order -/

theorem v3_nat : ∀ c : Dev nD, (v3W c).toNat = 1024 * c.val := by decide +kernel

theorem levK_eq : ∀ l : Fin 10, levK l = BitVec.ofNat 32 (2 ^ (l.val + 1)) := by decide

theorem addi_nat (c : Dev nD) (x : BitVec 32) (o : ℕ) (hx : x.toNat = o) (ho : o < 1024) : (Scalar.addi (v3W c) x).toNat = 1024 * c.val + o := by
  have hc : c.val < 32 := c.isLt
  show (v3W c + x).toNat = _
  rw [BitVec.toNat_add, v3_nat, hx, Nat.mod_eq_of_lt]
  omega

theorem dvd_1024 (c s : ℕ) (hs : s ≤ 10) : 2 ^ s ∣ 1024 * c := Dvd.dvd.mul_right (pow_dvd_pow 2 hs : 2 ^ s ∣ 2 ^ 10) c

/-- The order of a block whose first row's number is a word. -/
theorem asc_block (c : Dev nD) (l : Fin 10) (x : BitVec 32) (o e r : ℕ) (hx : x.toNat = o) (ho : o < 1024) (he : 2 ^ e ∣ o) (hel : e ≤ l.val + 1) (hr : r < 2 ^ e) :
    Scalar.cmpi .eq (Scalar.andi (Scalar.addi (v3W c) x) (levK l)) 0#32 = 1#1 ↔ dirN l.val (1024 * c.val + (o + r)) := by
  have hl : l.val < 10 := l.isLt
  rw [levK_eq, cmp_clear _ _ (by omega), addi_nat c x o hx ho]
  unfold dirN
  rw [← Nat.add_assoc, div_off e (l.val + 1) (1024 * c.val + o) r hel (Dvd.dvd.add (dvd_1024 _ _ (by omega)) he) hr]

/-! ## The steps of the local sort -/

theorem small_fold (s : ℕ) (hs : s < 8) (up : ℕ → Prop) [DecidablePred up] (w : Fin (loopN 4#32).trips → FVec Ideal (sh2 256 128) .bf16 → FVec Ideal (sh2 256 128) .bf16)
    (P : Fin (loopN 4#32).trips → ℕ → Prop) [∀ t, DecidablePred (P t)] (hw : ∀ t v, w t (ofN 256 v) = ofN 256 (stR s (P t) v))
    (hP : ∀ t r, r < 256 → (P t r ↔ up (256 * t.val + r))) (a : Rows) (r l : ℕ) (hr : r < 1024) (hl : l < 128) :
    (List.finRange (loopN 4#32).trips).foldl (fun a t => upd (F := Ideal) a (rowS t) 256 (w t (blk a (rowS t) 256))) a r l = stR s up a r l := by
  have h256 : ∀ t : ℕ, 2 ^ (s + 1) ∣ 256 * t := fun t => Dvd.dvd.mul_right (pow_dvd_pow 2 (by omega) : 2 ^ (s + 1) ∣ 2 ^ 8) t
  refine fold_st s up (fun t a => upd (F := Ideal) a (rowS t) 256 (w t (blk a (rowS t) 256))) (fun r => r / 256) ?_ ?_ ?_ ?_ a r l hr hl
  · intro t a r l hr hl ht
    have ht' : r / 256 = t.val := ht
    rw [rowS_eq, upd, dif_pos ⟨by omega, hl⟩, blk_ofN, hw]
    show stN (α := EReal) s (P t) (fun r => a (256 * t.val + r) l) (r - 256 * t.val) = stN (α := EReal) s up (fun r => a r l) r
    rw [stN_off s (256 * t.val) (h256 _) up (P t) (fun r => a r l) _ (hP t _ (by omega)), show 256 * t.val + (r - 256 * t.val) = r by omega]
  · intro t a r l hr hl ht
    have ht' : r / 256 ≠ t.val := ht
    rw [rowS_eq, upd, dif_neg (fun hh => ht' (by omega))]
  · exact fun r hr => ⟨par_lt s r (by omega) hr, par_div s 8 r hs⟩
  · intro r hr
    have : (loopN 4#32).trips = 4 := by decide
    omega

theorem iv_nat : ∀ t : Fin (loopN 4#32).trips, (Scalar.muli (Scf.iv 0#32 1#32 t) 256#32).toNat = 256 * t.val := by decide +kernel

theorem smallB_st (c : Dev nD) (n j s : ℕ) (h : SmallOk n j) (hj : j = 2 ^ s) (hn : n * (2 * j) = 256) (hs : s < 8) (l : Fin 10) (hl7 : 7 ≤ l.val) (a : Rows) (r q : ℕ) (hr : r < 1024) (hq : q < 128) :
    smallBA (F := Ideal) n j h (levK l) (v3W c) a r q = stR s (fun r => dirN l.val (1024 * c.val + r)) a r q := by
  have hl : l.val < 10 := l.isLt
  refine small_fold s hs _ (fun t => smallW n j h _) (fun t _ => Scalar.cmpi .eq (Scalar.andi (Scalar.addi (v3W c) (Scalar.muli (Scf.iv 0#32 1#32 t) 256#32)) (levK l)) 0#32 = 1#1)
    (fun t v => ?_) (fun t r hr => ?_) a r q hr hq
  · exact smallW_st n j s h hj hn (fun _ => _ = 1#1) _ (fun f g i => by rw [sel_one _ _ Iff.rfl, ite_fun]) v
  · have ht : t.val < 4 := lt_of_lt_of_le t.isLt (by decide)
    exact asc_block c l _ (256 * t.val) 8 r (iv_nat t) (by omega) (Dvd.intro _ rfl) (by omega) hr

theorem selIota_st (n j : ℕ) (h : SmallOk n j) (e l : ℕ) (he : e ≤ 8) (hn : n ≤ 256) (hl : l < 10) (f g : FVec Ideal (sh3 n j 128) .bf16) (i : (sh3 n j 128).Idx) :
    selIota (F := Ideal) n j h (BitVec.ofNat 32 (2 ^ e)) (BitVec.ofNat 32 (2 ^ (l + 1))) f g i = if (2 ^ e * (i 0).val) / 2 ^ (l + 1) % 2 = 0 then f i else g i := by
  have h0 : (i 0).val < n := (i 0).isLt
  let m : IVec (sh3 n 1 1) 1 := cmpi .eq (andi (muli (iota .tc (sh3 n 1 1) 32 [0] h.iot)
    (broadcast (sh3 n 1 1) (BitVec.ofNat 32 (2 ^ e)))) (broadcast (sh3 n 1 1) (BitVec.ofNat 32 (2 ^ (l + 1))))) (broadcast (sh3 n 1 1) (0#32 : BitVec 32))
  have bc : broadcastTo (sh3 n j 128) (shapeCast (sh3 n 1 1) m h.same) h.bc i = m (fun | 0 => (⟨(i 0).val, h0⟩ : Fin n) | 1 => (0 : Fin 1) | 2 => (0 : Fin 1)) := by
    refine (shapeCast_apply m h.same _ _ rfl).trans (congrArg m ?_)
    funext b
    match b with
    | 0 =>
      by_cases h1 : n = 1
      · subst h1
        exact Subsingleton.elim (α := Fin 1) _ _
      · exact dif_neg (show (sh3 n 1 1).size 0 ≠ 1 from h1)
    | 1 => rfl
    | 2 => rfl
  have hc2 : ∀ k < 256, Scalar.cmpi .eq (Scalar.andi (Scalar.muli (BitVec.ofNat 32 (0 * n + k)) (BitVec.ofNat 32 (2 ^ e))) (BitVec.ofNat 32 (2 ^ (l + 1)))) 0#32 = 1#1
      ↔ (2 ^ e * k) / 2 ^ (l + 1) % 2 = 0 := fun k hk => by
    have hh := cmp_clear (Scalar.muli (BitVec.ofNat 32 (0 * n + k)) (BitVec.ofNat 32 (2 ^ e))) (l + 1) (by omega)
    have hp : 2 ^ e ≤ 256 := (Nat.pow_le_pow_right (by decide) he : 2 ^ e ≤ 2 ^ 8)
    have hm : k * 2 ^ e ≤ 256 * 256 := Nat.mul_le_mul (by omega) hp
    have hx : (Scalar.muli (BitVec.ofNat 32 (0 * n + k)) (BitVec.ofNat 32 (2 ^ e))).toNat = 2 ^ e * k := by
      show (BitVec.ofNat 32 (0 * n + k) * BitVec.ofNat 32 (2 ^ e)).toNat = _
      rw [BitVec.toNat_mul, BitVec.toNat_ofNat, BitVec.toNat_ofNat, Nat.zero_mul, Nat.zero_add, Nat.mod_eq_of_lt (show k < 2 ^ 32 by omega), Nat.mod_eq_of_lt (show 2 ^ e < 2 ^ 32 by omega),
        Nat.mod_eq_of_lt (by omega), Nat.mul_comm]
    rw [hh, hx]
  show Scalar.select (broadcastTo (sh3 n j 128) (shapeCast (sh3 n 1 1) m h.same) h.bc i) (f i) (g i) = _
  rw [bc]
  exact sel_one _ _ (hc2 (i 0).val (lt_of_lt_of_le h0 hn)) _ _

theorem smallA_st (c : Dev nD) (n j s : ℕ) (h : SmallOk n j) (hj : j = 2 ^ s) (hn : n * (2 * j) = 256) (hs : s < 8) (l : Fin 10) (hsl : s ≤ l.val) (hl7 : l.val < 7) (a : Rows) (r q : ℕ) (hr : r < 1024) (hq : q < 128) :
    smallAA (F := Ideal) n j h (BitVec.ofNat 32 (2 ^ (s + 1))) (levK l) a r q = stR s (fun r => dirN l.val (1024 * c.val + r)) a r q := by
  have hj0 : 0 < j := hj ▸ Nat.two_pow_pos s
  refine small_fold s hs _ (fun t => smallW n j h _) (fun t r => (2 ^ (s + 1) * (r / (2 * j))) / 2 ^ (l.val + 1) % 2 = 0)
    (fun t v => ?_) (fun t r hr => ?_) a r q hr hq
  · refine smallW_st n j s h hj hn (fun q => (2 ^ (s + 1) * q) / 2 ^ (l.val + 1) % 2 = 0) _ (fun f g i => ?_) v
    rw [levK_eq]
    exact selIota_st n j h (s + 1) l.val (by omega) (by rw [← hn]; exact Nat.le_mul_of_pos_right _ (by omega)) (by omega) f g i
  · unfold dirN
    have e2 : 2 * j = 2 ^ (s + 1) := by rw [hj, Nat.pow_succ, Nat.mul_comm]
    have hp : 0 < 2 ^ (s + 1) := Nat.two_pow_pos _
    have e3 : 2 ^ (s + 1) * (r / (2 * j)) / 2 ^ (l.val + 1) = r / 2 ^ (l.val + 1) := by
      rw [e2]
      have := div_off (s + 1) (l.val + 1) (2 ^ (s + 1) * (r / 2 ^ (s + 1))) (r % 2 ^ (s + 1)) (by omega) (Dvd.intro _ rfl) (Nat.mod_lt _ hp)
      rw [Nat.div_add_mod] at this
      exact this.symm
    rw [e3, ← Nat.add_assoc, bit_off (l.val + 1) _ r]
    exact Dvd.dvd.add (dvd_1024 _ _ (by omega)) (Dvd.dvd.mul_right (pow_dvd_pow 2 (by omega) : 2 ^ (l.val + 1 + 1) ∣ 2 ^ 8) _)

theorem bit_lo (s o x : ℕ) (ho : 2 ^ (s + 1) ∣ o) (hx : x < 2 ^ s) : (o + x) / 2 ^ s % 2 = 0 := by
  rw [bit_off s o x ho, Nat.div_eq_of_lt hx]

theorem bit_hi (s o x : ℕ) (ho : 2 ^ (s + 1) ∣ o) (hx : x < 2 ^ s) : (o + 2 ^ s + x) / 2 ^ s % 2 ≠ 0 := by
  rw [Nat.add_assoc, bit_off s o _ ho, Nat.add_div_left _ (Nat.two_pow_pos s), Nat.div_eq_of_lt hx]
  decide

theorem large_fold (c : Dev nD) (n m j2 cw jw : BitVec 32) (cc s : ℕ) (l : Fin 10) (hsl : s ≤ l.val) (o : Fin (loopN n).trips → ℕ) (ix : ℕ → ℕ)
    (ho : ∀ t : Fin (loopN n).trips, (baseL m j2 (Scf.iv 0#32 1#32 t)).toNat = o t ∧ o t < 1024 ∧ 2 ^ (s + 1) ∣ o t)
    (hA : ∀ t : Fin (loopN n).trips, o t ≤ rowA n m j2 cw t ∧ rowA n m j2 cw t + cc ≤ o t + 2 ^ s ∧ rowB n m j2 cw jw t = rowA n m j2 cw t + 2 ^ s)
    (hi : ∀ (t : Fin (loopN n).trips) r, r < 1024 → (ix r = t.val ↔ ((rowA n m j2 cw t ≤ r ∧ r < rowA n m j2 cw t + cc) ∨ (rowB n m j2 cw jw t ≤ r ∧ r < rowB n m j2 cw jw t + cc))))
    (hp : ∀ r < 1024, ix (par s r) = ix r) (hc : ∀ r < 1024, ix r < (loopN n).trips) (a : Rows) (r q : ℕ) (hr : r < 1024) (hq : q < 128) :
    largeA (F := Ideal) n m j2 cw jw cc (levK l) (v3W c) a r q = stR s (fun r => dirN l.val (1024 * c.val + r)) a r q := by
  have hl : l.val < 10 := l.isLt
  have P := fun (t : Fin (loopN n).trips) (a : Rows) (r q : ℕ) (hq : q < 128) => pairA_st s (rowA n m j2 cw t) (rowB n m j2 cw jw t) cc
    (Scalar.cmpi .eq (Scalar.andi (Scalar.addi (v3W c) (baseL m j2 (Scf.iv 0#32 1#32 t))) (levK l)) 0#32) (fun r => dirN l.val (1024 * c.val + r))
    (hA t).2.2 (by have := hA t; omega)
    (fun r h1 h2 => by
      obtain ⟨x, rfl⟩ : ∃ x, r = o t + x := ⟨r - o t, by have := hA t; omega⟩
      have hx : x < 2 ^ s := by have := hA t; omega
      exact ⟨bit_lo s (o t) x (ho t).2.2 hx, asc_block c l _ (o t) (s + 1) x (ho t).1 (ho t).2.1 (ho t).2.2 (by omega) (by rw [Nat.pow_succ]; omega)⟩)
    (fun r h1 h2 => by
      obtain ⟨x, rfl⟩ : ∃ x, r = o t + 2 ^ s + x := ⟨r - o t - 2 ^ s, by have := hA t; omega⟩
      have hx : x < 2 ^ s := by have := hA t; omega
      refine ⟨bit_hi s (o t) x (ho t).2.2 hx, ?_⟩
      rw [Nat.add_assoc]
      exact asc_block c l _ (o t) (s + 1) (2 ^ s + x) (ho t).1 (ho t).2.1 (ho t).2.2 (by omega) (by rw [Nat.pow_succ]; omega)) a r q hq
  exact fold_st s (fun r => dirN l.val (1024 * c.val + r)) (fun t a => pairA (F := Ideal) (rowA n m j2 cw t) (rowB n m j2 cw jw t) cc
    (Scalar.cmpi .eq (Scalar.andi (Scalar.addi (v3W c) (baseL m j2 (Scf.iv 0#32 1#32 t))) (levK l)) 0#32) a) ix
    (fun t a r q hr hq ht => (P t a r q hq).1 ((hi t r hr).mp ht))
    (fun t a r q hr hq ht => (P t a r q hq).2 (fun hh => ht ((hi t r hr).mpr hh)))
    (fun r hr => ⟨par_lt s r (by omega) hr, hp r hr⟩) hc a r q hr hq

/-- The steps with a distance from 16 to 256. -/
theorem large_st (c : Dev nD) (n j2 cw jw : BitVec 32) (s : ℕ) (l : Fin 10) (hs : s < 9) (hsl : s ≤ l.val)
    (ho : ∀ t : Fin (loopN n).trips, (baseL 1#32 j2 (Scf.iv 0#32 1#32 t)).toNat = 2 ^ (s + 1) * t.val)
    (hA : ∀ t : Fin (loopN n).trips, rowA n 1#32 j2 cw t = 2 ^ (s + 1) * t.val) (hB : ∀ t : Fin (loopN n).trips, rowB n 1#32 j2 cw jw t = 2 ^ (s + 1) * t.val + 2 ^ s)
    (hn : (loopN n).trips * 2 ^ (s + 1) = 1024) (a : Rows) (r q : ℕ) (hr : r < 1024) (hq : q < 128) :
    largeA (F := Ideal) n 1#32 j2 cw jw (2 ^ s) (levK l) (v3W c) a r q = stR s (fun r => dirN l.val (1024 * c.val + r)) a r q := by
  have hp : 0 < 2 ^ s := Nat.two_pow_pos s
  have h2 : 2 ^ (s + 1) = 2 ^ s + 2 ^ s := by rw [Nat.pow_succ]; omega
  have hlt : ∀ t : Fin (loopN n).trips, 2 ^ (s + 1) * t.val < 1024 := fun t => by
    have := Nat.mul_lt_mul_of_pos_right t.isLt (Nat.two_pow_pos (s + 1))
    rw [hn, Nat.mul_comm] at this
    exact this
  refine large_fold c n 1#32 j2 cw jw (2 ^ s) s l hsl (fun t => 2 ^ (s + 1) * t.val) (fun r => r / 2 ^ (s + 1)) (fun t => ⟨ho t, hlt t, Dvd.intro _ rfl⟩)
    (fun t => ⟨le_of_eq (hA t).symm, le_of_eq (by rw [hA t]), by rw [hA t, hB t]⟩) (fun t r hr => ?_) (fun r _ => par_div s (s + 1) r (by omega)) (fun r hr => ?_) a r q hr hq
  · rw [hA t, hB t]
    constructor
    · intro h
      have h' : r / 2 ^ (s + 1) = t.val := h
      have h1 := Nat.div_add_mod r (2 ^ (s + 1))
      have h3 := Nat.mod_lt r (Nat.two_pow_pos (s + 1))
      rw [h'] at h1
      omega
    · intro h
      show r / 2 ^ (s + 1) = t.val
      obtain ⟨x, rfl⟩ : ∃ x, r = 2 ^ (s + 1) * t.val + x := ⟨r - 2 ^ (s + 1) * t.val, by omega⟩
      rw [Nat.mul_add_div (Nat.two_pow_pos _), Nat.div_eq_of_lt (by omega), Nat.add_zero]
  · show r / 2 ^ (s + 1) < (loopN n).trips
    exact Nat.div_lt_of_lt_mul (by rw [Nat.mul_comm, hn]; exact hr)

theorem large512_st (c : Dev nD) (l : Fin 10) (hsl : 9 ≤ l.val) (a : Rows) (r q : ℕ) (hr : r < 1024) (hq : q < 128) :
    largeA (F := Ideal) 2#32 2#32 1024#32 256#32 512#32 256 (levK l) (v3W c) a r q = stR 9 (fun r => dirN l.val (1024 * c.val + r)) a r q := by
  have hA : ∀ t : Fin (loopN 2#32).trips, rowA 2#32 2#32 1024#32 256#32 t = 256 * t.val := by decide +kernel
  have hB : ∀ t : Fin (loopN 2#32).trips, rowB 2#32 2#32 1024#32 256#32 512#32 t = 256 * t.val + 512 := by decide +kernel
  have ht2 : ∀ t : Fin (loopN 2#32).trips, t.val < 2 := fun t => lt_of_lt_of_le t.isLt (by decide)
  refine large_fold c 2#32 2#32 1024#32 256#32 512#32 256 9 l hsl (fun _ => 0) (fun r => r / 256 % 2) (fun t => ⟨?_, by decide, ⟨0, rfl⟩⟩)
    (fun t => ?_) (fun t r hr => ?_) (fun r hr => ?_) (fun r hr => ?_) a r q hr hq
  · revert t; decide +kernel
  · have := ht2 t
    rw [hB, hA]
    norm_num
    omega
  · have := ht2 t
    rw [hB, hA]
    show r / 256 % 2 = t.val ↔ _
    omega
  · show par 9 r / 256 % 2 = r / 256 % 2
    unfold par
    norm_num
    split <;> omega
  · show r / 256 % 2 < (loopN 2#32).trips
    have : (loopN 2#32).trips = 2 := by decide
    omega

/-- One step of the local sort is one stage of the network. -/
theorem levelA_st (c : Dev nD) (l s : Fin 10) (hsl : s.val ≤ l.val) (a : Rows) (r q : ℕ) (hr : r < 1024) (hq : q < 128) :
    levelA (F := Ideal) (v3W c) l s a r q = stR s.val (fun r => dirN l.val (1024 * c.val + r)) a r q := by
  have small : ∀ (n j s : ℕ) (h : SmallOk n j) (j2 : BitVec 32), j = 2 ^ s → n * (2 * j) = 256 → s < 8 → s ≤ l.val → j2 = BitVec.ofNat 32 (2 ^ (s + 1)) →
      (bif l.val < 7 then smallAA (F := Ideal) n j h j2 (levK l) else smallBA n j h (levK l) (v3W c)) a r q = stR s (fun r => dirN l.val (1024 * c.val + r)) a r q := by
    intro n j s h j2 hj hn hs hsl hj2
    subst hj2
    by_cases h7 : l.val < 7
    · rw [decide_eq_true h7]
      exact smallA_st c n j s h hj hn hs l hsl h7 a r q hr hq
    · rw [decide_eq_false h7]
      exact smallB_st c n j s h hj hn hs l (by omega) a r q hr hq
  match s, hsl with
  | 0, hsl => exact small 128 1 0 _ _ (by decide) (by decide) (by decide) hsl (by decide)
  | 1, hsl => exact small 64 2 1 _ _ (by decide) (by decide) (by decide) hsl (by decide)
  | 2, hsl => exact small 32 4 2 _ _ (by decide) (by decide) (by decide) hsl (by decide)
  | 3, hsl => exact small 16 8 3 _ _ (by decide) (by decide) (by decide) hsl (by decide)
  | 4, hsl => exact large_st c _ _ _ _ 4 l (by decide) hsl (by decide +kernel) (by decide +kernel) (by decide +kernel) (by decide +kernel) a r q hr hq
  | 5, hsl => exact large_st c _ _ _ _ 5 l (by decide) hsl (by decide +kernel) (by decide +kernel) (by decide +kernel) (by decide +kernel) a r q hr hq
  | 6, hsl => exact large_st c _ _ _ _ 6 l (by decide) hsl (by decide +kernel) (by decide +kernel) (by decide +kernel) (by decide +kernel) a r q hr hq
  | 7, hsl => exact large_st c _ _ _ _ 7 l (by decide) hsl (by decide +kernel) (by decide +kernel) (by decide +kernel) (by decide +kernel) a r q hr hq
  | 8, hsl => exact large_st c _ _ _ _ 8 l (by decide) hsl (by decide +kernel) (by decide +kernel) (by decide +kernel) (by decide +kernel) a r q hr hq
  | 9, hsl => exact large512_st c l hsl a r q hr hq

/-! ## The merges -/

/-- The rows two hold alike. -/
def Same (a b : Rows) : Prop := ∀ r < 1024, ∀ q < 128, a r q = b r q

theorem stR_same (s : ℕ) (hs : s < 10) (up : ℕ → Prop) [DecidablePred up] {a b : Rows} (h : Same a b) : Same (stR s up a) (stR s up b) :=
  fun r hr q hq => stR_local s up up a b r q (h r hr q hq) (h _ (par_lt s r hs hr) q hq) Iff.rfl

theorem downC_local (up : ℕ → Prop) [DecidablePred up] (k e : ℕ) (hk : k ≤ e) (a b : Rows) (r q : ℕ) (h : ∀ r', r' / 2 ^ e = r / 2 ^ e → a r' q = b r' q) :
    downC up k a r q = downC up k b r q := by
  induction k generalizing a b r with
  | zero => exact h r rfl
  | succ k ih =>
    refine ih (by omega) _ _ r (fun r' hr' => stR_local k up up a b r' q (h r' hr') (h _ ((par_div k e r' (by omega)).trans hr')) Iff.rfl)

theorem downC_off (asc : BitVec 1) (k e o : ℕ) (hk : k ≤ e) (ho : 2 ^ e ∣ o) (a : Rows) :
    downC (fun _ => asc = 1#1) k (fun r q => a (o + r) q) = fun r q => downC (fun _ => asc = 1#1) k a (o + r) q := by
  induction k generalizing a with
  | zero => rfl
  | succ k ih =>
    refine (congrArg (downC _ k) ?_).trans (ih (by omega) _)
    funext r q
    exact stN_off k o (dvd_trans (pow_dvd_pow 2 hk) ho) (fun _ => asc = 1#1) (fun _ => asc = 1#1) (fun r => a r q) r Iff.rfl

theorem mergeA_st (K v2 : BitVec 32) (a : Rows) : Same (mergeA (F := Ideal) K v2 a) (downC (fun _ => ascW K v2 = 1#1) 10 a) := by
  have s9 : ∀ a : Rows, Same (pairA (F := Ideal) (256 * 1) (256 * 3) 256 (ascW K v2) (pairA (256 * 0) (256 * 2) 256 (ascW K v2) a)) (stR 9 (fun _ => ascW K v2 = 1#1) a) := fun a r hr q hq => by
    have P := fun (t : Fin 2) (a : Rows) (r q : ℕ) (hq : q < 128) => pairA_st 9 (256 * t.val) (256 * (t.val + 2)) 256 (ascW K v2) (fun _ => ascW K v2 = 1#1) (by norm_num; omega) (by decide)
      (fun r h1 h2 => ⟨by norm_num; omega, Iff.rfl⟩) (fun r h1 h2 => ⟨by norm_num; omega, Iff.rfl⟩) a r q hq
    exact fold_st 9 (fun _ => ascW K v2 = 1#1) (fun (t : Fin 2) a => pairA (F := Ideal) (256 * t.val) (256 * (t.val + 2)) 256 (ascW K v2) a) (fun r => r / 256 % 2)
      (fun t a r q hr hq ht => (P t a r q hq).1 (by have ht' : r / 256 % 2 = t.val := ht; omega))
      (fun t a r q hr hq ht => (P t a r q hq).2 (by have ht' : r / 256 % 2 ≠ t.val := ht; omega))
      (fun r hr => ⟨par_lt 9 r (by decide) hr, by show par 9 r / 256 % 2 = r / 256 % 2; unfold par; norm_num; split <;> omega⟩)
      (fun r _ => Nat.mod_lt _ (by decide)) a r q hr hq
  have s8 : ∀ a : Rows, Same (pairA (F := Ideal) (256 * 2) (256 * 3) 256 (ascW K v2) (pairA (256 * 0) (256 * 1) 256 (ascW K v2) a)) (stR 8 (fun _ => ascW K v2 = 1#1) a) := fun a r hr q hq => by
    have P := fun (t : Fin 2) (a : Rows) (r q : ℕ) (hq : q < 128) => pairA_st 8 (256 * (2 * t.val)) (256 * (2 * t.val + 1)) 256 (ascW K v2) (fun _ => ascW K v2 = 1#1) (by norm_num; omega) (by decide)
      (fun r h1 h2 => ⟨by norm_num; omega, Iff.rfl⟩) (fun r h1 h2 => ⟨by norm_num; omega, Iff.rfl⟩) a r q hq
    exact fold_st 8 (fun _ => ascW K v2 = 1#1) (fun (t : Fin 2) a => pairA (F := Ideal) (256 * (2 * t.val)) (256 * (2 * t.val + 1)) 256 (ascW K v2) a) (fun r => r / 512)
      (fun t a r q hr hq ht => (P t a r q hq).1 (by have ht' : r / 512 = t.val := ht; omega))
      (fun t a r q hr hq ht => (P t a r q hq).2 (by have ht' : r / 512 ≠ t.val := ht; omega))
      (fun r hr => ⟨par_lt 8 r (by decide) hr, par_div 8 9 r (by decide)⟩)
      (fun r hr => by show r / 512 < 2; omega) a r q hr hq
  have b8 : ∀ a : Rows, Same (mblkA (F := Ideal) (ascW K v2) 3 (mblkA (ascW K v2) 2 (mblkA (ascW K v2) 1 (mblkA (ascW K v2) 0 a)))) (downC (fun _ => ascW K v2 = 1#1) 8 a) := fun a r hr q hq => by
    refine fold_local (downC (fun _ => ascW K v2 = 1#1) 8) (fun (t : Fin 4) a => mblkA (F := Ideal) (ascW K v2) t.val a) (fun r => r / 256) ?_ ?_ ?_ ?_ a r q hr hq
    · intro t a r q hr hq ht
      have ht' : r / 256 = t.val := ht
      unfold mblkA
      rw [upd, dif_pos ⟨by omega, hq⟩, blk_ofN, mergeW_st]
      show downC (fun _ => ascW K v2 = 1#1) 8 (fun r q => a (256 * t.val + r) q) (r - 256 * t.val) q = _
      rw [downC_off (ascW K v2) 8 8 (256 * t.val) (le_refl _) (Dvd.intro _ rfl) a]
      show downC _ 8 a (256 * t.val + (r - 256 * t.val)) q = _
      rw [show 256 * t.val + (r - 256 * t.val) = r by omega]
    · intro t a r q hr hq ht
      have ht' : r / 256 ≠ t.val := ht
      unfold mblkA
      rw [upd, dif_neg (fun hh => ht' (by omega))]
    · intro a b r q hr hq h
      exact downC_local _ 8 8 (le_refl _) a b r q (fun r' hr' => h r' (by have : r' / 256 = r / 256 := hr'; omega) hr')
    · intro r hr
      show r / 256 < 4
      omega
  have dsame : ∀ {a b : Rows}, Same a b → Same (downC (fun _ => ascW K v2 = 1#1) 8 a) (downC (fun _ => ascW K v2 = 1#1) 8 b) := fun h r hr q hq =>
    downC_local _ 8 10 (by decide) _ _ r q (fun r' hr' => h r' (by have : r' / 1024 = r / 1024 := hr'; omega) q hq)
  intro r hr q hq
  refine (b8 _ r hr q hq).trans (dsame (fun r hr q hq => (s8 _ r hr q hq).trans (stR_same 8 (by decide) _ (s9 a) r hr q hq)) r hr q hq)

end Cert.KernelIdeal.BS
-- ==== Proof.Columns.lean ====
/- The devices' rows as one array's, over the extended reals: all the operations together are the stages of the whole sort. -/
module

public import proofs.«01_k».proof.Proof.Levels

@[expose] public section

noncomputable section

namespace Cert.KernelIdeal.BS

open Idealize.ShloMosaic
open Cert.KernelIdeal.Gen Cert.KernelIdeal.Net

/-- Column `q` of the devices' rows, one device's after another's. -/
def gl (a : Dev nD → Rows) (q i : ℕ) : EReal := a (⟨i / 1024 % 32, Nat.mod_lt _ (by decide)⟩ : Fin 32) (i % 1024) q

theorem gl_at (a : Dev nD → Rows) (q : ℕ) (c : Dev nD) (r : ℕ) (hr : r < 1024) : gl a q (1024 * c.val + r) = a c r q := by
  have hc : c.val < 32 := c.isLt
  have h1 : (⟨(1024 * c.val + r) / 1024 % 32, Nat.mod_lt _ (by decide)⟩ : Fin 32) = c := Fin.ext (by show (1024 * c.val + r) / 1024 % 32 = c.val; omega)
  have h2 : (1024 * c.val + r) % 1024 = r := by omega
  unfold gl
  rw [h2]
  exact congrArg (fun d => a d r q) h1

theorem place (i : ℕ) (hi : i < 2 ^ 15) : ∃ c : Dev nD, ∃ r < 1024, i = 1024 * c.val + r :=
  ⟨(⟨i / 1024, by omega⟩ : Fin 32), i % 1024, Nat.mod_lt _ (by decide), (Nat.div_add_mod i 1024).symm⟩

/-- A stage inside every device. -/
theorem gl_stR (l s q : ℕ) (hs : s < 10) (a b : Dev nD → Rows) (h : ∀ c, ∀ r < 1024, b c r q = stR s (fun r => dirN l (1024 * c.val + r)) (a c) r q) (i : ℕ) (hi : i < 2 ^ 15) :
    gl b q i = stN s (dirN l) (gl a q) i := by
  obtain ⟨c, r, hr, rfl⟩ := place i hi
  rw [gl_at b q c r hr, h c r hr, ← stN_off s (1024 * c.val) (dvd_1024 _ _ (by omega)) (dirN l) (fun r => dirN l (1024 * c.val + r)) (gl a q) r Iff.rfl]
  exact stN_local s _ _ _ _ r (gl_at a q c r hr).symm (gl_at a q c _ (par_lt s r hs hr)).symm Iff.rfl

/-- The local sorts. -/
theorem gl_levels (q : ℕ) (hq : q < 128) (L : List (Fin 10 × Fin 10)) (hL : ∀ ls ∈ L, ls.2.val ≤ ls.1.val) (a : Dev nD → Rows) (i : ℕ) (hi : i < 2 ^ 15) :
    gl (fun c => L.foldl (fun a ls => levelA (F := Ideal) (v3W c) ls.1 ls.2 a) (a c)) q i = netN (L.map fun ls => (ls.1.val, ls.2.val)) (gl a q) i := by
  induction L generalizing a with
  | nil => rfl
  | cons x L ih =>
    refine (ih (fun ls h => hL ls (List.mem_cons_of_mem _ h)) (fun c => levelA (F := Ideal) (v3W c) x.1 x.2 (a c))).trans ?_
    refine netN_congr (p := 15) _ (fun ls h => ?_) _ _ (fun j hj => gl_stR x.1.val x.2.val q x.2.isLt a _
      (fun c r hr => levelA_st c x.1 x.2 (hL x List.mem_cons_self) (a c) r q hr hq) j hj) i hi
    obtain ⟨y, _, rfl⟩ := List.mem_map.mp h
    have : y.2.val < 10 := y.2.isLt
    show y.2.val < 15
    omega

theorem v2_nat : ∀ c : Dev nD, (v2W c).toNat = c.val := by decide +kernel
theorem kW_eq : ∀ K : Fin 5, kW K = BitVec.ofNat 32 (2 ^ (K.val + 1)) := by decide
theorem dW_eq : ∀ d : Fin 5, dW d = BitVec.ofNat 32 (2 ^ d.val) := by decide
theorem peer_val : ∀ (d : Fin 5) (c : Dev nD), (peer d c).val = if c.val / 2 ^ d.val % 2 = 0 then c.val + 2 ^ d.val else c.val - 2 ^ d.val := by decide +kernel

theorem asc_dev (K : Fin 5) (c : Dev nD) : ascW (kW K) (v2W c) = 1#1 ↔ c.val / 2 ^ (K.val + 1) % 2 = 0 := by
  unfold ascW
  rw [kW_eq, cmp_clear _ _ (by omega), v2_nat]

theorem dev_div (c r e : ℕ) (hr : r < 1024) : (1024 * c + r) / 2 ^ (10 + e) = c / 2 ^ e := by
  rw [Nat.pow_add, ← Nat.div_div_eq_div_mul, show (1024 * c + r) / 2 ^ 10 = c by norm_num; omega]

theorem dir_dev (K : Fin 5) (c : Dev nD) (r : ℕ) (hr : r < 1024) : dirN (10 + K.val) (1024 * c.val + r) ↔ ascW (kW K) (v2W c) = 1#1 := by
  rw [asc_dev]
  unfold dirN
  rw [Nat.add_assoc, dev_div _ _ _ hr]

/-- An exchange between devices. -/
theorem gl_ex (K d : Fin 5) (q : ℕ) (a : Dev nD → Rows) (i : ℕ) (hi : i < 2 ^ 15) :
    gl (fun c => exA (F := Ideal) (kW K) (dW d) (v2W c) (a c) (a (peer d c))) q i = stN (10 + d.val) (dirN (10 + K.val)) (gl a q) i := by
  obtain ⟨c, r, hr, rfl⟩ := place i hi
  rw [gl_at _ q c r hr]
  have hm : mineW (kW K) (dW d) (v2W c) = 1#1 ↔ (dirN (10 + K.val) (1024 * c.val + r) ↔ c.val / 2 ^ d.val % 2 = 0) := by
    unfold mineW
    rw [xor_one, dir_dev K c r hr]
    refine iff_congr Iff.rfl ?_
    rw [dW_eq, cmp_clear _ _ (by omega), v2_nat]
  have e10 : 2 ^ (10 + d.val) = 1024 * 2 ^ d.val := by rw [Nat.pow_add]
  show Scalar.select (mineW (kW K) (dW d) (v2W c)) (min (a c r q) (a (peer d c) r q)) (max (a c r q) (a (peer d c) r q)) = _
  rw [sel_one _ _ hm]
  unfold stN
  rw [dev_div _ _ _ hr, gl_at a q c r hr]
  by_cases hb : c.val / 2 ^ d.val % 2 = 0
  · have hp := peer_val d c
    rw [if_pos hb] at hp
    rw [if_pos hb, show 1024 * c.val + r + 2 ^ (10 + d.val) = 1024 * (peer d c).val + r by rw [hp, e10]; omega, gl_at a q _ r hr]
    by_cases hd : dirN (10 + K.val) (1024 * c.val + r)
    · rw [if_pos hd, if_pos ⟨fun _ => hb, fun _ => hd⟩]
    · rw [if_neg hd, if_neg (fun h => hd (h.mpr hb))]
  · have hp := peer_val d c
    have hle := (div_sub_pow d.val c.val hb).1
    rw [if_neg hb] at hp
    rw [if_neg hb, show 1024 * c.val + r - 2 ^ (10 + d.val) = 1024 * (peer d c).val + r by rw [hp, e10, Nat.mul_sub]; have := Nat.mul_le_mul_left 1024 hle; omega, gl_at a q _ r hr]
    by_cases hd : dirN (10 + K.val) (1024 * c.val + r)
    · rw [if_pos hd, if_neg (fun h => hb (h.mp hd))]
      exact max_comm _ _
    · rw [if_neg hd, if_pos ⟨fun h => absurd h hd, fun h => absurd h hb⟩]
      exact min_comm _ _

theorem gl_down (K : Fin 5) (q k : ℕ) (hk : k ≤ 10) (a : Dev nD → Rows) (i : ℕ) (hi : i < 2 ^ 15) :
    gl (fun c => downC (fun _ => ascW (kW K) (v2W c) = 1#1) k (a c)) q i = netN ((List.range k).reverse.map fun s => (10 + K.val, s)) (gl a q) i := by
  induction k generalizing a with
  | zero => rfl
  | succ k ih =>
    rw [List.range_succ, List.reverse_append]
    refine (ih (by omega) (fun c => stR k (fun _ => ascW (kW K) (v2W c) = 1#1) (a c))).trans ?_
    refine netN_congr (p := 15) _ (fun ls h => ?_) _ _ (fun j hj => gl_stR (10 + K.val) k q (by omega) a _
      (fun c r hr => stR_local k _ _ _ _ r q rfl rfl (dir_dev K c r hr).symm) j hj) i hi
    obtain ⟨y, hy, rfl⟩ := List.mem_map.mp h
    have := List.mem_range.mp (List.mem_reverse.mp hy)
    show y < 15
    omega

/-- The merges inside the devices. -/
theorem gl_merge (K : Fin 5) (q : ℕ) (hq : q < 128) (a : Dev nD → Rows) (i : ℕ) (hi : i < 2 ^ 15) :
    gl (fun c => mergeA (F := Ideal) (kW K) (v2W c) (a c)) q i = netN ((List.range 10).reverse.map fun s => (10 + K.val, s)) (gl a q) i := by
  refine Eq.trans ?_ (gl_down K q 10 (le_refl _) a i hi)
  obtain ⟨c, r, hr, rfl⟩ := place i hi
  rw [gl_at _ q c r hr, gl_at _ q c r hr]
  exact mergeA_st (kW K) (v2W c) (a c) r hr q hq

/-- The stages of an operation. -/
def opLs : Op → List (ℕ × ℕ)
  | .ex _ K d => [(10 + K.val, 10 + d.val)]
  | .loc K => (List.range 10).reverse.map fun s => (10 + K.val, s)

/-- The stages up to an operation. -/
def lsTo (k : ℕ) : List (ℕ × ℕ) := (levels.map fun ls => (ls.1.val, ls.2.val)) ++ (ops.take k).flatMap opLs

theorem lsTo_all : lsTo 20 = allLs 15 := by decide +kernel

theorem opLs_lt (o : Op) : ∀ ls ∈ opLs o, ls.2 < 15 := by
  cases o with
  | ex t K d =>
    intro ls h
    rcases List.mem_singleton.mp h with rfl
    show 10 + d.val < 15
    omega
  | loc K =>
    intro ls h
    obtain ⟨y, hy, rfl⟩ := List.mem_map.mp h
    have := List.mem_range.mp (List.mem_reverse.mp hy)
    show y < 15
    omega

/-- Every column before an operation: the stages so far of the operand's column. -/
theorem gl_rowsAt (X : Dev nD → S1024x256.Idx → Elt Ideal .f32) (g : Fin 2) (q : ℕ) (hq : q < 128) (k : ℕ) (i : ℕ) (hi : i < 2 ^ 15) :
    gl (rowsAt X g k) q i = netN (lsTo k) (gl (fun c => inG g (X c)) q) i := by
  induction k generalizing i with
  | zero =>
    have h0 : lsTo 0 = levels.map fun ls => (ls.1.val, ls.2.val) := by unfold lsTo; rw [List.take_zero, List.flatMap_nil, List.append_nil]
    rw [h0]
    exact gl_levels q hq levels (by decide) (fun c => inG g (X c)) i hi
  | succ k ih =>
    rcases ho : ops[k]? with _ | o
    · have h1 : lsTo (k + 1) = lsTo k := by unfold lsTo; rw [List.take_succ, ho]; simp
      rw [h1, ← ih i hi]
      have e : rowsAt X g (k + 1) = rowsAt X g k := by funext c; show (match ops[k]? with | some (.ex _ K d) => _ | some (.loc K) => _ | none => _) = _; rw [ho]
      rw [e]
    · have h1 : lsTo (k + 1) = lsTo k ++ opLs o := by unfold lsTo; rw [List.take_succ, ho, List.flatMap_append, ← List.append_assoc]; simp
      rw [h1, netN_append]
      have step : gl (rowsAt X g (k + 1)) q i = netN (opLs o) (gl (rowsAt X g k) q) i := by
        cases o with
        | ex t K d =>
          have e : rowsAt X g (k + 1) = fun c => exA (kW K) (dW d) (v2W c) (rowsAt X g k c) (rowsAt X g k (peer d c)) := by
            funext c; show (match ops[k]? with | some (.ex _ K d) => _ | some (.loc K) => _ | none => _) = _; rw [ho]
          rw [e]
          exact gl_ex K d q (rowsAt X g k) i hi
        | loc K =>
          have e : rowsAt X g (k + 1) = fun c => mergeA (kW K) (v2W c) (rowsAt X g k c) := by
            funext c; show (match ops[k]? with | some (.ex _ K d) => _ | some (.loc K) => _ | none => _) = _; rw [ho]
          rw [e]
          exact gl_merge K q hq (rowsAt X g k) i hi
      rw [step]
      exact netN_congr (p := 15) _ (opLs_lt o) _ _ (fun j hj => ih j hj) i hi

end Cert.KernelIdeal.BS
-- ==== Proof.Ref.lean ====
/- The reference's sort of a column, and the network's: the same rows. -/
module

public import proofs.«01_k».proof.ReferenceIdeal
public import proofs.«01_k».proof.Proof.Net
public import Idealize.ShloMosaic.Lib.SortFacts
public import Idealize.ShloMosaic.PureOps.Ideal

@[expose] public section

noncomputable section

namespace Cert.KernelIdeal.Net

open Idealize.ShloMosaic

/-- Two ascending rearrangements of the same values are the same. -/
theorem mono_unique {α : Type*} [LinearOrder α] {n : ℕ} (g u w : Fin n → α) (σ : Equiv.Perm (Fin n)) (τ : Fin n → Fin n) (hτ : Function.Bijective τ) (hu : ∀ i, u i = g (σ i)) (hw : ∀ i, w i = g (τ i))
    (mu : Monotone u) (mw : Monotone w) : u = w := by
  have p1 : (List.ofFn u).Perm (List.ofFn g) := by
    rw [show u = g ∘ σ from funext hu]; exact Equiv.Perm.ofFn_comp_perm σ g
  have p2 : (List.ofFn w).Perm (List.ofFn g) := by
    rw [show w = g ∘ τ from funext hw]; exact Equiv.Perm.ofFn_comp_perm (Equiv.ofBijective τ hτ) g
  have s1 : (List.ofFn u).Pairwise (· ≤ ·) := by
    rw [List.pairwise_ofFn]; exact fun i j hij => mu (le_of_lt hij)
  have s2 : (List.ofFn w).Pairwise (· ≤ ·) := by
    rw [List.pairwise_ofFn]; exact fun i j hij => mw (le_of_lt hij)
  exact List.ofFn_injective (List.Perm.eq_of_pairwise (le := (· ≤ ·)) (fun a b _ _ q1 q2 => le_antisymm q1 q2) s1 s2 (p1.trans p2.symm))

/-- The reference's comparison of two values: the earlier is the smaller. -/
theorem cmp_ref (x y : Ideal .f32) : Cert.ReferenceIdeal.comparator_f32_d0 (F := Ideal) x y = BitVec.ofBool (decide ((x : EReal) < y)) := by
  have hz : ∀ z : Ideal .f32, Scalar.select (FloatOps.cmpf .une z z) (FloatOps.ofBits .f32 0x7FC00000#32)
      (Scalar.select (FloatOps.cmpf .oeq z (FloatOps.ofBits .f32 0x00000000#32)) (FloatOps.ofBits .f32 0x00000000#32) z) = z := fun z => by
    have h1 : FloatOps.cmpf .une z z = 0#1 := by
      show BitVec.ofBool (decide (z ≠ z)) = 0#1
      simp
    have h2 : ∀ w : Ideal .f32, Scalar.select (FloatOps.cmpf .oeq z w) w z = z := fun w => by
      show (if BitVec.ofBool (decide (z = w)) = 1 then w else z) = z
      by_cases h : z = w
      · rw [if_pos (by rw [decide_eq_true h]; rfl), h]
      · rw [if_neg (by rw [decide_eq_false h]; decide)]
    rw [h1, h2]
    rfl
  show FloatOps.cmpfTotal .lt (Scalar.select _ _ _) (Scalar.select _ _ _) = _
  rw [hz, hz]
  rfl

/-- The reference's sort, at a place: the network's row. -/
theorem sort_ref (x : Cert.ReferenceIdeal.S32768x256.Idx → Ideal .f32) (f : ℕ → Ideal .f32) (j : Cert.ReferenceIdeal.S32768x256.Idx)
    (hf : ∀ k : Fin 32768, f k.val = x (j.along 0 k)) :
    Host.sort Cert.ReferenceIdeal.S32768x256 0 Cert.ReferenceIdeal.comparator_f32_d0 x j = netN (α := EReal) (allLs 15) f (j 0).val := by
  let g : Fin 32768 → EReal := fun k => x (j.along 0 k)
  let B : Fin 32768 → Fin 32768 → Bool := fun k k' => Cert.ReferenceIdeal.comparator_f32_d0 (F := Ideal) (x (j.along 0 k)) (x (j.along 0 k')) == 1#1
  have hB : ∀ a b, B a b = decide (g a < g b) := fun a b => by
    show (Cert.ReferenceIdeal.comparator_f32_d0 (F := Ideal) (x (j.along 0 a)) (x (j.along 0 b)) == 1#1) = _
    rw [cmp_ref]
    show (BitVec.ofBool (decide (g a < g b)) == 1#1) = decide (g a < g b)
    generalize decide (g a < g b) = q
    cases q <;> rfl
  obtain ⟨hm, σ, hσ⟩ := net_sorts_of (α := EReal) (n := 32768) 15 (by norm_num) f
  have hτ : Function.Bijective (sortedFrom B) := ⟨sortedFrom_injective B, sortedFrom_surjective B⟩
  have key := mono_unique g (fun i : Fin 32768 => netN (α := EReal) (allLs 15) f i.val) (fun i => g (sortedFrom B i)) σ (sortedFrom B) hτ
    (fun i => (hσ i).trans (hf (σ i))) (fun _ => rfl) hm (fun a b hab => by
      rcases eq_or_lt_of_le hab with rfl | hlt
      · exact le_refl _
      · have := sortedFrom_noInversion B B
          (fun a b h => by rw [hB] at h ⊢; exact decide_eq_false (not_lt.mpr (le_of_lt (of_decide_eq_true h))))
          (fun a b h => h)
          (fun a b c h1 h2 => by
            rw [hB] at h1 h2 ⊢
            exact decide_eq_false (not_lt.mpr (le_trans (not_lt.mp (of_decide_eq_false h2)) (not_lt.mp (of_decide_eq_false h1))))) a b hlt
        rw [hB] at this
        exact not_lt.mp (of_decide_eq_false this))
  have hs : Host.sort Cert.ReferenceIdeal.S32768x256 0 Cert.ReferenceIdeal.comparator_f32_d0 x j = g (sortedFrom B (j 0)) := by
    unfold Host.sort
    rw [dif_pos (by decide)]
    rfl
  rw [hs]
  exact (congrFun key (j 0)).symm

end Cert.KernelIdeal.Net
-- ==== Proof.Value.lean ====
/- The value: over the extended reals each device ends with its block of the reference's sorted array. -/
module

public import proofs.«01_k».proof.Proof.Columns
public import proofs.«01_k».proof.Proof.Ref
public import Idealize.ShloMosaic.Lib.Layout

@[expose] public section

noncomputable section

namespace Cert.KernelIdeal.BS

open Idealize.ShloMosaic
open Cert.KernelIdeal.Gen Cert.KernelIdeal.Net

/-- Device `c`'s result is block `c` of the whole array sorted column by column. -/
theorem outF_sort (x : Cert.ReferenceIdeal.S32768x256.Idx → Elt Ideal .f32) (X : Dev nD → S1024x256.Idx → Elt Ideal .f32)
    (hX : ∀ c : Dev nD, X c = Layout.block ⟨2, ![1024, 256]⟩ ⟨2, ![32768, 256]⟩ 0 32 c x) (c : Dev nD) :
    outF X c = Layout.block ⟨2, ![1024, 256]⟩ ⟨2, ![32768, 256]⟩ 0 32 c (Host.sort Cert.ReferenceIdeal.S32768x256 0 (Cert.ReferenceIdeal.comparator_f32_d0 (F := Ideal)) x) := by
  funext i
  have hc : c.val < 32 := c.isLt
  have h0 : (i 0).val < 1024 := (i 0).isLt
  have h1 : (i 1).val < 256 := (i 1).isLt
  have ht : Layout.Tiles ⟨2, ![1024, 256]⟩ ⟨2, ![32768, 256]⟩ 0 32 := by decide
  let g : Fin 2 := ⟨(i 1).val / 128, by omega⟩
  have hq : (i 1).val % 128 < 128 := Nat.mod_lt _ (by decide)
  have e1 : outF X c i = gl (rowsAt X g 20) ((i 1).val % 128) (1024 * c.val + (i 0).val) := (gl_at (rowsAt X g 20) _ c _ h0).symm
  have e2 := gl_rowsAt X g ((i 1).val % 128) hq 20 (1024 * c.val + (i 0).val) (by omega)
  rw [lsTo_all] at e2
  have e3 := sort_ref x (gl (fun c => inG g (X c)) ((i 1).val % 128)) (ht.idx c i) (fun k => by
    have hk : k.val < 32768 := k.isLt
    show X (⟨k.val / 1024 % 32, Nat.mod_lt _ (by decide)⟩ : Fin 32) _ = _
    rw [hX, Layout.block_apply]
    refine congrArg x (funext fun b => Fin.ext ?_)
    match b with
    | 0 =>
      show k.val / 1024 % 32 * 1024 + k.val % 1024 % 1024 = k.val
      omega
    | 1 =>
      show (128 * ((i 1).val / 128) + (i 1).val % 128 % 128) % 256 = (i 1).val
      omega)
  have e4 : (ht.idx c i 0).val = 1024 * c.val + (i 0).val := by
    show c.val * 1024 + (i 0).val = _
    omega
  rw [e4] at e3
  exact (e1.trans e2).trans e3.symm

end Cert.KernelIdeal.BS
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.RunMain
public import proofs.«01_k».proof.Proof.Value
public import Idealize.ShloMosaic.Adequacy
public import Idealize.ShloMosaic.Init

@[expose] public section

noncomputable section

namespace Cert.Proof

open Idealize.ShloMosaic Idealize.SL.Sem

section Same

variable (F : FTy → Type) [FloatOps F]

/-- The two programs' bodies are one text. -/
theorem body_same : @Cert.Kernel.cc0_body F _ _ = @Cert.KernelIdeal.cc0_body F _ _ := rfl

/-- So are their body tables. -/
theorem table_same : @Cert.Kernel.defs₀ F _ _ = @Cert.KernelIdeal.defs₀ F _ _ := by
  refine congrArg Defs.onTc (funext fun l => ?_)
  match l with
  | ⟨0, _⟩ =>
    funext ⟨t, s⟩
    have h := body_same F
    show @Cert.Kernel.cc0_body F _ _ _ _ _ _ _ _ _ _ _ _ _ = @Cert.KernelIdeal.cc0_body F _ _ _ _ _ _ _ _ _ _ _ _ _
    rw [h]
  | ⟨_ + 1, h⟩ => exact absurd h (Nat.not_lt.2 (Nat.le_add_left _ _))

theorem defs_same : @Cert.Kernel.defs F _ _ = @Cert.KernelIdeal.defs F _ _ := congrArg (Pipeline.defs _) (table_same F)

end Same

/-- The kernel's frame: its program has the same text as the idealized one, whose run is at any float values. -/
theorem frame_kernel : Cert.quiescent_Kernel := by
  intro m ρ _
  rw [defs_same Bits]
  exact (θ_run Cert.KernelIdeal.defs _ _).mono (fun _ h => ⟨fun c => (h.1 c).1, h.2⟩) (Cert.KernelIdeal.BS.run_out (F := Bits) m ρ)

/-- The idealized kernel's frame. -/
theorem frame_ideal : Cert.quiescent_KernelIdeal := fun m ρ _ =>
  (θ_run Cert.KernelIdeal.defs _ _).mono (fun _ h => ⟨fun c => (h.1 c).1, h.2⟩) (Cert.KernelIdeal.BS.run_out (F := Ideal) m ρ)

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: the devices' results together are the reference's, and no run changes an operand. -/
theorem algebraic : Cert.algebraic_KernelIdeal_ReferenceIdeal := fun m ρ m' ρ' _ hX =>
  ⟨Host.sort Cert.ReferenceIdeal.S32768x256 0 (Cert.ReferenceIdeal.comparator_f32_d0 (F := Ideal)) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.KernelIdeal.BS.outF_sort _ _ hX c), (h.1 c).1⟩) (Cert.KernelIdeal.BS.run_out (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
